-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_tensor_div" .f32 0x39C30C31#32 ((1 / 2688 : ℝ) : EReal)
  ∧ IdealRules.named_const.Statement Cert.KernelIdeal.κ "inv_block_div" .f32 0x3B124925#32 ((1 / 448 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x1 : Shape := ⟨2, ![1, 1]⟩
abbrev S18432x7168 : Shape := ⟨2, ![18432, 7168]⟩
abbrev S1152x512 : Shape := ⟨2, ![1152, 512]⟩
abbrev S128x7168 : Shape := ⟨2, ![128, 7168]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S1x1 .f32) (main_arg1 : FVec F S1x1 .f32) (main_arg2 : FVec F S18432x7168 .bf16) (main_arg3 : FVec F S1152x512 .f32) (main_arg4 : FVec F S128x7168 .bf16) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .oge main_arg0 main_v0
  main_v1
-- ==== Kernel.lean ====
abbrev S1x1 : Shape := ⟨2, ![1, 1]⟩
abbrev S18432x7168 : Shape := ⟨2, ![18432, 7168]⟩
abbrev S1152x512 : Shape := ⟨2, ![1152, 512]⟩
abbrev S128x7168 : Shape := ⟨2, ![128, 7168]⟩
abbrev S128x18432 : Shape := ⟨2, ![128, 18432]⟩
abbrev S18432x3584 : Shape := ⟨2, ![18432, 3584]⟩
abbrev S7168x9216 : Shape := ⟨2, ![7168, 9216]⟩
abbrev S1152x448 : Shape := ⟨2, ![1152, 448]⟩
abbrev S256x7168 : Shape := ⟨2, ![256, 7168]⟩
abbrev S128x256 : Shape := ⟨2, ![128, 256]⟩
abbrev S256x3584 : Shape := ⟨2, ![256, 3584]⟩
abbrev S7168x128 : Shape := ⟨2, ![7168, 128]⟩
abbrev S16x7168 : Shape := ⟨2, ![16, 7168]⟩
abbrev S16x512 : Shape := ⟨2, ![16, 512]⟩
abbrev S16x128 : Shape := ⟨2, ![16, 128]⟩
abbrev S16x128x1 : Shape := ⟨3, ![16, 128, 1]⟩
abbrev S1x512 : Shape := ⟨2, ![1, 512]⟩
abbrev S256x512 : Shape := ⟨2, ![256, 512]⟩
abbrev S128x2x512 : Shape := ⟨3, ![128, 2, 512]⟩
abbrev S128x1x512 : Shape := ⟨3, ![128, 1, 512]⟩
abbrev S128x512 : Shape := ⟨2, ![128, 512]⟩
abbrev S512x128 : Shape := ⟨2, ![512, 128]⟩
abbrev S128x128 : Shape := ⟨2, ![128, 128]⟩
abbrev S256x128 : Shape := ⟨2, ![256, 128]⟩
abbrev S128x1x256 : Shape := ⟨3, ![128, 1, 256]⟩
abbrev S128x2x256 : Shape := ⟨3, ![128, 2, 256]⟩
abbrev S256x256 : Shape := ⟨2, ![256, 256]⟩

abbrev nBuf : Space → Nat
  | .hbm => 10
  | .vmem => 15
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S18432x7168, .bf16⟩
  | .hbm, ⟨3, _⟩ => ⟨S1152x512, .f32⟩
  | .hbm, ⟨4, _⟩ => ⟨S128x7168, .bf16⟩
  | .hbm, ⟨5, _⟩ => ⟨S128x18432, .bf16⟩
  | .hbm, ⟨6, _⟩ => ⟨S18432x3584, .i8⟩
  | .hbm, ⟨7, _⟩ => ⟨S7168x9216, .i8⟩
  | .hbm, ⟨8, _⟩ => ⟨S1152x448, .fp8e4m3⟩
  | .hbm, ⟨9, _⟩ => ⟨S1x1, .f32⟩
  | .local _ .vmem, ⟨0, _⟩ => ⟨S256x7168, .bf16⟩
  | .local _ .vmem, ⟨1, _⟩ => ⟨S256x7168, .bf16⟩
  | .local _ .vmem, ⟨2, _⟩ => ⟨S1152x512, .f32⟩
  | .local _ .vmem, ⟨3, _⟩ => ⟨S128x7168, .bf16⟩
  | .local _ .vmem, ⟨4, _⟩ => ⟨S128x256, .bf16⟩
  | .local _ .vmem, ⟨5, _⟩ => ⟨S128x256, .bf16⟩
  | .local _ .vmem, ⟨6, _⟩ => ⟨S256x3584, .i8⟩
  | .local _ .vmem, ⟨7, _⟩ => ⟨S256x3584, .i8⟩
  | .local _ .vmem, ⟨8, _⟩ => ⟨S7168x128, .i8⟩
  | .local _ .vmem, ⟨9, _⟩ => ⟨S7168x128, .i8⟩
  | .local _ .vmem, ⟨10, _⟩ => ⟨S1152x448, .fp8e4m3⟩
  | .local _ .vmem, ⟨11, _⟩ => ⟨S1152x512, .f32⟩
  | .local _ .vmem, ⟨12, _⟩ => ⟨S16x7168, .f32⟩
  | .local _ .vmem, ⟨13, _⟩ => ⟨S16x7168, .f32⟩
  | .local _ .vmem, ⟨14, _⟩ => ⟨S128x256, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_stg1_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![72], ![false]⟩

def k0_off1 (i : grid0.Coords) : Fin 2 → Nat :=
  let arg0 : BitVec 32 := BitVec.ofNat 32 (i 0).val
  let c16_i32 : BitVec 32 := 16#32
  let v6 : BitVec 32 := Scalar.muli arg0 c16_i32
  let v7 : Index := Scalar.indexCast v6
  let c0_3 : Index := 0#32
  ![v7.toNat, 0]
@[reducible] def k0_t1_loop : Scf.Loop 32 :=
  let c0_i32_836 : BitVec 32 := 0#32
  let c14_i32 : BitVec 32 := 14#32
  let v2879 : BitVec 32 := Scalar.addi c0_i32_836 c14_i32
  let c1_i32_837 : BitVec 32 := 1#32
  ⟨c0_i32_836, v2879, c1_i32_837⟩
def k0_mult1 (k0_t1 : Fin k0_t1_loop.trips) : BitVec 32 :=
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  v2889
def k0_off2 (k0_t1 : Fin k0_t1_loop.trips) : Fin 2 → Nat :=
  let c0_847 : Index := 0#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2891 : Index := Scalar.indexCast v2890
  ![0, v2891.toNat]
def k0_off3 (k0_t1 : Fin k0_t1_loop.trips) : Fin 2 → Nat :=
  let c0_848 : Index := 0#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2893 : Index := Scalar.indexCast v2890
  ![0, v2893.toNat]
def k0_off4 (k0_t1 : Fin k0_t1_loop.trips) : Fin 2 → Nat :=
  let c1 : Index := 1#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2900 : Index := Scalar.indexCast v2890
  ![1, v2900.toNat]
def k0_off5 (k0_t1 : Fin k0_t1_loop.trips) : Fin 2 → Nat :=
  let c16 : Index := 16#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2902 : Index := Scalar.indexCast v2890
  ![16, v2902.toNat]
def k0_off6 (k0_t1 : Fin k0_t1_loop.trips) : Fin 2 → Nat :=
  let c2 : Index := 2#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2909 : Index := Scalar.indexCast v2890
  ![2, v2909.toNat]
def k0_off7 (k0_t1 : Fin k0_t1_loop.trips) : Fin 2 → Nat :=
  let c32 : Index := 32#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2911 : Index := Scalar.indexCast v2890
  ![32, v2911.toNat]
def k0_off8 (k0_t1 : Fin k0_t1_loop.trips) : Fin 2 → Nat :=
  let c3 : Index := 3#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2918 : Index := Scalar.indexCast v2890
  ![3, v2918.toNat]
def k0_off9 (k0_t1 : Fin k0_t1_loop.trips) : Fin 2 → Nat :=
  let c48 : Index := 48#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2920 : Index := Scalar.indexCast v2890
  ![48, v2920.toNat]
def k0_off10 (k0_t1 : Fin k0_t1_loop.trips) : Fin 2 → Nat :=
  let c4 : Index := 4#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2927 : Index := Scalar.indexCast v2890
  ![4, v2927.toNat]
def k0_off11 (k0_t1 : Fin k0_t1_loop.trips) : Fin 2 → Nat :=
  let c64 : Index := 64#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2929 : Index := Scalar.indexCast v2890
  ![64, v2929.toNat]
def k0_off12 (k0_t1 : Fin k0_t1_loop.trips) : Fin 2 → Nat :=
  let c5 : Index := 5#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2936 : Index := Scalar.indexCast v2890
  ![5, v2936.toNat]
def k0_off13 (k0_t1 : Fin k0_t1_loop.trips) : Fin 2 → Nat :=
  let c80 : Index := 80#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2938 : Index := Scalar.indexCast v2890
  ![80, v2938.toNat]
def k0_off14 (k0_t1 : Fin k0_t1_loop.trips) : Fin 2 → Nat :=
  let c6 : Index := 6#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2945 : Index := Scalar.indexCast v2890
  ![6, v2945.toNat]
def k0_off15 (k0_t1 : Fin k0_t1_loop.trips) : Fin 2 → Nat :=
  let c96 : Index := 96#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2947 : Index := Scalar.indexCast v2890
  ![96, v2947.toNat]
def k0_off16 (k0_t1 : Fin k0_t1_loop.trips) : Fin 2 → Nat :=
  let c7 : Index := 7#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2954 : Index := Scalar.indexCast v2890
  ![7, v2954.toNat]
def k0_off17 (k0_t1 : Fin k0_t1_loop.trips) : Fin 2 → Nat :=
  let c112 : Index := 112#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2956 : Index := Scalar.indexCast v2890
  ![112, v2956.toNat]
def k0_off18 (k0_t1 : Fin k0_t1_loop.trips) : Fin 2 → Nat :=
  let c8 : Index := 8#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2963 : Index := Scalar.indexCast v2890
  ![8, v2963.toNat]
def k0_off19 (k0_t1 : Fin k0_t1_loop.trips) : Fin 2 → Nat :=
  let c128_849 : Index := 128#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2965 : Index := Scalar.indexCast v2890
  ![128, v2965.toNat]
def k0_off20 (k0_t1 : Fin k0_t1_loop.trips) : Fin 2 → Nat :=
  let c9 : Index := 9#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2972 : Index := Scalar.indexCast v2890
  ![9, v2972.toNat]
def k0_off21 (k0_t1 : Fin k0_t1_loop.trips) : Fin 2 → Nat :=
  let c144 : Index := 144#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2974 : Index := Scalar.indexCast v2890
  ![144, v2974.toNat]
def k0_off22 (k0_t1 : Fin k0_t1_loop.trips) : Fin 2 → Nat :=
  let c10 : Index := 10#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2981 : Index := Scalar.indexCast v2890
  ![10, v2981.toNat]
def k0_off23 (k0_t1 : Fin k0_t1_loop.trips) : Fin 2 → Nat :=
  let c160 : Index := 160#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2983 : Index := Scalar.indexCast v2890
  ![160, v2983.toNat]
def k0_off24 (k0_t1 : Fin k0_t1_loop.trips) : Fin 2 → Nat :=
  let c11 : Index := 11#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2990 : Index := Scalar.indexCast v2890
  ![11, v2990.toNat]
def k0_off25 (k0_t1 : Fin k0_t1_loop.trips) : Fin 2 → Nat :=
  let c176 : Index := 176#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2992 : Index := Scalar.indexCast v2890
  ![176, v2992.toNat]
def k0_off26 (k0_t1 : Fin k0_t1_loop.trips) : Fin 2 → Nat :=
  let c12 : Index := 12#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v2999 : Index := Scalar.indexCast v2890
  ![12, v2999.toNat]
def k0_off27 (k0_t1 : Fin k0_t1_loop.trips) : Fin 2 → Nat :=
  let c192 : Index := 192#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3001 : Index := Scalar.indexCast v2890
  ![192, v3001.toNat]
def k0_off28 (k0_t1 : Fin k0_t1_loop.trips) : Fin 2 → Nat :=
  let c13 : Index := 13#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3008 : Index := Scalar.indexCast v2890
  ![13, v3008.toNat]
def k0_off29 (k0_t1 : Fin k0_t1_loop.trips) : Fin 2 → Nat :=
  let c208 : Index := 208#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3010 : Index := Scalar.indexCast v2890
  ![208, v3010.toNat]
def k0_off30 (k0_t1 : Fin k0_t1_loop.trips) : Fin 2 → Nat :=
  let c14 : Index := 14#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3017 : Index := Scalar.indexCast v2890
  ![14, v3017.toNat]
def k0_off31 (k0_t1 : Fin k0_t1_loop.trips) : Fin 2 → Nat :=
  let c224 : Index := 224#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3019 : Index := Scalar.indexCast v2890
  ![224, v3019.toNat]
def k0_off32 (k0_t1 : Fin k0_t1_loop.trips) : Fin 2 → Nat :=
  let c15 : Index := 15#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3026 : Index := Scalar.indexCast v2890
  ![15, v3026.toNat]
def k0_off33 (k0_t1 : Fin k0_t1_loop.trips) : Fin 2 → Nat :=
  let c240 : Index := 240#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3028 : Index := Scalar.indexCast v2890
  ![240, v3028.toNat]
def k0_off34 (k0_t1 : Fin k0_t1_loop.trips) : Fin 2 → Nat :=
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3094 : Index := Scalar.indexCast v2890
  let c0_874 : Index := 0#32
  ![v3094.toNat, 0]
def k0_mult2 (k0_t1 : Fin k0_t1_loop.trips) : BitVec 32 :=
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let c0_i32_878 : BitVec 32 := 0#32
  let v3119 : BitVec 1 := Scalar.cmpi .sgt v2890 c0_i32_878
  let v3120 : BitVec 32 := Scalar.extui v3119
  let c0_i32_879 : BitVec 32 := 0#32
  let v3121 : BitVec 1 := Scalar.cmpi .slt v2890 c0_i32_879
  let v3122 : BitVec 32 := Scalar.extui v3121
  let v3123 : BitVec 32 := Scalar.subi v3120 v3122
  let c2_i32 : BitVec 32 := 2#32
  let c0_i32_880 : BitVec 32 := 0#32
  let v3124 : BitVec 1 := Scalar.cmpi .sgt c2_i32 c0_i32_880
  let v3125 : BitVec 32 := Scalar.extui v3124
  let c0_i32_881 : BitVec 32 := 0#32
  let v3126 : BitVec 1 := Scalar.cmpi .slt c2_i32 c0_i32_881
  let v3127 : BitVec 32 := Scalar.extui v3126
  let v3128 : BitVec 32 := Scalar.subi v3125 v3127
  let v3129 : BitVec 1 := Scalar.cmpi .ne v3123 v3128
  let v3130 : BitVec 32 := Scalar.remsi v2890 c2_i32
  let c0_i32_882 : BitVec 32 := 0#32
  let v3131 : BitVec 1 := Scalar.cmpi .ne v3130 c0_i32_882
  let v3132 : BitVec 1 := Scalar.andi v3129 v3131
  let v3118 : BitVec 32 := Scalar.divsi v2890 c2_i32
  let c1_i32_883 : BitVec 32 := 1#32
  let v3133 : BitVec 32 := Scalar.subi v3118 c1_i32_883
  let v3134 : BitVec 32 := Scalar.select v3132 v3133 v3118
  v3134
def k0_off35 (k0_t1 : Fin k0_t1_loop.trips) : Fin 2 → Nat :=
  let c0_884 : Index := 0#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let c0_i32_878 : BitVec 32 := 0#32
  let v3119 : BitVec 1 := Scalar.cmpi .sgt v2890 c0_i32_878
  let v3120 : BitVec 32 := Scalar.extui v3119
  let c0_i32_879 : BitVec 32 := 0#32
  let v3121 : BitVec 1 := Scalar.cmpi .slt v2890 c0_i32_879
  let v3122 : BitVec 32 := Scalar.extui v3121
  let v3123 : BitVec 32 := Scalar.subi v3120 v3122
  let c2_i32 : BitVec 32 := 2#32
  let c0_i32_880 : BitVec 32 := 0#32
  let v3124 : BitVec 1 := Scalar.cmpi .sgt c2_i32 c0_i32_880
  let v3125 : BitVec 32 := Scalar.extui v3124
  let c0_i32_881 : BitVec 32 := 0#32
  let v3126 : BitVec 1 := Scalar.cmpi .slt c2_i32 c0_i32_881
  let v3127 : BitVec 32 := Scalar.extui v3126
  let v3128 : BitVec 32 := Scalar.subi v3125 v3127
  let v3129 : BitVec 1 := Scalar.cmpi .ne v3123 v3128
  let v3130 : BitVec 32 := Scalar.remsi v2890 c2_i32
  let c0_i32_882 : BitVec 32 := 0#32
  let v3131 : BitVec 1 := Scalar.cmpi .ne v3130 c0_i32_882
  let v3132 : BitVec 1 := Scalar.andi v3129 v3131
  let v3118 : BitVec 32 := Scalar.divsi v2890 c2_i32
  let c1_i32_883 : BitVec 32 := 1#32
  let v3133 : BitVec 32 := Scalar.subi v3118 c1_i32_883
  let v3134 : BitVec 32 := Scalar.select v3132 v3133 v3118
  let v3135 : BitVec 32 := v3134
  let v3136 : Index := Scalar.indexCast v3135
  ![0, v3136.toNat]
def k0_off36 (k0_t1 : Fin k0_t1_loop.trips) : Fin 2 → Nat :=
  let c0_910 : Index := 0#32
  let c0_i32_846 : BitVec 32 := 0#32
  let c0_i32_836 : BitVec 32 := 0#32
  let c1_i32_837 : BitVec 32 := 1#32
  let arg15 : BitVec 32 := Scf.iv c0_i32_836 c1_i32_837 k0_t1
  let c1_i32_845 : BitVec 32 := 1#32
  let v2887 : BitVec 32 := Scalar.muli arg15 c1_i32_845
  let v2888 : BitVec 32 := Scalar.addi c0_i32_846 v2887
  let c512_i32 : BitVec 32 := 512#32
  let v2889 : BitVec 32 := Scalar.muli v2888 c512_i32
  let v2890 : BitVec 32 := v2889
  let v3274 : Index := Scalar.indexCast v2890
  ![0, v3274.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1152x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3584 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S7168x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1152x448 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_block_div" => some ((1 / 448 : ℝ) : EReal)
  | "inv_tensor_div" => some ((1 / 2688 : ℝ) : EReal)
  | _ => none
-- ==== ReferenceIdeal.lean ====
abbrev S1x1 : Shape := ⟨2, ![1, 1]⟩
abbrev S18432x7168 : Shape := ⟨2, ![18432, 7168]⟩
abbrev S1152x512 : Shape := ⟨2, ![1152, 512]⟩
abbrev S128x7168 : Shape := ⟨2, ![128, 7168]⟩
abbrev S128x18432 : Shape := ⟨2, ![128, 18432]⟩
abbrev S18432x3584 : Shape := ⟨2, ![18432, 3584]⟩
abbrev S7168x9216 : Shape := ⟨2, ![7168, 9216]⟩
abbrev S1152x448 : Shape := ⟨2, ![1152, 448]⟩
abbrev S1152x1x448x1 : Shape := ⟨4, ![1152, 1, 448, 1]⟩
abbrev S1152x16x448x16 : Shape := ⟨4, ![1152, 16, 448, 16]⟩
abbrev S18432x3584x2 : Shape := ⟨3, ![18432, 3584, 2]⟩
abbrev S18432x3584x1 : Shape := ⟨3, ![18432, 3584, 1]⟩
abbrev S9216x2x7168 : Shape := ⟨3, ![9216, 2, 7168]⟩
abbrev S9216x1x7168 : Shape := ⟨3, ![9216, 1, 7168]⟩
abbrev S9216x7168 : Shape := ⟨2, ![9216, 7168]⟩

abbrev nBuf : Space → Nat
  | .hbm => 10
  | .vmem => 7
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S18432x7168, .bf16⟩
  | .hbm, ⟨3, _⟩ => ⟨S1152x512, .f32⟩
  | .hbm, ⟨4, _⟩ => ⟨S128x7168, .bf16⟩
  | .hbm, ⟨5, _⟩ => ⟨S128x18432, .bf16⟩
  | .hbm, ⟨6, _⟩ => ⟨S18432x3584, .i8⟩
  | .hbm, ⟨7, _⟩ => ⟨S7168x9216, .i8⟩
  | .hbm, ⟨8, _⟩ => ⟨S1152x448, .fp8e4m3⟩
  | .hbm, ⟨9, _⟩ => ⟨S1x1, .f32⟩
  | .local _ .vmem, ⟨0, _⟩ => ⟨S18432x7168, .bf16⟩
  | .local _ .vmem, ⟨1, _⟩ => ⟨S1152x512, .f32⟩
  | .local _ .vmem, ⟨2, _⟩ => ⟨S128x7168, .bf16⟩
  | .local _ .vmem, ⟨3, _⟩ => ⟨S128x18432, .bf16⟩
  | .local _ .vmem, ⟨4, _⟩ => ⟨S18432x3584, .i8⟩
  | .local _ .vmem, ⟨5, _⟩ => ⟨S7168x9216, .i8⟩
  | .local _ .vmem, ⟨6, _⟩ => ⟨S1152x448, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x3584 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x9216 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1152x448 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Printed.Runs.lean ====
/- What the runs of the printed kernel share: the region, the blocks, the conditions. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 1 % 72 := Pipeline.Grid.coords_val t 0 (by decide) rfl
    simp only [cond0_0, k0_cond1, e0]
    word_cmp
   : ∀ t : Fin grid0.N, cond0_0 (grid0.coords t) ↔ t.val % 72 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7168 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3584 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S7168x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x448 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1152x512 .f32 := Memref.whole cc0_scratch0
abbrev scM0_1 : Memref sig .tc .vmem S16x7168 .f32 := Memref.whole cc0_scratch1
abbrev scM0_2 : Memref sig .tc .vmem S16x7168 .f32 := Memref.whole cc0_scratch2
abbrev scM0_3 : Memref sig .tc .vmem S128x256 .f32 := Memref.whole cc0_scratch3
/-- The scratch `arg11` the kernel carries between points, as a view: what it holds is stated through it. -/
abbrev VS0_0 : View sig .tc .vmem S1152x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Printed.RunA.lean ====
/- The printed kernel's body run at the first grid point. -/
module

public import proofs.«01_k».proof.Proof.Printed.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2208000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9) at anything, handed back at some contents nothing names. -/
noncomputable def kernelRun0_A (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) :
    { LS0 : List (View.Piece (Elt F) S1152x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_weight_quant i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_weight_quant_eq_skeleton]; unfold cc0_weight_quant_skel
    simp only [k0_part74_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.Printed.RunB.lean ====
/- The printed kernel's body run at the later grid points. -/
module

public import proofs.«01_k».proof.Proof.Printed.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2176000 in
/-- What the body's stores leave in each output's staging memref, as pieces (last first) IN CASE B (`scf.if` 0 not taken: points 1, 2, … 71: 71 of 72), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9) at anything, handed back at some contents nothing names. -/
noncomputable def kernelRun0_B (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xs0 : Vec F S1152x512 .f32) :
    { LS0 : List (View.Piece (Elt F) S1152x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_weight_quant i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], fun E K => ?run⟩
  case run =>
    simp only [cc0_weight_quant_eq_skeleton]; unfold cc0_weight_quant_skel
    simp only [k0_part74_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg11.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.Printed.Frame.lean ====
/- The printed kernel's body obligation, its run and its frame; what it leaves in its outputs is not named. -/
module

public import proofs.«01_k».proof.Proof.Printed.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: 1 piece of `S1152x512` tiling it (Lib/Ring.lean `Piece.tiledL`). -/
theorem scover0_A_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) (y : S1152x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).1 S1152x512.size (by sl_kernel_rfl) y

/-- What case A leaves in scratch `arg11`: its pieces read back over junk. -/
def sout0_A_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) : Vec F S1152x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).1)

/-- Case B stores nothing into scratch `arg11`: it holds what the point before left. -/
def sout0_B_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xs0 : Vec F S1152x512 .f32) : Vec F S1152x512 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1152x512 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 72 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 72 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 72 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (5, 6, 7, 8, 9): nothing reads what the kernel leaves in them, so nothing
    of it is named (Lib/Pipeline/Dat.lean `Dat.toRForget`). -/
def forgets0 : Fin 10 → Bool := fun w => w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 72 := lt_of_lt_of_eq t.isLt (show cfg0.N = 72 from N_0)
  by_cases h0 : t.val % 72 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · rw [PhiS_castSucc m c t, PhiS_zero m c _ _ hz, PhiA0_eq]
      rw [outsAt0_A m c t h0]
      unfold sout0_A_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · exfalso; have hN : t.val < 72 := lt_of_lt_of_eq t.isLt (show cfg0.N = 72 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · exfalso; have hN : t.val < 72 := lt_of_lt_of_eq t.isLt (show cfg0.N = 72 from N_0); omega
    · rw [PhiS_castSucc m c t, PhiS_pos m c _ _ hz]
      rw [outsAt0_B m c t h0]
      unfold sout0_B_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 72 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Ideal.Runs.lean ====
/- What the runs of the ideal kernel share: its windows, its branch condition, which points leave a window idle, and the memrefs a point passes. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 72 = 0 :=
  (fun t => by
    have ht : t.val < 72 := Nat.lt_of_lt_of_eq t.isLt N_0
    have e0 : (grid0.coords t 0).val = t.val / 1 % 72 := Pipeline.Grid.coords_val t 0 (by decide) rfl
    simp only [cond0_0, k0_cond1, e0]
    word_cmp
   : ∀ t : Fin grid0.N, cond0_0 (grid0.coords t) ↔ t.val % 72 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x800000000000000000 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → cfg0.idle 8 (grid0.coords t) = true := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_B : ∀ t : Fin cfg0.N, ¬cond0_0 (grid0.coords t) → cfg0.fresh 8 t.val = false := by
  intro t; rw [fresh0_8_eq t]; revert t; decide +kernel
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x800000000000000000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → cfg0.idle 9 (grid0.coords t) = false := by decide +kernel
/-- At the points of case B the printed configuration (`Cfg.idle`) calls output 9 idle: the case stores nothing into it. -/
theorem idleAt0_9_B : ∀ t : Fin cfg0.N, ¬cond0_0 (grid0.coords t) → cfg0.idle 9 (grid0.coords t) = true := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cfg0.fresh 9 t.val = false := by
  intro t; rw [fresh0_9_eq t]; revert t; decide +kernel

/-! ## The kernel body on any staging memrefs: a subtype the run finds -/

/-- One staging buffer of output window 5, through which its contents are stated (`View.read_writes_of_cover`: the
    choice does not matter). -/
abbrev VO0_5 : View sig .tc .vmem S128x256 .bf16 := (Memref.whole cc0_stg5_0 : Memref sig .tc .vmem S128x256 .bf16).view
/-- One staging buffer of output window 6, through which its contents are stated (`View.read_writes_of_cover`: the
    choice does not matter). -/
abbrev VO0_6 : View sig .tc .vmem S256x3584 .i8 := (Memref.whole cc0_stg6_0 : Memref sig .tc .vmem S256x3584 .i8).view
/-- One staging buffer of output window 7, through which its contents are stated (`View.read_writes_of_cover`: the
    choice does not matter). -/
abbrev VO0_7 : View sig .tc .vmem S7168x128 .i8 := (Memref.whole cc0_stg7_0 : Memref sig .tc .vmem S7168x128 .i8).view
/-- One staging buffer of output window 8, through which its contents are stated (`View.read_writes_of_cover`: the
    choice does not matter). -/
abbrev VO0_8 : View sig .tc .vmem S1152x448 .fp8e4m3 := (Memref.whole cc0_stg8_0 : Memref sig .tc .vmem S1152x448 .fp8e4m3).view
/-- One staging buffer of output window 9, through which its contents are stated (`View.read_writes_of_cover`: the
    choice does not matter). -/
abbrev VO0_9 : View sig .tc .smem S1x1 .f32 := (Memref.whole cc0_stg9_0 : Memref sig .tc .smem S1x1 .f32).view
/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7168 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3584 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S7168x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x448 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1152x512 .f32 := Memref.whole cc0_scratch0
abbrev scM0_1 : Memref sig .tc .vmem S16x7168 .f32 := Memref.whole cc0_scratch1
abbrev scM0_2 : Memref sig .tc .vmem S16x7168 .f32 := Memref.whole cc0_scratch2
abbrev scM0_3 : Memref sig .tc .vmem S128x256 .f32 := Memref.whole cc0_scratch3
/-- The scratch `arg11` the kernel carries between points, as a view: what it holds is stated through it. -/
abbrev VS0_0 : View sig .tc .vmem S1152x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Ideal.Indep.lean ====
/- A trip of the inner loop stores the same pieces whatever the two code outputs held before. -/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A trip's pieces are functions of what the trip finds in the accumulator alone: what the two code outputs held
    before does not enter. -/
theorem trip_indep (𝒱 : Variants) (c : Dev nD) (bd : Option 𝒱.V) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole)
    (v1 : F .f32) (X_arg3 : BufTy.Contents (Elt F) arg3.view.ty) (X_arg5 : BufTy.Contents (Elt F) arg5.view.ty) (X_arg12 : BufTy.Contents (Elt F) arg12.view.ty) (X_arg13 : BufTy.Contents (Elt F) arg13.view.ty)
    (k : Fin k0_t1_loop.trips) (f7 g7 : BufTy.Contents (Elt F) arg7.view.ty) (f8 g8 : BufTy.Contents (Elt F) arg8.view.ty) (f14 : BufTy.Contents (Elt F) arg14.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 k f7 f8 f14
      = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 k g7 g8 f14 := by
  unfold tripL_k0_t1 trip_k0_t1
  rfl

/-- Hence the pieces of the trips before `n` do not depend on what the two code outputs held at loop entry. -/
theorem pb_indep (𝒱 : Variants) (c : Dev nD) (bd : Option 𝒱.V) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole)
    (v1 : F .f32) (X_arg3 : BufTy.Contents (Elt F) arg3.view.ty) (X_arg5 : BufTy.Contents (Elt F) arg5.view.ty) (X_arg12 : BufTy.Contents (Elt F) arg12.view.ty) (X_arg13 : BufTy.Contents (Elt F) arg13.view.ty)
    (f7 g7 : BufTy.Contents (Elt F) arg7.view.ty) (f8 g8 : BufTy.Contents (Elt F) arg8.view.ty) (f14 : BufTy.Contents (Elt F) arg14.view.ty) (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 f7 f8 f14 n
      = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 g7 g8 f14 n := by
  induction n with
  | zero => rfl
  | succ n ih =>
    by_cases h : n < k0_t1_loop.trips
    · have e := fun G7 G8 => pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 f14 ⟨n, h⟩
      dsimp only at e
      rw [e, e, ih]
      generalize pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 g7 g8 f14 n = P
      have t := trip_indep 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 ⟨n, h⟩ (arg7.view.writes (Elt F) f7 P.1) (arg7.view.writes (Elt F) g7 P.1) (arg8.view.writes (Elt F) f8 P.2.1) (arg8.view.writes (Elt F) g8 P.2.1) (arg14.view.writes (Elt F) f14 P.2.2)
      have t1 := congrArg Prod.fst t
      have t2 := congrArg (fun q => q.2.1) t
      have t3 := congrArg (fun q => q.2.2) t
      dsimp only at t1 t2 t3
      rw [t1, t2, t3]
    · have e := fun G7 G8 => pb_k0_t1.eq_2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 f14 n
      rw [e, e, ih]
      unfold pb_k0_t1Step
      rw [dif_neg h, dif_neg h]

end Cert.KernelIdeal.Gen

end
-- ==== Proof.Ideal.RunA.lean ====
/- The whole body of the ideal kernel run at the first grid point, where the branch that stores the scales is taken. -/
module

public import proofs.«01_k».proof.Proof.Ideal.Indep

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 0 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) :
    Σ' (L5 : List (View.Piece (Elt F) S128x256 .bf16)), Σ' (L6 : List (View.Piece (Elt F) S256x3584 .i8)), Σ' (L7 : List (View.Piece (Elt F) S7168x128 .i8)), Σ' (L8 : List (View.Piece (Elt F) S1152x448 .fp8e4m3)), Σ' (L9 : List (View.Piece (Elt F) S1x1 .f32)), { LS0 : List (View.Piece (Elt F) S1152x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_weight_quant i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_weight_quant_eq_skeleton]; unfold cc0_weight_quant_skel
    simp only [k0_part74_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    delta kernelRun0_A.sl.v2880
    rw [pb_indep (f7 := f6) (g7 := arg7.view.junk) (f8 := f7) (g8 := arg8.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Ideal.RunB.lean ====
/- The whole body of the ideal kernel run at the later grid points, where the branch that stores the scales is not taken. -/
module

public import proofs.«01_k».proof.Proof.Ideal.Indep

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 0 in
/-- What the body's stores leave in each output's staging memref, as pieces (last first) IN CASE B (`scf.if` 0 not taken: points 1, 2, … 71: 71 of 72), WITH the
    proof that on whole staging memrefs — the inputs' at their contents, the outputs it reads before covering (8, 9) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) :
    Σ' (L5 : List (View.Piece (Elt F) S128x256 .bf16)), Σ' (L6 : List (View.Piece (Elt F) S256x3584 .i8)), Σ' (L7 : List (View.Piece (Elt F) S7168x128 .i8)), Σ' (L8 : List (View.Piece (Elt F) S1152x448 .fp8e4m3)), Σ' (L9 : List (View.Piece (Elt F) S1x1 .f32)), { LS0 : List (View.Piece (Elt F) S1152x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xo8 ∗ owns (c : Thread nD τ) arg10 fullShare xo9 ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_weight_quant i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, [], [], [], fun E K => ?run⟩
  case run =>
    simp only [cc0_weight_quant_eq_skeleton]; unfold cc0_weight_quant_skel
    simp only [k0_part74_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9; obtain rfl := harg11.eq_unread hfs0
    sl_exec (disch := first | sl_exact hc0)
    sl_step
    delta kernelRun0_B.sl.v2880
    rw [pb_indep (f7 := f6) (g7 := arg7.view.junk) (f8 := f7) (g8 := arg8.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Ideal.Frame.lean ====
/- What each output of the ideal kernel holds after each grid point, the body obligation, the run and the frame. -/
module

public import proofs.«01_k».proof.Proof.Ideal.RunA
public import proofs.«01_k».proof.Proof.Ideal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 5 tile its block (1 store of `S128x256`, checked by the kernel's evaluation: Lib/Ring.lean `Piece.tiledL`, linear in the pieces, through a loop's `@[irreducible]` trip theorem too), so they cover it. -/
theorem cover0_A_5 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).1 S128x256.size (by sl_kernel_rfl) y

/-- What case A leaves in output 5's staging buffer: its pieces read back over junk. -/
def out0_A_5 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) : Vec F S128x256 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).1)

/-- Case A's pieces for output 6 tile its block (14 stores of `S256x256`, checked by the kernel's evaluation: Lib/Ring.lean `Piece.tiledL`, linear in the pieces, through a loop's `@[irreducible]` trip theorem too), so they cover it. -/
theorem cover0_A_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) (y : S256x3584.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.1 S256x256.size (by sl_kernel_rfl) y

/-- What case A leaves in output 6's staging buffer: its pieces read back over junk. -/
def out0_A_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) : Vec F S256x3584 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.1)

/-- Case A's pieces for output 7 tile its block (14 stores of `S512x128`, checked by the kernel's evaluation: Lib/Ring.lean `Piece.tiledL`, linear in the pieces, through a loop's `@[irreducible]` trip theorem too), so they cover it. -/
theorem cover0_A_7 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) (y : S7168x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.1 S512x128.size (by sl_kernel_rfl) y

/-- What case A leaves in output 7's staging buffer: its pieces read back over junk. -/
def out0_A_7 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) : Vec F S7168x128 .i8 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.1)

/-- Case A's pieces for output 8 tile its block (1 store of `S1152x448`, checked by the kernel's evaluation: Lib/Ring.lean `Piece.tiledL`, linear in the pieces, through a loop's `@[irreducible]` trip theorem too), so they cover it. -/
theorem cover0_A_8 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) (y : S1152x448.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.1 S1152x448.size (by sl_kernel_rfl) y

/-- What case A leaves in output 8's staging buffer: its pieces read back over junk. -/
def out0_A_8 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) : Vec F S1152x448 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.1)

/-- Case A's pieces for output 9 tile its block (1 store of `S1x1`, checked by the kernel's evaluation: Lib/Ring.lean `Piece.tiledL`, linear in the pieces, through a loop's `@[irreducible]` trip theorem too), so they cover it. -/
theorem cover0_A_9 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.1 S1x1.size (by sl_kernel_rfl) y

/-- What case A leaves in output 9's staging buffer: its pieces read back over junk. -/
def out0_A_9 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.1)

/-- Case A's pieces for scratch `arg11`, which the kernel carries between points, cover it: 1 piece of `S1152x512` tiling it (Lib/Ring.lean `Piece.tiledL`). -/
theorem scover0_A_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) (y : S1152x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.2.1 S1152x512.size (by sl_kernel_rfl) y

/-- What case A leaves in scratch `arg11`: its pieces read back over junk. -/
def sout0_A_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : cond0_0 i)
    (x0 : Vec F S1x1 .f32) (x1 : Vec F S1x1 .f32) (x2 : Vec F S256x7168 .bf16) (x3 : Vec F S1152x512 .f32) (x4 : Vec F S128x7168 .bf16) : Vec F S1152x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.2.1)

/-- Case B's pieces for output 5 tile its block (1 store of `S128x256`, checked by the kernel's evaluation: Lib/Ring.lean `Piece.tiledL`, linear in the pieces, through a loop's `@[irreducible]` trip theorem too), so they cover it. -/
theorem cover0_B_5 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).1 S128x256.size (by sl_kernel_rfl) y

/-- What case B leaves in output 5's staging buffer: its pieces read back over junk. -/
def out0_B_5 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) : Vec F S128x256 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).1)

/-- Case B's pieces for output 6 tile its block (14 stores of `S256x256`, checked by the kernel's evaluation: Lib/Ring.lean `Piece.tiledL`, linear in the pieces, through a loop's `@[irreducible]` trip theorem too), so they cover it. -/
theorem cover0_B_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) (y : S256x3584.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).2.1 S256x256.size (by sl_kernel_rfl) y

/-- What case B leaves in output 6's staging buffer: its pieces read back over junk. -/
def out0_B_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) : Vec F S256x3584 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).2.1)

/-- Case B's pieces for output 7 tile its block (14 stores of `S512x128`, checked by the kernel's evaluation: Lib/Ring.lean `Piece.tiledL`, linear in the pieces, through a loop's `@[irreducible]` trip theorem too), so they cover it. -/
theorem cover0_B_7 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) (y : S7168x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).2.2.1 S512x128.size (by sl_kernel_rfl) y

/-- What case B leaves in output 7's staging buffer: its pieces read back over junk. -/
def out0_B_7 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) : Vec F S7168x128 .i8 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0).2.2.1)

/-- Case B stores nothing into output 8, a live window: its staging buffer holds what the point before left. -/
def out0_B_8 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) : Vec F S1152x448 .fp8e4m3 := xo8

/-- Case B stores nothing into output 9, a live window: its staging buffer holds what the point before left. -/
def out0_B_9 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) : Vec F S1x1 .f32 := xo9

/-- Case B stores nothing into scratch `arg11`: it holds what the point before left. -/
def sout0_B_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole) (hc0 : ¬cond0_0 i)
    (x0 : Vec F S1x1 .f32) (x1 : Vec F S1x1 .f32) (x2 : Vec F S256x7168 .bf16) (x3 : Vec F S1152x512 .f32) (x4 : Vec F S128x7168 .bf16) (xo8 : Vec F S1152x448 .fp8e4m3) (xo9 : Vec F S1x1 .f32) (xs0 : Vec F S1152x512 .f32) : Vec F S1152x512 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x256 .bf16 × Vec F S256x3584 .i8 × Vec F S7168x128 .i8 × Vec F S1152x448 .fp8e4m3 × Vec F S1x1 .f32 × Vec F S1152x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 72 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 72 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 72 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 72 := lt_of_lt_of_eq t.isLt (show cfg0.N = 72 from N_0)
  rw [after0_8, after0_8]
  by_cases h0 : t.val % 72 = 0
  · rw [liveAt0_8_A t ((hcond0_0 t).mpr h0)] at hi
    exact absurd hi Bool.false_ne_true
  · rw [outsAt0_B m c t h0]; rfl

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 72 := lt_of_lt_of_eq t.isLt (show cfg0.N = 72 from N_0)
  rw [after0_9, after0_9]
  by_cases h0 : t.val % 72 = 0
  · rw [liveAt0_9_A t ((hcond0_0 t).mpr h0)] at hi
    exact absurd hi Bool.false_ne_true
  · rw [outsAt0_B m c t h0]; rfl
/-- At a point of case B output 8's current staging buffer holds what the point before left: the buffer is not fresh
    there (`notFresh0_8_B`: stored into since the region's entry or the last write-back, carried through the points that
    leave it idle by `hcarry0_8`; Lib/Pipeline/TableIdle.lean `Dat.before_out_traj`). -/
theorem before0_8_B (c : Dev nD) (t : Fin cfg0.N) (h0 : ¬t.val % 72 = 0) (d) :
    (dats m 0 c).before 8 t d = (outsAt0 m c (t.val - 1) (Nat.lt_of_le_of_lt (Nat.sub_le _ _) t.isLt)).2.2.2.1 := by
  rw [Dat.before_out_traj _ 8 rfl (fun _ _ => rfl) (hcarry0_8 m c) t.val t rfl d,
    if_neg (by rw [notFresh0_8_B t (fun h => h0 ((hcond0_0 t).mp h))]; exact Bool.false_ne_true)]
  dsimp only [dats]
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 72 = 0) (d) :
    (dats m 0 c).before 9 t d = (outsAt0 m c (t.val - 1) (Nat.lt_of_le_of_lt (Nat.sub_le _ _) t.isLt)).2.2.2.2.1 := by
  rw [Dat.before_out_traj _ 9 rfl (fun _ _ => rfl) (hcarry0_9 m c) t.val t rfl d,
    if_neg (by rw [notFresh0_9_B t (fun h => h0 ((hcond0_0 t).mp h))]; exact Bool.false_ne_true)]
  dsimp only [dats]

/-- At a point of case B, output 8's buffer at what the point before left is what the body owes for the window: it is idle
    there, and the last point, which writes the buffer back, writes those contents. -/
theorem leaves0_8_B (c : Dev nD) (t : Fin cfg0.N) (h0 : ¬t.val % 72 = 0) :
    (owns (c : Thread nD τ) (ms0_8 t) fullShare (outsAt0 m c (t.val - 1) (Nat.lt_of_le_of_lt (Nat.sub_le _ _) t.isLt)).2.2.2.1 : sProp 𝕄)
      ⊢ (dats m 0 c).leavesExact 8 t := by
  have ha : (dats m 0 c).after 8 t = (outsAt0 m c (t.val - 1) (Nat.lt_of_le_of_lt (Nat.sub_le _ _) t.isLt)).2.2.2.1 := by
    rw [after0_8, outsAt0_B m c t h0]; rfl
  unfold Dat.leavesExact
  rw [idleAt0_8_B t (fun h => h0 ((hcond0_0 t).mp h)), ha]
  simp only [before0_8_B m c t h0]
  split
  · iintro H; iexists (fun _ => default); iexact H
  · iintro H; iexact H
/-- At a point of case B, output 9's buffer at what the point before left is what the body owes for the window: it is idle
    there, and the last point, which writes the buffer back, writes those contents. -/
theorem leaves0_9_B (c : Dev nD) (t : Fin cfg0.N) (h0 : ¬t.val % 72 = 0) :
    (owns (c : Thread nD τ) (ms0_9 t) fullShare (outsAt0 m c (t.val - 1) (Nat.lt_of_le_of_lt (Nat.sub_le _ _) t.isLt)).2.2.2.2.1 : sProp 𝕄)
      ⊢ (dats m 0 c).leavesExact 9 t := by
  have ha : (dats m 0 c).after 9 t = (outsAt0 m c (t.val - 1) (Nat.lt_of_le_of_lt (Nat.sub_le _ _) t.isLt)).2.2.2.2.1 := by
    rw [after0_9, outsAt0_B m c t h0]; rfl
  unfold Dat.leavesExact
  rw [idleAt0_9_B t (fun h => h0 ((hcond0_0 t).mp h)), ha]
  simp only [before0_9_B m c t h0]
  split
  · iintro H; iexists (fun _ => default); iexact H
  · iintro H; iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 0 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 72 := lt_of_lt_of_eq t.isLt (show cfg0.N = 72 from N_0)
  by_cases h0 : t.val % 72 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8_A t ((hcond0_0 t).mpr h0)], after0_8]
    rw [show (dats m 0 c).leavesExact 9 t = owns (c : Thread nD τ) (ms0_9 t) fullShare ((dats m 0 c).after 9 t) from by
      unfold Dat.leavesExact; rw [liveAt0_9_A t ((hcond0_0 t).mpr h0)], after0_9]
    by_cases hz : t.val = 0
    · rw [PhiS_castSucc m c t, PhiS_zero m c _ _ hz, PhiA0_eq]
      rw [outsAt0_A m c t h0]
      unfold out0_A_5 out0_A_6 out0_A_7 out0_A_8 out0_A_9 sout0_A_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%e7, H7⟩, ⟨%e8, H8⟩, ⟨%e9, H9⟩, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _)
    · exfalso; have hN : t.val < 72 := lt_of_lt_of_eq t.isLt (show cfg0.N = 72 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    by_cases hz : t.val = 0
    · exfalso; have hN : t.val < 72 := lt_of_lt_of_eq t.isLt (show cfg0.N = 72 from N_0); omega
    · rw [PhiS_castSucc m c t, PhiS_pos m c _ _ hz]
      rw [outsAt0_B m c t h0]
      simp only [before0_8_B m c t h0, before0_9_B m c t h0]
      unfold out0_B_5 out0_B_6 out0_B_7 sout0_B_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%e7, H7⟩, H8, H9, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _)
      isplitl [H8]; · iapply (leaves0_8_B m c t h0); iexact H8
      iapply (leaves0_9_B m c t h0); iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 72 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Ideal.Value.lean ====
/- What the arrays of the ideal kernel hold at the end of the run, in the blocks the points leave. -/
module

public import proofs.«01_k».proof.Proof.Ideal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 72 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 72 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed5, outsAt0_B m c t h0]

/-- The index map sends distinct grid points to distinct block indices (decided over the 72 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S128x18432.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 72 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 72 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed6, outsAt0_B m c t h0]

/-- The index map sends distinct grid points to distinct block indices (decided over the 72 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S18432x3584.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 72 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 72 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed7, outsAt0_B m c t h0]

/-- The index map sends distinct grid points to distinct block indices (decided over the 72 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S7168x9216.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 72 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 72 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed8, outsAt0_B m c t h0]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S1152x448.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 4), read through the window's block. -/
theorem flushed9 (c : Dev nD) (t : Fin cfg0.N) :
    (dats m 0 c).flushed 9 t = (cfg0.win 9).cut (grid0.coords t) ((outsAt0 m c t.val t.isLt).2.2.2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 72 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 72 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1x1.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_4) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1152x512 .f32) : Vec F S1152x512 .f32 :=
  if h0 : n % 72 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc

/-- WHAT CARRIED SCRATCH 0 HOLDS after point `t`: the fold of its run up to `t`, from the reset at the run's first point
    `72·(t / 72)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.2 = Pipeline.accAt (fun n h => scAt0_0 m c n h (VS0_0.read (Elt F) VS0_0.junk)) (scAt0_0 m c) (72 * (t.val / 72)) (t.val % 72)
      (by have h1 := t.isLt; have h2 := Nat.div_add_mod t.val 72; omega) :=
  Pipeline.eq_accAt_of_mod (fun n h => (outsAt0 m c n h).2.2.2.2.2) 72 (fun n h => scAt0_0 m c n h (VS0_0.read (Elt F) VS0_0.junk)) (scAt0_0 m c)
    (fun n h hn => by
      have hN := lt_of_lt_of_eq h (show cfg0.N = 72 from N_0)
      by_cases h0 : n % 72 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 72 from N_0)
      by_cases h0 : (n + 1) % 72 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 72 from N_0)
  have hd : n / 72 = 0 := Nat.div_eq_of_lt hN
  have hm : n % 72 = n := Nat.mod_eq_of_lt hN
  simpa only [hd, hm, Nat.mul_zero] using e

end Cert.KernelIdeal.Value

end
-- ==== Proof.Scalar.lean ====
/- The arithmetic of one weight over the extended reals: the rounding to E2M1 as the kernel does it (seven thresholds, no clipping) and
   as the reference does it (clip, then round to even on three ranges) is the same code and the same value; the two ways
   the scales are formed agree. -/
module

public import Idealize.ShloMosaic.Lib.Pointwise.Tactic

@[expose] public section

noncomputable section

namespace Cert.Weight

open Idealize.ShloMosaic

/-- A threshold passed counts one. -/
def bump (p : Prop) [Decidable p] : BitVec 32 := if p then 1#32 else 0#32

open Classical in
/-- The kernel's code of a scaled weight: the sign bit and the number of the seven thresholds its absolute value passes. -/
def code (v : EReal) : BitVec 32 :=
  (if v < 0 then 8#32 else 0#32) + bump (((1/4 : ℝ) : EReal) < max v (-v)) + bump (((3/4 : ℝ) : EReal) ≤ max v (-v))
    + bump (((5/4 : ℝ) : EReal) < max v (-v)) + bump (((7/4 : ℝ) : EReal) ≤ max v (-v)) + bump (((5/2 : ℝ) : EReal) < max v (-v))
    + bump (((7/2 : ℝ) : EReal) ≤ max v (-v)) + bump (((5 : ℝ) : EReal) < max v (-v))

/-- The kernel's magnitude of the low three bits of a code. -/
def magn (c : BitVec 32) : EReal :=
  if (c &&& 7#32).slt 4#32 then (((c &&& 7#32).toInt : ℝ) : EReal) * ((1/2 : ℝ) : EReal)
  else if (c &&& 7#32).slt 6#32 then (((c &&& 7#32).toInt : ℝ) : EReal) - ((2 : ℝ) : EReal)
  else (((c &&& 7#32).toInt : ℝ) : EReal) * ((2 : ℝ) : EReal) - ((8 : ℝ) : EReal)

/-- The kernel's value of a code. -/
def val (c : BitVec 32) : EReal := if c.slt 8#32 then magn c else 0 - magn c

/-- The reference's rounding of a clipped magnitude. -/
def refQ (a : EReal) : EReal :=
  if a < ((2 : ℝ) : EReal) then Ideal.div (Ideal.liftRound Ideal.roundHalfEven (((2 : ℝ) : EReal) * a)) ((2 : ℝ) : EReal)
  else if a < ((4 : ℝ) : EReal) then Ideal.liftRound Ideal.roundHalfEven a
  else ((2 : ℝ) : EReal) * Ideal.liftRound Ideal.roundHalfEven (Ideal.div a ((2 : ℝ) : EReal))

/-- The reference's place of a rounded magnitude in the list of the eight. -/
def refIdx (q : EReal) : EReal :=
  if q < ((2 : ℝ) : EReal) then ((2 : ℝ) : EReal) * q
  else if q < ((4 : ℝ) : EReal) then q + ((2 : ℝ) : EReal)
  else Ideal.div q ((2 : ℝ) : EReal) + ((4 : ℝ) : EReal)

/-- The reference's clipping to the largest magnitude. -/
def clip (v : EReal) : EReal := min ((6 : ℝ) : EReal) (max ((-6 : ℝ) : EReal) v)

/-- The reference's code of a scaled weight. -/
def refCode (v : EReal) : BitVec 32 :=
  (if clip v < 0 then 8#32 else 0#32) ||| Ideal.fptosi 32 (refIdx (refQ (max (clip v) (-clip v))))

/-- The reference's value of a scaled weight. -/
def refVal (v : EReal) : EReal :=
  if clip v < 0 then 0 - refQ (max (clip v) (-clip v)) else refQ (max (clip v) (-clip v))

/-- Rounding half to even gives `n` within half of `n`, and at the half too when `n` is even. -/
theorem rhe_eq (x : ℝ) (n : ℤ) (h : ((n : ℝ) - 1/2 < x ∧ x < n + 1/2) ∨ (Even n ∧ (n : ℝ) - 1/2 ≤ x ∧ x ≤ n + 1/2)) :
    Ideal.roundHalfEven x = n := by
  have hb : (n : ℝ) - 1/2 ≤ x ∧ x ≤ n + 1/2 := by
    rcases h with ⟨a, b⟩ | ⟨_, a, b⟩ <;> constructor <;> linarith
  unfold Ideal.roundHalfEven
  dsimp only
  by_cases hx : (n : ℝ) ≤ x
  · have hf : ⌊x⌋ = n := Int.floor_eq_iff.mpr ⟨hx, by linarith [hb.2]⟩
    rw [hf]
    by_cases h1 : x - n < 1/2
    · rw [if_pos h1]
    · have h2 : x = n + 1/2 := by linarith [hb.2]
      rcases h with ⟨_, b⟩ | ⟨e, _, _⟩
      · linarith
      · rw [if_neg h1, if_neg (by linarith), if_pos e]
  · have hx' : x < n := not_le.mp hx
    have hf : ⌊x⌋ = n - 1 := Int.floor_eq_iff.mpr ⟨by push_cast; linarith [hb.1], by push_cast; linarith⟩
    rw [hf]
    push_cast
    by_cases h1 : x - (n - 1) < 1/2
    · linarith [hb.1]
    · rw [if_neg h1]
      by_cases h2 : 1/2 < x - (n - 1)
      · rw [if_pos h2]; omega
      · rw [if_neg h2]
        rcases h with ⟨a, _⟩ | ⟨e, _, _⟩
        · linarith
        · rw [if_neg, sub_add_cancel]
          exact fun ho => by rcases e with ⟨k, rfl⟩; rcases ho with ⟨l, hl⟩; omega

/-- The real numbers' minimum is the extended reals'. -/
theorem coe_min' (a b : ℝ) : ((min a b : ℝ) : EReal) = min (a : EReal) (b : EReal) := EReal.coe_strictMono.monotone.map_min

/-- The real numbers' maximum is the extended reals'. -/
theorem coe_max' (a b : ℝ) : ((max a b : ℝ) : EReal) = max (a : EReal) (b : EReal) := EReal.coe_strictMono.monotone.map_max

theorem two_ne : (2 : ℝ) ≠ 0 := two_ne_zero

/-- The reference's rounding on reals. -/
theorem refQ_coe (b : ℝ) : refQ (b : EReal) =
    ((if b < 2 then (Ideal.roundHalfEven (2 * b) : ℝ) * (1/2) else if b < 4 then (Ideal.roundHalfEven b : ℝ)
      else 2 * (Ideal.roundHalfEven (b * (1/2)) : ℝ) : ℝ) : EReal) := by
  unfold refQ
  simp only [Ideal.div_coe two_ne, EReal.coe_lt_coe_iff, ← EReal.coe_mul]
  split_ifs
  · rw [show Ideal.liftRound Ideal.roundHalfEven ((2 * b : ℝ) : EReal) = ((Ideal.roundHalfEven (2 * b) : ℝ) : EReal) from rfl, ← EReal.coe_mul]
  · rfl
  · rw [show Ideal.liftRound Ideal.roundHalfEven ((b * (1/2) : ℝ) : EReal) = ((Ideal.roundHalfEven (b * (1/2)) : ℝ) : EReal) from rfl, ← EReal.coe_mul]

/-- The reference's list index on reals. -/
theorem refIdx_coe (q : ℝ) : refIdx (q : EReal) =
    ((if q < 2 then 2 * q else if q < 4 then q + 2 else q * (1/2) + 4 : ℝ) : EReal) := by
  unfold refIdx
  simp only [Ideal.div_coe two_ne, EReal.coe_lt_coe_iff, ← EReal.coe_mul, ← EReal.coe_add]
  split_ifs <;> rfl

/-- A natural number as a float converted to an integer. -/
theorem fptosi_nat (n : ℕ) (h : n < 8) (x : ℝ) (hx : x = n) : Ideal.fptosi 32 ((x : ℝ) : EReal) = BitVec.ofNat 32 n := by
  subst hx
  show BitVec.ofInt 32 (max _ (min _ (if (0:ℝ) ≤ (n:ℝ) then ⌊(n:ℝ)⌋ else ⌈(n:ℝ)⌉))) = _
  rw [if_pos (Nat.cast_nonneg n), Int.floor_natCast]
  interval_cases n <;> decide

/-- The magnitude that index `n` stands for. -/
def tbl (n : ℕ) : ℝ := if n < 4 then n * (1/2) else if n < 6 then n - 2 else n * 2 - 8

/-- For a magnitude `r`: the number of thresholds passed is `n`, and the reference rounds the clipped magnitude to the `n`-th value. -/
theorem region (r : ℝ) (h0 : 0 ≤ r) : ∃ n : ℕ, n < 8 ∧
    (∀ s : BitVec 32, s + bump (1/4 < r) + bump (3/4 ≤ r) + bump (5/4 < r) + bump (7/4 ≤ r) + bump (5/2 < r) + bump (7/2 ≤ r) + bump (5 < r)
      = s + BitVec.ofNat 32 n) ∧ refQ ((min r 6 : ℝ) : EReal) = ((tbl n : ℝ) : EReal) := by
  by_cases h1 : 1/4 < r
  swap
  · refine ⟨0, by norm_num, fun s => ?_, ?_⟩
    · simp [bump, -one_div, h1, show ¬ (3/4 ≤ r) by linarith, show ¬ (5/4 < r) by linarith, show ¬ (7/4 ≤ r) by linarith, show ¬ (5/2 < r) by linarith, show ¬ (7/2 ≤ r) by linarith, show ¬ (5 < r) by linarith]
    · rw [min_eq_left (by linarith), refQ_coe, if_pos (by linarith), rhe_eq (2*r) 0 (.inr ⟨by decide, by push_cast; linarith, by push_cast; linarith⟩)]
      norm_num [tbl]
  by_cases h2 : 3/4 ≤ r
  swap
  · refine ⟨1, by norm_num, fun s => ?_, ?_⟩
    · simp [bump, -one_div, h1, h2, show ¬ (5/4 < r) by linarith, show ¬ (7/4 ≤ r) by linarith, show ¬ (5/2 < r) by linarith, show ¬ (7/2 ≤ r) by linarith, show ¬ (5 < r) by linarith]
    · rw [min_eq_left (by linarith), refQ_coe, if_pos (by linarith), rhe_eq (2*r) 1 (.inl ⟨by push_cast; linarith, by push_cast; linarith⟩)]
      norm_num [tbl]
  by_cases h3 : 5/4 < r
  swap
  · refine ⟨2, by norm_num, fun s => ?_, ?_⟩
    · simp [bump, -one_div, h1, h2, h3, show ¬ (7/4 ≤ r) by linarith, show ¬ (5/2 < r) by linarith, show ¬ (7/2 ≤ r) by linarith, show ¬ (5 < r) by linarith, BitVec.add_assoc]
    · rw [min_eq_left (by linarith), refQ_coe, if_pos (by linarith), rhe_eq (2*r) 2 (.inr ⟨by decide, by push_cast; linarith, by push_cast; linarith⟩)]
      norm_num [tbl]
  by_cases h4 : 7/4 ≤ r
  swap
  · refine ⟨3, by norm_num, fun s => ?_, ?_⟩
    · simp [bump, -one_div, h1, h2, h3, h4, show ¬ (5/2 < r) by linarith, show ¬ (7/2 ≤ r) by linarith, show ¬ (5 < r) by linarith, BitVec.add_assoc]
    · rw [min_eq_left (by linarith), refQ_coe, if_pos (by linarith), rhe_eq (2*r) 3 (.inl ⟨by push_cast; linarith, by push_cast; linarith⟩)]
      norm_num [tbl]
  by_cases h5 : 5/2 < r
  swap
  · refine ⟨4, by norm_num, fun s => ?_, ?_⟩
    · simp [bump, -one_div, h1, h2, h3, h4, h5, show ¬ (7/2 ≤ r) by linarith, show ¬ (5 < r) by linarith, BitVec.add_assoc]
    · rw [min_eq_left (by linarith), refQ_coe]
      by_cases h : r < 2
      · rw [if_pos h, rhe_eq (2*r) 4 (.inr ⟨by decide, by push_cast; linarith, by push_cast; linarith⟩)]
        norm_num [tbl]
      · rw [if_neg h, if_pos (by linarith), rhe_eq r 2 (.inr ⟨by decide, by push_cast; linarith, by push_cast; linarith⟩)]
        norm_num [tbl]
  by_cases h6 : 7/2 ≤ r
  swap
  · refine ⟨5, by norm_num, fun s => ?_, ?_⟩
    · simp [bump, -one_div, h1, h2, h3, h4, h5, h6, show ¬ (5 < r) by linarith, BitVec.add_assoc]
    · rw [min_eq_left (by linarith), refQ_coe, if_neg (by linarith), if_pos (by linarith), rhe_eq r 3 (.inl ⟨by push_cast; linarith, by push_cast; linarith⟩)]
      norm_num [tbl]
  by_cases h7 : 5 < r
  swap
  · refine ⟨6, by norm_num, fun s => ?_, ?_⟩
    · simp [bump, -one_div, h1, h2, h3, h4, h5, h6, h7, BitVec.add_assoc]
    · rw [min_eq_left (by linarith), refQ_coe, if_neg (by linarith)]
      by_cases h : r < 4
      · rw [if_pos h, rhe_eq r 4 (.inr ⟨by decide, by push_cast; linarith, by push_cast; linarith⟩)]
        norm_num [tbl]
      · rw [if_neg h, rhe_eq (r * (1/2)) 2 (.inr ⟨by decide, by push_cast; linarith, by push_cast; linarith⟩)]
        norm_num [tbl]
  · refine ⟨7, by norm_num, fun s => ?_, ?_⟩
    · simp [bump, -one_div, h1, h2, h3, h4, h5, h6, h7, BitVec.add_assoc]
    · have hm : 5 < min r 6 := lt_min h7 (by norm_num)
      have hm' : min r 6 ≤ 6 := min_le_right _ _
      rw [refQ_coe, if_neg (by linarith), if_neg (by linarith), rhe_eq (min r 6 * (1/2)) 3 (.inl ⟨by push_cast; linarith, by push_cast; linarith⟩)]
      norm_num [tbl]

/-- The magnitude that the kernel reads from a code with index `n`. -/
theorem magn_tbl (n : ℕ) (h : n < 8) (s : BitVec 32) (hs : s = 8#32 ∨ s = 0#32) : magn (s + BitVec.ofNat 32 n) = ((tbl n : ℝ) : EReal) := by
  have e : (s + BitVec.ofNat 32 n) &&& 7#32 = BitVec.ofNat 32 n := by
    rcases hs with rfl | rfl <;> interval_cases n <;> decide
  unfold magn
  rw [e]
  interval_cases n <;> simp [tbl, BitVec.slt, ← EReal.coe_mul, ← EReal.coe_sub, BitVec.toInt] <;> norm_num [← EReal.coe_mul, ← EReal.coe_sub]

/-- A sign and a magnitude index pack into one code. -/
theorem or_tbl (n : ℕ) (h : n < 8) (s : BitVec 32) (hs : s = 8#32 ∨ s = 0#32) : s ||| BitVec.ofNat 32 n = s + BitVec.ofNat 32 n := by
  rcases hs with rfl | rfl <;> interval_cases n <;> decide

/-- The index that the reference's list gives the `n`-th magnitude. -/
theorem refIdx_tbl (n : ℕ) (h : n < 8) : Ideal.fptosi 32 (refIdx ((tbl n : ℝ) : EReal)) = BitVec.ofNat 32 n := by
  rw [refIdx_coe]
  exact fptosi_nat n h _ (by interval_cases n <;> norm_num [tbl])

/-- The number of thresholds an extended magnitude passes, with the reference's rounding of the clipped magnitude. -/
theorem regionE (v : EReal) : ∃ n : ℕ, n < 8 ∧ code v = (if v < 0 then 8#32 else 0#32) + BitVec.ofNat 32 n
    ∧ refQ (max (clip v) (-clip v)) = ((tbl n : ℝ) : EReal) ∧ (clip v < 0 ↔ v < 0) := by
  induction v using EReal.rec with
  | bot =>
    have hc : clip ⊥ = ((-6 : ℝ) : EReal) := by
      unfold clip
      rw [max_eq_left bot_le, min_eq_right (by exact_mod_cast (by norm_num : (-6:ℝ) ≤ 6))]
    refine ⟨7, by norm_num, ?_, ?_, ?_⟩
    · have hm : max (⊥ : EReal) (-⊥) = ⊤ := by simp
      unfold code
      rw [hm]
      simp [bump, BitVec.add_assoc]
    · rw [hc, ← EReal.coe_neg, neg_neg, max_eq_right (by exact_mod_cast (by norm_num : (-6:ℝ) ≤ 6)), refQ_coe, if_neg (by norm_num), if_neg (by norm_num),
        rhe_eq (6 * (1/2)) 3 (.inl ⟨by norm_num, by norm_num⟩)]
      norm_num [tbl]
    · rw [hc]
      exact ⟨fun _ => EReal.bot_lt_zero, fun _ => by exact_mod_cast (by norm_num : (-6:ℝ) < 0)⟩
  | top =>
    have hc : clip ⊤ = ((6 : ℝ) : EReal) := by
      unfold clip
      rw [max_eq_right le_top, min_eq_left le_top]
    refine ⟨7, by norm_num, ?_, ?_, ?_⟩
    · have hm : max (⊤ : EReal) (-⊤) = ⊤ := by simp
      unfold code
      rw [hm]
      simp [bump, BitVec.add_assoc]
    · rw [hc, ← EReal.coe_neg, max_eq_left (by exact_mod_cast (by norm_num : (-6:ℝ) ≤ 6)), refQ_coe, if_neg (by norm_num), if_neg (by norm_num),
        rhe_eq (6 * (1/2)) 3 (.inl ⟨by norm_num, by norm_num⟩)]
      norm_num [tbl]
    · rw [hc]
      exact ⟨fun h => absurd h (by exact_mod_cast (by norm_num : ¬ (6:ℝ) < 0)), fun h => absurd h (by simp)⟩
  | coe r =>
    have hc : clip (r : EReal) = ((min 6 (max (-6) r) : ℝ) : EReal) := by
      unfold clip
      rw [coe_min', coe_max']
    obtain ⟨n, hn, hk, hq⟩ := region |r| (abs_nonneg r)
    have ha : max (r : EReal) (-(r : EReal)) = ((|r| : ℝ) : EReal) := by
      rw [abs, ← EReal.coe_neg, coe_max']
    refine ⟨n, hn, ?_, ?_, ?_⟩
    · rw [← hk]
      unfold code
      rw [ha]
      simp only [bump, EReal.coe_lt_coe_iff, EReal.coe_le_coe_iff]
    · rw [← hq, hc, ← EReal.coe_neg, ← coe_max']
      congr 2
      rcases le_total 0 r with h | h
      · rw [abs_of_nonneg h, max_eq_right (by linarith : (-6:ℝ) ≤ r), min_comm, max_eq_left]
        have : (0:ℝ) ≤ min r 6 := le_min h (by norm_num)
        linarith
      · rw [abs_of_nonpos h, min_eq_right (max_le (by norm_num) (by linarith) : max (-6) r ≤ 6), max_eq_right (by
          have : max (-6) r ≤ 0 := max_le (by norm_num) h
          linarith), ← min_neg_neg, neg_neg, min_comm]
    · rw [hc]
      have e : (min 6 (max (-6) r) < 0) ↔ r < 0 := by
        constructor
        · intro h
          rcases min_lt_iff.mp h with h | h
          · norm_num at h
          · exact (max_lt_iff.mp h).2
        · exact fun h => min_lt_of_right_lt (max_lt (by norm_num) h)
      exact_mod_cast e

/-- The reference's code is the kernel's. -/
theorem refCode_eq (v : EReal) : refCode v = code v := by
  obtain ⟨n, hn, hk, hq, hs⟩ := regionE v
  unfold refCode
  rw [hq, hk, refIdx_tbl n hn]
  simp only [hs]
  exact or_tbl n hn _ (by split_ifs <;> simp)

/-- The reference's rounded value is what the kernel reads from its code. -/
theorem refVal_eq (v : EReal) : refVal v = val (code v) := by
  obtain ⟨n, hn, hk, hq, hs⟩ := regionE v
  unfold refVal val
  rw [hq, hk, magn_tbl n hn _ (by split_ifs <;> simp)]
  simp only [hs]
  by_cases h : v < 0
  · rw [if_pos h, if_pos h, if_neg]
    interval_cases n <;> decide
  · rw [if_neg h, if_neg h, if_pos]
    interval_cases n <;> decide

/-- The tensor's scale: its largest magnitude over 448 times 6. -/
def sT (g : EReal) : EReal := g * ((1/2688 : ℝ) : EReal)

/-- A block's scale: the block's largest magnitude over the tensor's scale times 6, at most 448. -/
def sB (g a : EReal) : EReal := min (Ideal.div a (g * ((1/448 : ℝ) : EReal))) ((448 : ℝ) : EReal)

open Classical in
/-- The factor the kernel takes a block's weights by. -/
def rcp (d : EReal) : EReal := if 0 < d then Ideal.div ((1 : ℝ) : EReal) (if 0 < d then d else ((1 : ℝ) : EReal)) else 0

open Classical in
/-- A weight over its block's scale, as the reference divides. -/
def quo (w d : EReal) : EReal := if 0 < d then Ideal.div w (if 0 < d then d else ((1 : ℝ) : EReal)) else 0

/-- The tensor's scale as the reference divides. -/
theorem div_2688 (g : EReal) : Ideal.div g ((2688 : ℝ) : EReal) = sT g := by
  rw [Ideal.div_coe (by norm_num)]; rfl

/-- The tensor's scale times 6 is the largest magnitude over 448. -/
theorem sT_six (g : EReal) : sT g * ((6 : ℝ) : EReal) = g * ((1/448 : ℝ) : EReal) := by
  unfold sT
  rw [mul_assoc, ← EReal.coe_mul]
  norm_num

/-- Multiplying by the reciprocal is dividing. -/
theorem mul_rcp (w d : EReal) : w * rcp d = quo w d := by
  unfold rcp quo
  by_cases h : 0 < d
  · simp only [if_pos h]
    unfold Ideal.div
    rw [if_neg h.ne', if_neg h.ne', EReal.coe_one, one_mul]
  · simp only [if_neg h, mul_zero]

/-- For a largest magnitude not below zero, the kernel's added zero is zero. -/
theorem min_zero (g : EReal) (h : 0 ≤ g) : min g 0 = 0 := min_eq_right h

end Cert.Weight

end
-- ==== Proof.Bits.lean ====
/- Two 4-bit codes in a byte, and the exchange of the middle nibbles of each half of a 32-bit word, bit by bit. -/
module

public import Idealize.ShloMosaic.Lib.Pointwise.Tactic
public import Idealize.ShloMosaic.Lib.BitcastFour
public import Idealize.ShloMosaic.Lib.BitcastPair

@[expose] public section

noncomputable section

namespace Cert.Weight

open Idealize.ShloMosaic

/-- Two codes in one byte, the first in the low half. -/
def pack (c d : BitVec 32) : BitVec 8 := (c ||| d <<< 4).setWidth 8

/-- A word below sixteen has no bit from the fourth up. -/
theorem high_bit (c : BitVec 32) (h : c.toNat < 16) (i : Nat) (hi : 4 ≤ i) : c.getLsbD i = false := by
  rw [BitVec.getLsbD, Nat.testBit_lt_two_pow]
  calc c.toNat < 2 ^ 4 := h
    _ ≤ 2 ^ i := Nat.pow_le_pow_right (by norm_num) hi

/-- The low half of the byte is the first code, the high half the second. -/
theorem pack_bit (c d : BitVec 32) (h : c.toNat < 16) (i : Nat) (hi : i < 8) :
    (pack c d).getLsbD i = if i < 4 then c.getLsbD i else d.getLsbD (i - 4) := by
  unfold pack
  rw [BitVec.getLsbD_setWidth, BitVec.getLsbD_or, BitVec.getLsbD_shiftLeft]
  by_cases h4 : i < 4
  · simp [hi, h4, show i < 32 by omega]
  · rw [high_bit c h i (by omega)]; simp [hi, h4, show i < 32 by omega]

/-- The exchange of the two middle nibbles of each 16-bit half. -/
def swap (w : BitVec 32) : BitVec 32 :=
  (w ^^^ ((w ^^^ (w >>> 4)) &&& 15728880#32)) ^^^ (((w ^^^ (w >>> 4)) &&& 15728880#32) <<< 4)

/-- Where each bit of the exchanged word comes from. -/
def from_ (n : Nat) : Nat := if n % 16 / 4 = 1 then n + 4 else if n % 16 / 4 = 2 then n - 4 else n

theorem xor_mid (a b : Bool) : (a ^^ (b ^^ a)) = b := by cases a <;> cases b <;> rfl

theorem xor_mid' (a b : Bool) : ((a ^^ b) ^^ a) = b := by cases a <;> cases b <;> rfl

/-- The exchange, bit by bit. -/
theorem swap_bit (w : BitVec 32) (n : Nat) (hn : n < 32) : (swap w).getLsbD n = w.getLsbD (from_ n) := by
  unfold swap
  simp only [BitVec.getLsbD_xor, BitVec.getLsbD_and, BitVec.getLsbD_shiftLeft, BitVec.getLsbD_ushiftRight]
  interval_cases n <;> simp [from_, xor_mid, xor_mid']

end Cert.Weight

end
-- ==== Proof.Packing.lean ====
/- The packing of codes into bytes and the exchange of nibbles, read at an index; comparisons and constants at the extended reals. -/
module

public import proofs.«01_k».proof.Proof.Scalar
public import proofs.«01_k».proof.Proof.Bits
public import Idealize.ShloMosaic.Lib.Pipeline.Value
public import Idealize.ShloMosaic.Lib.Pipeline.ValueKit.Tiles
public import Idealize.ShloMosaic.Lib.ValueIdxCoords
public import Idealize.ShloMosaic.Lib.ValueLayout
public import proofs.«01_k».proof.Proof.Gen.KernelIdeal

@[expose] public section

noncomputable section

namespace Cert.Weight
open Idealize.ShloMosaic Idealize.ShloMosaic.TcCoe Idealize.SL.Sem
open Cert.KernelIdeal Cert.KernelIdeal.Gen
export Idealize.ShloMosaic.ValueIdx (ix2)

/-! ## Comparisons and constants at the extended reals -/

theorem sel_lt {α : Type} (a b : EReal) (x y : α) : Scalar.select (FloatOps.cmpf (F := Ideal) (φ := .f32) .olt a b) x y = if a < b then x else y := by
  show (if Ideal.cmp .olt a b = 1 then x else y) = _
  unfold Ideal.cmp
  by_cases h : a < b <;> simp [h]

theorem sel_gt {α : Type} (a b : EReal) (x y : α) : Scalar.select (FloatOps.cmpf (F := Ideal) (φ := .f32) .ogt a b) x y = if b < a then x else y := by
  show (if Ideal.cmp .ogt a b = 1 then x else y) = _
  unfold Ideal.cmp
  by_cases h : b < a <;> simp [h]

theorem sel_ge {α : Type} (a b : EReal) (x y : α) : Scalar.select (FloatOps.cmpf (F := Ideal) (φ := .f32) .oge a b) x y = if b ≤ a then x else y := by
  show (if Ideal.cmp .oge a b = 1 then x else y) = _
  unfold Ideal.cmp
  by_cases h : b ≤ a <;> simp [h]

theorem lit0 : (FloatOps.ofBits .f32 0#32 : Ideal .f32) = (0 : EReal) := by
  show Ideal.ofBits .f32 0#32 = _
  simp [Ideal.ofBits, Ideal.ieee, -EReal.coe_mul]

theorem sel_slt {α : Type} (a b : BitVec 32) (x y : α) : Scalar.select (IntOp.cmpi .slt a b) x y = if a.slt b then x else y := by
  show (if BitVec.ofBool (a.slt b) = 1 then x else y) = _
  by_cases h : a.slt b <;> simp [h]

theorem lit1048576000 : (FloatOps.ofBits .f32 1048576000#32 : Ideal .f32) = ((1/4 : ℝ) : EReal) := by
  show Ideal.ofBits .f32 1048576000#32 = _
  simp [Ideal.ofBits, Ideal.ieee, -EReal.coe_mul]
  try norm_num

theorem lit1061158912 : (FloatOps.ofBits .f32 1061158912#32 : Ideal .f32) = ((3/4 : ℝ) : EReal) := by
  show Ideal.ofBits .f32 1061158912#32 = _
  simp [Ideal.ofBits, Ideal.ieee, -EReal.coe_mul]
  try norm_num

theorem lit1067450368 : (FloatOps.ofBits .f32 1067450368#32 : Ideal .f32) = ((5/4 : ℝ) : EReal) := by
  show Ideal.ofBits .f32 1067450368#32 = _
  simp [Ideal.ofBits, Ideal.ieee, -EReal.coe_mul]
  try norm_num

theorem lit1071644672 : (FloatOps.ofBits .f32 1071644672#32 : Ideal .f32) = ((7/4 : ℝ) : EReal) := by
  show Ideal.ofBits .f32 1071644672#32 = _
  simp [Ideal.ofBits, Ideal.ieee, -EReal.coe_mul]
  try norm_num

theorem lit1075838976 : (FloatOps.ofBits .f32 1075838976#32 : Ideal .f32) = ((5/2 : ℝ) : EReal) := by
  show Ideal.ofBits .f32 1075838976#32 = _
  simp [Ideal.ofBits, Ideal.ieee, -EReal.coe_mul]
  try norm_num

theorem lit1080033280 : (FloatOps.ofBits .f32 1080033280#32 : Ideal .f32) = ((7/2 : ℝ) : EReal) := by
  show Ideal.ofBits .f32 1080033280#32 = _
  simp [Ideal.ofBits, Ideal.ieee, -EReal.coe_mul]
  try norm_num

theorem lit1084227584 : (FloatOps.ofBits .f32 1084227584#32 : Ideal .f32) = ((5 : ℝ) : EReal) := by
  show Ideal.ofBits .f32 1084227584#32 = _
  simp [Ideal.ofBits, Ideal.ieee, -EReal.coe_mul]
  try norm_num

theorem lit1056964608 : (FloatOps.ofBits .f32 1056964608#32 : Ideal .f32) = ((1/2 : ℝ) : EReal) := by
  show Ideal.ofBits .f32 1056964608#32 = _
  simp [Ideal.ofBits, Ideal.ieee, -EReal.coe_mul]
  try norm_num

theorem lit1073741824 : (FloatOps.ofBits .f32 1073741824#32 : Ideal .f32) = ((2 : ℝ) : EReal) := by
  show Ideal.ofBits .f32 1073741824#32 = _
  simp [Ideal.ofBits, Ideal.ieee, -EReal.coe_mul]
  try norm_num

theorem lit1090519040 : (FloatOps.ofBits .f32 1090519040#32 : Ideal .f32) = ((8 : ℝ) : EReal) := by
  show Ideal.ofBits .f32 1090519040#32 = _
  simp [Ideal.ofBits, Ideal.ieee, -EReal.coe_mul]
  try norm_num

theorem lit1138753536 : (FloatOps.ofBits .f32 1138753536#32 : Ideal .f32) = ((448 : ℝ) : EReal) := by
  show Ideal.ofBits .f32 1138753536#32 = _
  simp [Ideal.ofBits, Ideal.ieee, -EReal.coe_mul]
  try norm_num

theorem lit1065353216 : (FloatOps.ofBits .f32 1065353216#32 : Ideal .f32) = ((1 : ℝ) : EReal) := by
  show Ideal.ofBits .f32 1065353216#32 = _
  simp [Ideal.ofBits, Ideal.ieee, -EReal.coe_mul]
  try norm_num

/-- A code is below sixteen. -/
theorem code_lt (v : EReal) : (code v).toNat < 16 := by
  obtain ⟨n, hn, h, -⟩ := regionE v
  rw [h]
  by_cases h0 : v < 0
  · rw [if_pos h0]; interval_cases n <;> decide
  · rw [if_neg h0]; interval_cases n <;> decide

/-- The even rows of a block of codes. -/
theorem even_rows (x : S256x512.Idx → BitVec 32) (h1 : S256x512.ShapeCasts S128x2x512) (h2 : S128x2x512.Slices ![0, 0, 0] S128x1x512)
    (h3 : S128x1x512.ShapeCasts S128x512) (b : Fin 128) (l : Fin 512) :
    shapeCast S128x512 (extractStridedSlice S128x1x512 ![0, 0, 0] (shapeCast S128x2x512 x h1) h2) h3 (ix2 b l)
      = x (ix2 (⟨2 * b.val, by omega⟩ : Fin 256) l) := by
  rw [shapeCast_apply _ _ _ (ValueIdx.ix3 b (0 : Fin 1) l) (by
      rw [Shape.rowMajor_val_three, Shape.rowMajor_val_two]
      show (b.val * 1 + 0) * 512 + l.val = b.val * 512 + l.val; omega),
    extractStridedSlice_apply _ _ _ _ (ValueIdx.ix3 b (0 : Fin 2) l) (fun a => by
      match a with
      | ⟨0, _⟩ => show b.val = 0 + b.val; omega
      | ⟨1, _⟩ => rfl
      | ⟨2, _⟩ => show l.val = 0 + l.val; omega),
    shapeCast_apply _ _ _ (ix2 (⟨2 * b.val, by omega⟩ : Fin 256) l) (by
      rw [Shape.rowMajor_val_three, Shape.rowMajor_val_two]
      show 2 * b.val * 512 + l.val = (b.val * 2 + 0) * 512 + l.val; omega)]

/-- The odd rows of a block of codes. -/
theorem odd_rows (x : S256x512.Idx → BitVec 32) (h1 : S256x512.ShapeCasts S128x2x512) (h2 : S128x2x512.Slices ![0, 1, 0] S128x1x512)
    (h3 : S128x1x512.ShapeCasts S128x512) (b : Fin 128) (l : Fin 512) :
    shapeCast S128x512 (extractStridedSlice S128x1x512 ![0, 1, 0] (shapeCast S128x2x512 x h1) h2) h3 (ix2 b l)
      = x (ix2 (⟨2 * b.val + 1, by omega⟩ : Fin 256) l) := by
  rw [shapeCast_apply _ _ _ (ValueIdx.ix3 b (0 : Fin 1) l) (by
      rw [Shape.rowMajor_val_three, Shape.rowMajor_val_two]
      show (b.val * 1 + 0) * 512 + l.val = b.val * 512 + l.val; omega),
    extractStridedSlice_apply _ _ _ _ (ValueIdx.ix3 b (1 : Fin 2) l) (fun a => by
      match a with
      | ⟨0, _⟩ => show b.val = 0 + b.val; omega
      | ⟨1, _⟩ => rfl
      | ⟨2, _⟩ => show l.val = 0 + l.val; omega),
    shapeCast_apply _ _ _ (ix2 (⟨2 * b.val + 1, by omega⟩ : Fin 256) l) (by
      rw [Shape.rowMajor_val_three, Shape.rowMajor_val_two]
      show (2 * b.val + 1) * 512 + l.val = (b.val * 2 + 1) * 512 + l.val; omega)]

/-- A byte of the exchanged words: its bit is a bit of one of the two bytes the exchange reads. -/
theorem swapped_bit (T : S512x128.Idx → BitVec 8) (h1 : S512x128.Bitcasts 8 S128x128 32) (h2 : S128x128.Bitcasts 32 S256x128 16)
    (p : Fin 256) (b : Fin 128) (n : Nat) (hn : n < 16) (q : Fin 512) (hq : q.val = 2 * p.val + from_ n / 8) :
    (bitcast S256x128 16 (fun i => swap (bitcast S128x128 32 T h1 i)) h2 (ix2 p b)).getLsbD n
      = (T (ix2 q b)).getLsbD (from_ n % 8) := by
  have hf : from_ n < 16 := by unfold from_; interval_cases n <;> decide
  rw [bitcast_getLsbD _ _ _ n hn (by decide)]
  have hrow : S256x128.row (ix2 p b) = p.val := rfl
  have hi : h2.srcIdx (ix2 p b) ((S256x128.row (ix2 p b) * 16 + n) / 32) (fun a ha =>
      (Nat.div_lt_iff_lt_mul (by decide)).2 (h2.pos_lt (ix2 p b) n hn a ha)) = ix2 (⟨p.val / 2, by omega⟩ : Fin 128) b := by
    funext c
    match c with
    | ⟨0, _⟩ => exact Fin.ext ((h2.srcIdx_row _ _ _ ⟨0, Nat.zero_lt_two⟩ rfl).trans (by rw [hrow]; show (p.val * 16 + n) / 32 = p.val / 2; omega))
    | ⟨1, _⟩ => exact Fin.ext (h2.srcIdx_other _ _ _ ⟨1, Nat.one_lt_two⟩ (by show ¬ 1 + 2 = 2; omega))
  rw [hi, hrow, swap_bit _ _ (by omega)]
  have hm : from_ ((p.val * 16 + n) % 32) = (p.val % 2) * 16 + from_ n := by
    rcases Nat.mod_two_eq_zero_or_one p.val with h | h
    · have : (p.val * 16 + n) % 32 = n := by omega
      rw [this, h]; omega
    · have : (p.val * 16 + n) % 32 = 16 + n := by omega
      rw [this, h]; unfold from_; interval_cases n <;> decide
  rw [hm, bitcast_8_32_getLsbD_ix2 T h1 (⟨p.val / 2, by omega⟩ : Fin 128) b _ (by omega) q (by
    rw [hq]; show 2 * p.val + from_ n / 8 = 4 * (p.val / 2) + (p.val % 2 * 16 + from_ n) / 8; omega)]
  congr 1; omega

/-- The exchanged words' bytes pair the codes along the columns. -/
theorem swapped (T : S512x128.Idx → BitVec 8) (cc : Fin 256 → Fin 512 → BitVec 32) (hc : ∀ a l, (cc a l).toNat < 16)
    (hT : ∀ (l : Fin 512) (b : Fin 128), T (ix2 l b) = pack (cc ⟨2 * b.val, by omega⟩ l) (cc ⟨2 * b.val + 1, by omega⟩ l))
    (h1 : S512x128.Bitcasts 8 S128x128 32) (h2 : S128x128.Bitcasts 32 S256x128 16) (p : Fin 256) (b : Fin 128) (n : Nat) (hn : n < 16) :
    (bitcast S256x128 16 (fun i => swap (bitcast S128x128 32 T h1 i)) h2 (ix2 p b)).getLsbD n
      = if n < 8 then (pack (cc ⟨2 * b.val, by omega⟩ ⟨2 * p.val, by omega⟩) (cc ⟨2 * b.val, by omega⟩ ⟨2 * p.val + 1, by omega⟩)).getLsbD n
        else (pack (cc ⟨2 * b.val + 1, by omega⟩ ⟨2 * p.val, by omega⟩) (cc ⟨2 * b.val + 1, by omega⟩ ⟨2 * p.val + 1, by omega⟩)).getLsbD (n - 8) := by
  have hf : from_ n < 16 := by unfold from_; interval_cases n <;> decide
  by_cases hq : from_ n / 8 = 0
  · rw [swapped_bit T h1 h2 p b n hn ⟨2 * p.val, by omega⟩ (by show 2 * p.val = _; omega), hT, pack_bit _ _ (hc _ _) _ (by omega)]
    by_cases h8 : n < 8
    · rw [if_pos h8, pack_bit _ _ (hc _ _) n h8]
      clear hT hf hn; interval_cases n <;> simp [from_] at hq ⊢
    · rw [if_neg h8, pack_bit _ _ (hc _ _) (n - 8) (by omega)]
      clear hT hf; interval_cases n <;> simp [from_] at h8 hq ⊢
  · rw [swapped_bit T h1 h2 p b n hn ⟨2 * p.val + 1, by omega⟩ (by show 2 * p.val + 1 = _; omega), hT, pack_bit _ _ (hc _ _) _ (by omega)]
    by_cases h8 : n < 8
    · rw [if_pos h8, pack_bit _ _ (hc _ _) n h8]
      clear hT hf hn; interval_cases n <;> simp [from_] at hq ⊢
    · rw [if_neg h8, pack_bit _ _ (hc _ _) (n - 8) (by omega)]
      clear hT hf; interval_cases n <;> simp [from_] at h8 hq ⊢

/-- The low byte of a 16-bit word. -/
theorem byte_lo (z : BitVec 16) (i : Nat) (hi : i < 8) : (BitVec.setWidth 8 (IntOp.andi (z.setWidth 32) 255#32)).getLsbD i = z.getLsbD i := by
  simp only [IntOp.andi, BitVec.getLsbD_setWidth, BitVec.getLsbD_and]
  interval_cases i <;> simp

/-- The high byte of a 16-bit word. -/
theorem byte_hi (z : BitVec 16) (i : Nat) (hi : i < 8) : (BitVec.setWidth 8 (IntOp.shrsi .vector (z.setWidth 32) 8#32)).getLsbD i = z.getLsbD (8 + i) := by
  have e : IntOp.shrsi .vector (z.setWidth 32) 8#32 = (z.setWidth 32).sshiftRight 8 := rfl
  rw [e]
  simp only [BitVec.getLsbD_setWidth, BitVec.getLsbD_sshiftRight]
  interval_cases i <;> simp

/-- Two rows stacked, read in the first. -/
theorem stack_lo {α : Type} (X Y : S128x1x256.Idx → α) (h : Shape.Concatenates ([S128x1x256, S128x1x256]) S128x2x256 1) (r : Fin 128) (e : Fin 2) (he : e.val = 0) (j : Fin 256) :
    concatenate S128x2x256 1 [⟨S128x1x256, X⟩, ⟨S128x1x256, Y⟩] h (ValueIdx.ix3 r e j) = X (ValueIdx.ix3 r (0 : Fin 1) j) :=
  concatenate_apply_piece (t := S128x2x256) 1 [⟨S128x1x256, X⟩, ⟨S128x1x256, Y⟩] h (ValueIdx.ix3 r e j) 0 (by simp) S128x1x256 X rfl rfl 0 rfl (ValueIdx.ix3 r (0 : Fin 1) j)
    (fun b hb => by
      match b with
      | ⟨0, _⟩ => rfl
      | ⟨1, _⟩ => exact absurd rfl hb
      | ⟨2, _⟩ => rfl) he.symm

/-- Two rows stacked, read in the second. -/
theorem stack_hi {α : Type} (X Y : S128x1x256.Idx → α) (h : Shape.Concatenates ([S128x1x256, S128x1x256]) S128x2x256 1) (r : Fin 128) (e : Fin 2) (he : e.val = 1) (j : Fin 256) :
    concatenate S128x2x256 1 [⟨S128x1x256, X⟩, ⟨S128x1x256, Y⟩] h (ValueIdx.ix3 r e j) = Y (ValueIdx.ix3 r (0 : Fin 1) j) :=
  concatenate_apply_piece (t := S128x2x256) 1 [⟨S128x1x256, X⟩, ⟨S128x1x256, Y⟩] h (ValueIdx.ix3 r e j) 1 (by simp) S128x1x256 Y rfl rfl 1 rfl (ValueIdx.ix3 r (0 : Fin 1) j)
    (fun b hb => by
      match b with
      | ⟨0, _⟩ => rfl
      | ⟨1, _⟩ => exact absurd rfl hb
      | ⟨2, _⟩ => rfl) he.symm

/-- The two bytes of the exchanged words, laid in alternate rows, read at an index. -/
theorem byte_rows (T : S512x128.Idx → BitVec 8) (cc : Fin 256 → Fin 512 → BitVec 32) (hc : ∀ a l, (cc a l).toNat < 16)
    (hT : ∀ (l : Fin 512) (b : Fin 128), T (ix2 l b) = pack (cc ⟨2 * b.val, by omega⟩ l) (cc ⟨2 * b.val + 1, by omega⟩ l))
    (h1 : S512x128.Bitcasts 8 S128x128 32) (h2 : S128x128.Bitcasts 32 S256x128 16) (h3 : S256x128.Transposes [1, 0] S128x256)
    (h4 : S128x256.ShapeCasts S128x1x256) (h5 : Shape.Concatenates ([S128x1x256, S128x1x256]) S128x2x256 1) (h6 : S128x2x256.ShapeCasts S256x256)
    (a j : Fin 256) :
    BitVec.setWidth 8 (shapeCast S256x256 (concatenate S128x2x256 1
      [⟨S128x1x256, shapeCast S128x1x256 (fun i => IntOp.andi ((transpose S128x256 [1, 0] (bitcast S256x128 16 (fun i => swap (bitcast S128x128 32 T h1 i)) h2) h3 i).setWidth 32) 255#32) h4⟩,
       ⟨S128x1x256, shapeCast S128x1x256 (fun i => IntOp.shrsi .vector ((transpose S128x256 [1, 0] (bitcast S256x128 16 (fun i => swap (bitcast S128x128 32 T h1 i)) h2) h3 i).setWidth 32) 8#32) h4⟩] h5) h6 (ix2 a j))
      = pack (cc a ⟨2 * j.val, by omega⟩) (cc a ⟨2 * j.val + 1, by omega⟩) := by
  have hb : a.val / 2 < 128 := by omega
  rw [shapeCast_apply _ h6 _ (ValueIdx.ix3 (⟨a.val / 2, hb⟩ : Fin 128) (⟨a.val % 2, by omega⟩ : Fin 2) j) (by
      rw [Shape.rowMajor_val_three, Shape.rowMajor_val_two]
      show (a.val / 2 * 2 + a.val % 2) * 256 + j.val = a.val * 256 + j.val; omega)]
  have hs : ∀ x : S128x256.Idx → BitVec 32, shapeCast S128x1x256 x h4 (ValueIdx.ix3 (⟨a.val / 2, hb⟩ : Fin 128) (0 : Fin 1) j) = x (ix2 (⟨a.val / 2, hb⟩ : Fin 128) j) := fun x =>
    shapeCast_apply _ _ _ _ (by
      rw [Shape.rowMajor_val_three, Shape.rowMajor_val_two]
      show a.val / 2 * 256 + j.val = (a.val / 2 * 1 + 0) * 256 + j.val; omega)
  apply BitVec.eq_of_getLsbD_eq
  intro i hi
  rcases Nat.mod_two_eq_zero_or_one a.val with h | h
  · rw [stack_lo _ _ h5 _ _ h, hs, ValueIdx.transpose_ix2_apply, byte_lo _ i hi, swapped T cc hc hT h1 h2 j _ i (by omega), if_pos hi]
    congr 3 <;> exact Fin.ext (by show 2 * (a.val / 2) = a.val; omega)
  · rw [stack_hi _ _ h5 _ _ h, hs, ValueIdx.transpose_ix2_apply, byte_hi _ i hi, swapped T cc hc hT h1 h2 j _ (8 + i) (by omega), if_neg (by omega),
      Nat.add_sub_cancel_left]
    congr 3 <;> exact Fin.ext (by show 2 * (a.val / 2) + 1 = a.val; omega)

end Cert.Weight

end
-- ==== Proof.Spec.lean ====
/- The five results as plain formulas over the arguments, shared by the kernel and the reference. -/
module

public import proofs.«01_k».proof.Proof.Packing

@[expose] public section

noncomputable section

namespace Cert.Weight
open Idealize.ShloMosaic
export Idealize.ShloMosaic.ValueIdx (ix2)

/-- The four-bit code of weight `(m, n)`: the weight over its block's scale times the tensor's, rounded to the nearest of the sixteen values. -/
def cs (g : EReal) (A : (⟨2, ![1152, 512]⟩ : Shape).Idx → EReal) (W : (⟨2, ![18432, 7168]⟩ : Shape).Idx → EReal) (m : Fin 18432) (n : Fin 7168) : BitVec 32 :=
  code (quo (W (ix2 m n)) (sB g (A (ix2 (⟨m.val / 16, by omega⟩ : Fin 1152) (⟨n.val / 16, by omega⟩ : Fin 512))) * sT g))

/-- Entry `(r, m)` of the product: the row of `X` against the dequantised row of weights, times the two tensor scales. -/
def ys (g s : EReal) (A : (⟨2, ![1152, 512]⟩ : Shape).Idx → EReal) (W : (⟨2, ![18432, 7168]⟩ : Shape).Idx → EReal) (X : (⟨2, ![128, 7168]⟩ : Shape).Idx → EReal)
    (r : Fin 128) (m : Fin 18432) : EReal :=
  (∑ n : Fin 7168, X (ix2 r n) * (val (cs g A W m n) * sB g (A (ix2 (⟨m.val / 16, by omega⟩ : Fin 1152) (⟨n.val / 16, by omega⟩ : Fin 512))))) * (sT g * s)

/-- The product's array. -/
def R5 (g s : EReal) (A : (⟨2, ![1152, 512]⟩ : Shape).Idx → EReal) (W : (⟨2, ![18432, 7168]⟩ : Shape).Idx → EReal) (X : (⟨2, ![128, 7168]⟩ : Shape).Idx → EReal) :
    (⟨2, ![128, 18432]⟩ : Shape).Idx → EReal := fun y => ys g s A W X (y 0) (y 1)

/-- The codes packed in pairs of neighbouring columns. -/
def R6 (g : EReal) (A : (⟨2, ![1152, 512]⟩ : Shape).Idx → EReal) (W : (⟨2, ![18432, 7168]⟩ : Shape).Idx → EReal) :
    (⟨2, ![18432, 3584]⟩ : Shape).Idx → BitVec 8 := fun y =>
  pack (cs g A W (y 0) ⟨2 * (y 1).val, by have h : (y 1).val < 3584 := (y 1).isLt; omega⟩) (cs g A W (y 0) ⟨2 * (y 1).val + 1, by have h : (y 1).val < 3584 := (y 1).isLt; omega⟩)

/-- The transposed codes packed in pairs of neighbouring rows. -/
def R7 (g : EReal) (A : (⟨2, ![1152, 512]⟩ : Shape).Idx → EReal) (W : (⟨2, ![18432, 7168]⟩ : Shape).Idx → EReal) :
    (⟨2, ![7168, 9216]⟩ : Shape).Idx → BitVec 8 := fun y =>
  pack (cs g A W ⟨2 * (y 1).val, by have h : (y 1).val < 9216 := (y 1).isLt; omega⟩ (y 0)) (cs g A W ⟨2 * (y 1).val + 1, by have h : (y 1).val < 9216 := (y 1).isLt; omega⟩ (y 0))

/-- The block scales. -/
def R8 (g : EReal) (A : (⟨2, ![1152, 512]⟩ : Shape).Idx → EReal) : (⟨2, ![1152, 448]⟩ : Shape).Idx → EReal := fun y =>
  sB g (A (ix2 (⟨(y 0).val, (y 0).isLt⟩ : Fin 1152) (⟨(y 1).val, by have h : (y 1).val < 448 := (y 1).isLt; omega⟩ : Fin 512)))

/-- The tensor scale. -/
def R9 (g : EReal) : (⟨2, ![1, 1]⟩ : Shape).Idx → EReal := fun _ => sT g

end Cert.Weight
end
-- ==== Proof.Trip.lean ====
/- One trip of the kernel's inner loop, read at an index: the scaled weights, their codes, the two packed code blocks
   and the dequantised weights. -/
module

public import proofs.«01_k».proof.Proof.Packing
public import proofs.«01_k».proof.Proof.Gen.KernelIdeal.Loops

@[expose] public section

noncomputable section

namespace Cert.Weight
open Idealize.ShloMosaic Idealize.ShloMosaic.TcCoe Idealize.SL.Sem
open Cert.KernelIdeal Cert.KernelIdeal.Gen
export Idealize.ShloMosaic.ValueIdx (ix2)

/-- Column `l` of the loop's block `k`. -/
def col (k : Fin k0_t1_loop.trips) (l : Fin 512) : Fin 7168 := ⟨512 * k.val + l.val, by
  have h1 := k0_t1_abs.2.1; have h2 := k.isLt; have h3 := l.isLt; omega⟩

/-- The weight scaled: the weight times the block's reciprocal, plus the row's zero term. -/
def sv (w : S256x7168.Idx → EReal) (re : S16x7168.Idx → EReal) (v1 : EReal) (a : Fin 256) (n : Fin 7168) : EReal :=
  w (ix2 a n) * re (ix2 (⟨a.val / 16, by omega⟩ : Fin 16) n) + v1

/-- Sixteen blocks of sixteen rows laid one under another, read at an index. -/
theorem concat16 {α : Type} (f : Fin 16 → S16x512.Idx → α) (R : Fin 256 → Fin 512 → α)
    (hf : ∀ (g : Fin 16) (i : Fin 16) (l : Fin 512), f g (ix2 i l) = R ⟨16 * g.val + i.val, by omega⟩ l)
    (h : Shape.Concatenates (([⟨S16x512, f 0⟩, ⟨S16x512, f 1⟩, ⟨S16x512, f 2⟩, ⟨S16x512, f 3⟩, ⟨S16x512, f 4⟩, ⟨S16x512, f 5⟩,
      ⟨S16x512, f 6⟩, ⟨S16x512, f 7⟩, ⟨S16x512, f 8⟩, ⟨S16x512, f 9⟩, ⟨S16x512, f 10⟩, ⟨S16x512, f 11⟩, ⟨S16x512, f 12⟩, ⟨S16x512, f 13⟩,
      ⟨S16x512, f 14⟩, ⟨S16x512, f 15⟩] : List ((s : Shape) × (s.Idx → α))).map (·.1)) S256x512 0) (a : Fin 256) (l : Fin 512) :
    concatenate S256x512 0 ([⟨S16x512, f 0⟩, ⟨S16x512, f 1⟩, ⟨S16x512, f 2⟩, ⟨S16x512, f 3⟩, ⟨S16x512, f 4⟩, ⟨S16x512, f 5⟩,
      ⟨S16x512, f 6⟩, ⟨S16x512, f 7⟩, ⟨S16x512, f 8⟩, ⟨S16x512, f 9⟩, ⟨S16x512, f 10⟩, ⟨S16x512, f 11⟩, ⟨S16x512, f 12⟩, ⟨S16x512, f 13⟩,
      ⟨S16x512, f 14⟩, ⟨S16x512, f 15⟩] : List ((s : Shape) × (s.Idx → α))) h (ix2 a l) = R a l := by
  have e := concatenate_ofFn_apply (t := S256x512) (s₁ := S16x512) 0 f h rfl 16 rfl (ix2 a l) ⟨a.val / 16, by omega⟩ rfl
    (ix2 (⟨a.val % 16, by omega⟩ : Fin 16) l) rfl (fun b hb => by
      match b with
      | ⟨0, _⟩ => exact absurd rfl hb
      | ⟨1, _⟩ => rfl)
  refine e.trans ((hf _ _ _).trans ?_)
  congr 1
  exact Fin.ext (by show 16 * (a.val / 16) + a.val % 16 = a.val; omega)

/-- One row repeated down sixteen rows, read at an index. -/
theorem brow {α : Type} (x : S1x512.Idx → α) (h : S1x512.Broadcasts S16x512) (i : Fin 16) (l : Fin 512) :
    broadcastTo S16x512 x h (ix2 i l) = x (ix2 (0 : Fin 1) l) :=
  broadcastTo_apply _ _ _ _ (fun a => by match a with | ⟨0, _⟩ => rfl | ⟨1, _⟩ => rfl)

/-- Sixteen rows of values times one row of scales, read at an index. -/
theorem deq_word (x : S256x512.Idx → EReal) (r : S1x512.Idx → EReal) (o : Nat) (h1 : S256x512.Slices ![o, 0] S16x512) (h2 : S1x512.ShapeCasts S1x512)
    (h3 : S1x512.Broadcasts S16x512) (i : Fin 16) (l : Fin 512) (a : Fin 256) (ha : a.val = o + i.val) :
    mulf (F := Ideal) (φ := .bf16) (extractStridedSlice S16x512 ![o, 0] x h1) (truncf (F := Ideal) .bf16 (broadcastTo S16x512 (shapeCast S1x512 r h2) h3 : FVec Ideal S16x512 .f32) (by decide)) (ix2 i l)
      = x (ix2 a l) * r (ix2 (0 : Fin 1) l) := by
  have e1 := extractStridedSlice_apply ![o, 0] x h1 (ix2 i l) (ix2 a l) (fun c => by
    match c with
    | ⟨0, _⟩ => exact ha
    | ⟨1, _⟩ => show l.val = 0 + l.val; omega)
  have e2 := brow (shapeCast S1x512 r h2) h3 i l
  have e4 : shapeCast S1x512 r h2 (ix2 (0 : Fin 1) l) = r (ix2 (0 : Fin 1) l) := congrFun (shapeCast_self r h2) _
  rw [← e1, ← e4, ← e2]
  rfl

section Words
variable (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole)
  (v1 : Ideal .f32) (X_arg3 : BufTy.Contents (Elt Ideal) arg3.view.ty) (X_arg5 : BufTy.Contents (Elt Ideal) arg5.view.ty)
  (X_arg12 : BufTy.Contents (Elt Ideal) arg12.view.ty) (X_arg13 : BufTy.Contents (Elt Ideal) arg13.view.ty) (k : Fin k0_t1_loop.trips)

/-- A block of sixteen rows of weights, read at an index. -/
theorem w_at (off : Fin 2 → Nat) (inb : ∀ a, off a + S16x512.size a ≤ S256x7168.size a) (g : Nat) (hg : g < 16) (h : off = ![16 * g, 512 * k.val]) (i : Fin 16) (l : Fin 512) :
    View.readAt (Elt Ideal) arg3.view (Rect.unit (s := S256x7168) off S16x512.size inb).toLoadRect X_arg3 (ix2 i l)
      = arg3.view.read (Elt Ideal) X_arg3 (ix2 (⟨16 * g + i.val, by omega⟩ : Fin 256) (col k l)) := by
  subst h
  exact View.ld_unit_apply_of _ _ _ _ _ _ fun a => by match a with | ⟨0, _⟩ => rfl | ⟨1, _⟩ => rfl

/-- A row of expanded scales, read at a column. -/
theorem e_at (v : View sig .tc .vmem S16x7168 .f32) (X : BufTy.Contents (Elt Ideal) v.ty) (off : Fin 2 → Nat) (inb : ∀ a, off a + S1x512.size a ≤ S16x7168.size a) (g : Nat) (hg : g < 16)
    (h : off = ![g, 512 * k.val]) (l : Fin 512) :
    View.readAt (Elt Ideal) v (Rect.unit (s := S16x7168) off S1x512.size inb).toLoadRect X (ix2 (0 : Fin 1) l)
      = v.read (Elt Ideal) X (ix2 (⟨g, hg⟩ : Fin 16) (col k l)) := by
  subst h
  exact View.ld_unit_apply_of _ _ _ _ _ _ fun a => by match a with | ⟨0, _⟩ => rfl | ⟨1, _⟩ => rfl

theorem row0 (i : Fin 16) (l : Fin 512) : trip_k0_t1.sl.v2899 arg3 arg12 v1 X_arg3 X_arg12 k (ix2 i l)
    = sv (arg3.view.read (Elt Ideal) X_arg3) (arg12.view.read (Elt Ideal) X_arg12) v1 ⟨16 * 0 + i.val, by omega⟩ (col k l) := by
  have e1 := w_at arg3 X_arg3 k (k0_off3 k) (k0_off3_inb k) 0 (by norm_num) (k0_off3_eq k) i l
  have e2 := e_at k arg12.view X_arg12 (k0_off2 k) (k0_off2_inb k) 0 (by norm_num) (k0_off2_eq k) l
  have e3 : (⟨(16 * 0 + i.val) / 16, by omega⟩ : Fin 16) = ⟨0, by norm_num⟩ := Fin.ext (by show (16 * 0 + i.val) / 16 = 0; omega)
  unfold sv; dsimp only
  rw [e3, ← e1, ← e2]
  exact congrArg (fun z => View.readAt (Elt Ideal) arg3.view (Rect.unit (s := S256x7168) (k0_off3 k) S16x512.size (k0_off3_inb k)).toLoadRect X_arg3 (ix2 i l) * z + v1) (brow _ (by decide) i l)

theorem row1 (i : Fin 16) (l : Fin 512) : trip_k0_t1.sl.v2908 arg3 arg12 v1 X_arg3 X_arg12 k (ix2 i l)
    = sv (arg3.view.read (Elt Ideal) X_arg3) (arg12.view.read (Elt Ideal) X_arg12) v1 ⟨16 * 1 + i.val, by omega⟩ (col k l) := by
  have e1 := w_at arg3 X_arg3 k (k0_off5 k) (k0_off5_inb k) 1 (by norm_num) (k0_off5_eq k) i l
  have e2 := e_at k arg12.view X_arg12 (k0_off4 k) (k0_off4_inb k) 1 (by norm_num) (k0_off4_eq k) l
  have e3 : (⟨(16 * 1 + i.val) / 16, by omega⟩ : Fin 16) = ⟨1, by norm_num⟩ := Fin.ext (by show (16 * 1 + i.val) / 16 = 1; omega)
  unfold sv; dsimp only
  rw [e3, ← e1, ← e2]
  exact congrArg (fun z => View.readAt (Elt Ideal) arg3.view (Rect.unit (s := S256x7168) (k0_off5 k) S16x512.size (k0_off5_inb k)).toLoadRect X_arg3 (ix2 i l) * z + v1) (brow _ (by decide) i l)

theorem row2 (i : Fin 16) (l : Fin 512) : trip_k0_t1.sl.v2917 arg3 arg12 v1 X_arg3 X_arg12 k (ix2 i l)
    = sv (arg3.view.read (Elt Ideal) X_arg3) (arg12.view.read (Elt Ideal) X_arg12) v1 ⟨16 * 2 + i.val, by omega⟩ (col k l) := by
  have e1 := w_at arg3 X_arg3 k (k0_off7 k) (k0_off7_inb k) 2 (by norm_num) (k0_off7_eq k) i l
  have e2 := e_at k arg12.view X_arg12 (k0_off6 k) (k0_off6_inb k) 2 (by norm_num) (k0_off6_eq k) l
  have e3 : (⟨(16 * 2 + i.val) / 16, by omega⟩ : Fin 16) = ⟨2, by norm_num⟩ := Fin.ext (by show (16 * 2 + i.val) / 16 = 2; omega)
  unfold sv; dsimp only
  rw [e3, ← e1, ← e2]
  exact congrArg (fun z => View.readAt (Elt Ideal) arg3.view (Rect.unit (s := S256x7168) (k0_off7 k) S16x512.size (k0_off7_inb k)).toLoadRect X_arg3 (ix2 i l) * z + v1) (brow _ (by decide) i l)

theorem row3 (i : Fin 16) (l : Fin 512) : trip_k0_t1.sl.v2926 arg3 arg12 v1 X_arg3 X_arg12 k (ix2 i l)
    = sv (arg3.view.read (Elt Ideal) X_arg3) (arg12.view.read (Elt Ideal) X_arg12) v1 ⟨16 * 3 + i.val, by omega⟩ (col k l) := by
  have e1 := w_at arg3 X_arg3 k (k0_off9 k) (k0_off9_inb k) 3 (by norm_num) (k0_off9_eq k) i l
  have e2 := e_at k arg12.view X_arg12 (k0_off8 k) (k0_off8_inb k) 3 (by norm_num) (k0_off8_eq k) l
  have e3 : (⟨(16 * 3 + i.val) / 16, by omega⟩ : Fin 16) = ⟨3, by norm_num⟩ := Fin.ext (by show (16 * 3 + i.val) / 16 = 3; omega)
  unfold sv; dsimp only
  rw [e3, ← e1, ← e2]
  exact congrArg (fun z => View.readAt (Elt Ideal) arg3.view (Rect.unit (s := S256x7168) (k0_off9 k) S16x512.size (k0_off9_inb k)).toLoadRect X_arg3 (ix2 i l) * z + v1) (brow _ (by decide) i l)

theorem row4 (i : Fin 16) (l : Fin 512) : trip_k0_t1.sl.v2935 arg3 arg12 v1 X_arg3 X_arg12 k (ix2 i l)
    = sv (arg3.view.read (Elt Ideal) X_arg3) (arg12.view.read (Elt Ideal) X_arg12) v1 ⟨16 * 4 + i.val, by omega⟩ (col k l) := by
  have e1 := w_at arg3 X_arg3 k (k0_off11 k) (k0_off11_inb k) 4 (by norm_num) (k0_off11_eq k) i l
  have e2 := e_at k arg12.view X_arg12 (k0_off10 k) (k0_off10_inb k) 4 (by norm_num) (k0_off10_eq k) l
  have e3 : (⟨(16 * 4 + i.val) / 16, by omega⟩ : Fin 16) = ⟨4, by norm_num⟩ := Fin.ext (by show (16 * 4 + i.val) / 16 = 4; omega)
  unfold sv; dsimp only
  rw [e3, ← e1, ← e2]
  exact congrArg (fun z => View.readAt (Elt Ideal) arg3.view (Rect.unit (s := S256x7168) (k0_off11 k) S16x512.size (k0_off11_inb k)).toLoadRect X_arg3 (ix2 i l) * z + v1) (brow _ (by decide) i l)

theorem row5 (i : Fin 16) (l : Fin 512) : trip_k0_t1.sl.v2944 arg3 arg12 v1 X_arg3 X_arg12 k (ix2 i l)
    = sv (arg3.view.read (Elt Ideal) X_arg3) (arg12.view.read (Elt Ideal) X_arg12) v1 ⟨16 * 5 + i.val, by omega⟩ (col k l) := by
  have e1 := w_at arg3 X_arg3 k (k0_off13 k) (k0_off13_inb k) 5 (by norm_num) (k0_off13_eq k) i l
  have e2 := e_at k arg12.view X_arg12 (k0_off12 k) (k0_off12_inb k) 5 (by norm_num) (k0_off12_eq k) l
  have e3 : (⟨(16 * 5 + i.val) / 16, by omega⟩ : Fin 16) = ⟨5, by norm_num⟩ := Fin.ext (by show (16 * 5 + i.val) / 16 = 5; omega)
  unfold sv; dsimp only
  rw [e3, ← e1, ← e2]
  exact congrArg (fun z => View.readAt (Elt Ideal) arg3.view (Rect.unit (s := S256x7168) (k0_off13 k) S16x512.size (k0_off13_inb k)).toLoadRect X_arg3 (ix2 i l) * z + v1) (brow _ (by decide) i l)

theorem row6 (i : Fin 16) (l : Fin 512) : trip_k0_t1.sl.v2953 arg3 arg12 v1 X_arg3 X_arg12 k (ix2 i l)
    = sv (arg3.view.read (Elt Ideal) X_arg3) (arg12.view.read (Elt Ideal) X_arg12) v1 ⟨16 * 6 + i.val, by omega⟩ (col k l) := by
  have e1 := w_at arg3 X_arg3 k (k0_off15 k) (k0_off15_inb k) 6 (by norm_num) (k0_off15_eq k) i l
  have e2 := e_at k arg12.view X_arg12 (k0_off14 k) (k0_off14_inb k) 6 (by norm_num) (k0_off14_eq k) l
  have e3 : (⟨(16 * 6 + i.val) / 16, by omega⟩ : Fin 16) = ⟨6, by norm_num⟩ := Fin.ext (by show (16 * 6 + i.val) / 16 = 6; omega)
  unfold sv; dsimp only
  rw [e3, ← e1, ← e2]
  exact congrArg (fun z => View.readAt (Elt Ideal) arg3.view (Rect.unit (s := S256x7168) (k0_off15 k) S16x512.size (k0_off15_inb k)).toLoadRect X_arg3 (ix2 i l) * z + v1) (brow _ (by decide) i l)

theorem row7 (i : Fin 16) (l : Fin 512) : trip_k0_t1.sl.v2962 arg3 arg12 v1 X_arg3 X_arg12 k (ix2 i l)
    = sv (arg3.view.read (Elt Ideal) X_arg3) (arg12.view.read (Elt Ideal) X_arg12) v1 ⟨16 * 7 + i.val, by omega⟩ (col k l) := by
  have e1 := w_at arg3 X_arg3 k (k0_off17 k) (k0_off17_inb k) 7 (by norm_num) (k0_off17_eq k) i l
  have e2 := e_at k arg12.view X_arg12 (k0_off16 k) (k0_off16_inb k) 7 (by norm_num) (k0_off16_eq k) l
  have e3 : (⟨(16 * 7 + i.val) / 16, by omega⟩ : Fin 16) = ⟨7, by norm_num⟩ := Fin.ext (by show (16 * 7 + i.val) / 16 = 7; omega)
  unfold sv; dsimp only
  rw [e3, ← e1, ← e2]
  exact congrArg (fun z => View.readAt (Elt Ideal) arg3.view (Rect.unit (s := S256x7168) (k0_off17 k) S16x512.size (k0_off17_inb k)).toLoadRect X_arg3 (ix2 i l) * z + v1) (brow _ (by decide) i l)

theorem row8 (i : Fin 16) (l : Fin 512) : trip_k0_t1.sl.v2971 arg3 arg12 v1 X_arg3 X_arg12 k (ix2 i l)
    = sv (arg3.view.read (Elt Ideal) X_arg3) (arg12.view.read (Elt Ideal) X_arg12) v1 ⟨16 * 8 + i.val, by omega⟩ (col k l) := by
  have e1 := w_at arg3 X_arg3 k (k0_off19 k) (k0_off19_inb k) 8 (by norm_num) (k0_off19_eq k) i l
  have e2 := e_at k arg12.view X_arg12 (k0_off18 k) (k0_off18_inb k) 8 (by norm_num) (k0_off18_eq k) l
  have e3 : (⟨(16 * 8 + i.val) / 16, by omega⟩ : Fin 16) = ⟨8, by norm_num⟩ := Fin.ext (by show (16 * 8 + i.val) / 16 = 8; omega)
  unfold sv; dsimp only
  rw [e3, ← e1, ← e2]
  exact congrArg (fun z => View.readAt (Elt Ideal) arg3.view (Rect.unit (s := S256x7168) (k0_off19 k) S16x512.size (k0_off19_inb k)).toLoadRect X_arg3 (ix2 i l) * z + v1) (brow _ (by decide) i l)

theorem row9 (i : Fin 16) (l : Fin 512) : trip_k0_t1.sl.v2980 arg3 arg12 v1 X_arg3 X_arg12 k (ix2 i l)
    = sv (arg3.view.read (Elt Ideal) X_arg3) (arg12.view.read (Elt Ideal) X_arg12) v1 ⟨16 * 9 + i.val, by omega⟩ (col k l) := by
  have e1 := w_at arg3 X_arg3 k (k0_off21 k) (k0_off21_inb k) 9 (by norm_num) (k0_off21_eq k) i l
  have e2 := e_at k arg12.view X_arg12 (k0_off20 k) (k0_off20_inb k) 9 (by norm_num) (k0_off20_eq k) l
  have e3 : (⟨(16 * 9 + i.val) / 16, by omega⟩ : Fin 16) = ⟨9, by norm_num⟩ := Fin.ext (by show (16 * 9 + i.val) / 16 = 9; omega)
  unfold sv; dsimp only
  rw [e3, ← e1, ← e2]
  exact congrArg (fun z => View.readAt (Elt Ideal) arg3.view (Rect.unit (s := S256x7168) (k0_off21 k) S16x512.size (k0_off21_inb k)).toLoadRect X_arg3 (ix2 i l) * z + v1) (brow _ (by decide) i l)

theorem row10 (i : Fin 16) (l : Fin 512) : trip_k0_t1.sl.v2989 arg3 arg12 v1 X_arg3 X_arg12 k (ix2 i l)
    = sv (arg3.view.read (Elt Ideal) X_arg3) (arg12.view.read (Elt Ideal) X_arg12) v1 ⟨16 * 10 + i.val, by omega⟩ (col k l) := by
  have e1 := w_at arg3 X_arg3 k (k0_off23 k) (k0_off23_inb k) 10 (by norm_num) (k0_off23_eq k) i l
  have e2 := e_at k arg12.view X_arg12 (k0_off22 k) (k0_off22_inb k) 10 (by norm_num) (k0_off22_eq k) l
  have e3 : (⟨(16 * 10 + i.val) / 16, by omega⟩ : Fin 16) = ⟨10, by norm_num⟩ := Fin.ext (by show (16 * 10 + i.val) / 16 = 10; omega)
  unfold sv; dsimp only
  rw [e3, ← e1, ← e2]
  exact congrArg (fun z => View.readAt (Elt Ideal) arg3.view (Rect.unit (s := S256x7168) (k0_off23 k) S16x512.size (k0_off23_inb k)).toLoadRect X_arg3 (ix2 i l) * z + v1) (brow _ (by decide) i l)

theorem row11 (i : Fin 16) (l : Fin 512) : trip_k0_t1.sl.v2998 arg3 arg12 v1 X_arg3 X_arg12 k (ix2 i l)
    = sv (arg3.view.read (Elt Ideal) X_arg3) (arg12.view.read (Elt Ideal) X_arg12) v1 ⟨16 * 11 + i.val, by omega⟩ (col k l) := by
  have e1 := w_at arg3 X_arg3 k (k0_off25 k) (k0_off25_inb k) 11 (by norm_num) (k0_off25_eq k) i l
  have e2 := e_at k arg12.view X_arg12 (k0_off24 k) (k0_off24_inb k) 11 (by norm_num) (k0_off24_eq k) l
  have e3 : (⟨(16 * 11 + i.val) / 16, by omega⟩ : Fin 16) = ⟨11, by norm_num⟩ := Fin.ext (by show (16 * 11 + i.val) / 16 = 11; omega)
  unfold sv; dsimp only
  rw [e3, ← e1, ← e2]
  exact congrArg (fun z => View.readAt (Elt Ideal) arg3.view (Rect.unit (s := S256x7168) (k0_off25 k) S16x512.size (k0_off25_inb k)).toLoadRect X_arg3 (ix2 i l) * z + v1) (brow _ (by decide) i l)

theorem row12 (i : Fin 16) (l : Fin 512) : trip_k0_t1.sl.v3007 arg3 arg12 v1 X_arg3 X_arg12 k (ix2 i l)
    = sv (arg3.view.read (Elt Ideal) X_arg3) (arg12.view.read (Elt Ideal) X_arg12) v1 ⟨16 * 12 + i.val, by omega⟩ (col k l) := by
  have e1 := w_at arg3 X_arg3 k (k0_off27 k) (k0_off27_inb k) 12 (by norm_num) (k0_off27_eq k) i l
  have e2 := e_at k arg12.view X_arg12 (k0_off26 k) (k0_off26_inb k) 12 (by norm_num) (k0_off26_eq k) l
  have e3 : (⟨(16 * 12 + i.val) / 16, by omega⟩ : Fin 16) = ⟨12, by norm_num⟩ := Fin.ext (by show (16 * 12 + i.val) / 16 = 12; omega)
  unfold sv; dsimp only
  rw [e3, ← e1, ← e2]
  exact congrArg (fun z => View.readAt (Elt Ideal) arg3.view (Rect.unit (s := S256x7168) (k0_off27 k) S16x512.size (k0_off27_inb k)).toLoadRect X_arg3 (ix2 i l) * z + v1) (brow _ (by decide) i l)

theorem row13 (i : Fin 16) (l : Fin 512) : trip_k0_t1.sl.v3016 arg3 arg12 v1 X_arg3 X_arg12 k (ix2 i l)
    = sv (arg3.view.read (Elt Ideal) X_arg3) (arg12.view.read (Elt Ideal) X_arg12) v1 ⟨16 * 13 + i.val, by omega⟩ (col k l) := by
  have e1 := w_at arg3 X_arg3 k (k0_off29 k) (k0_off29_inb k) 13 (by norm_num) (k0_off29_eq k) i l
  have e2 := e_at k arg12.view X_arg12 (k0_off28 k) (k0_off28_inb k) 13 (by norm_num) (k0_off28_eq k) l
  have e3 : (⟨(16 * 13 + i.val) / 16, by omega⟩ : Fin 16) = ⟨13, by norm_num⟩ := Fin.ext (by show (16 * 13 + i.val) / 16 = 13; omega)
  unfold sv; dsimp only
  rw [e3, ← e1, ← e2]
  exact congrArg (fun z => View.readAt (Elt Ideal) arg3.view (Rect.unit (s := S256x7168) (k0_off29 k) S16x512.size (k0_off29_inb k)).toLoadRect X_arg3 (ix2 i l) * z + v1) (brow _ (by decide) i l)

theorem row14 (i : Fin 16) (l : Fin 512) : trip_k0_t1.sl.v3025 arg3 arg12 v1 X_arg3 X_arg12 k (ix2 i l)
    = sv (arg3.view.read (Elt Ideal) X_arg3) (arg12.view.read (Elt Ideal) X_arg12) v1 ⟨16 * 14 + i.val, by omega⟩ (col k l) := by
  have e1 := w_at arg3 X_arg3 k (k0_off31 k) (k0_off31_inb k) 14 (by norm_num) (k0_off31_eq k) i l
  have e2 := e_at k arg12.view X_arg12 (k0_off30 k) (k0_off30_inb k) 14 (by norm_num) (k0_off30_eq k) l
  have e3 : (⟨(16 * 14 + i.val) / 16, by omega⟩ : Fin 16) = ⟨14, by norm_num⟩ := Fin.ext (by show (16 * 14 + i.val) / 16 = 14; omega)
  unfold sv; dsimp only
  rw [e3, ← e1, ← e2]
  exact congrArg (fun z => View.readAt (Elt Ideal) arg3.view (Rect.unit (s := S256x7168) (k0_off31 k) S16x512.size (k0_off31_inb k)).toLoadRect X_arg3 (ix2 i l) * z + v1) (brow _ (by decide) i l)

theorem row15 (i : Fin 16) (l : Fin 512) : trip_k0_t1.sl.v3034 arg3 arg12 v1 X_arg3 X_arg12 k (ix2 i l)
    = sv (arg3.view.read (Elt Ideal) X_arg3) (arg12.view.read (Elt Ideal) X_arg12) v1 ⟨16 * 15 + i.val, by omega⟩ (col k l) := by
  have e1 := w_at arg3 X_arg3 k (k0_off33 k) (k0_off33_inb k) 15 (by norm_num) (k0_off33_eq k) i l
  have e2 := e_at k arg12.view X_arg12 (k0_off32 k) (k0_off32_inb k) 15 (by norm_num) (k0_off32_eq k) l
  have e3 : (⟨(16 * 15 + i.val) / 16, by omega⟩ : Fin 16) = ⟨15, by norm_num⟩ := Fin.ext (by show (16 * 15 + i.val) / 16 = 15; omega)
  unfold sv; dsimp only
  rw [e3, ← e1, ← e2]
  exact congrArg (fun z => View.readAt (Elt Ideal) arg3.view (Rect.unit (s := S256x7168) (k0_off33 k) S16x512.size (k0_off33_inb k)).toLoadRect X_arg3 (ix2 i l) * z + v1) (brow _ (by decide) i l)

/-- The block of scaled weights. -/
theorem scaled_at (a : Fin 256) (l : Fin 512) : trip_k0_t1.sl.v3035 arg3 arg12 v1 X_arg3 X_arg12 k (ix2 a l)
    = sv (arg3.view.read (Elt Ideal) X_arg3) (arg12.view.read (Elt Ideal) X_arg12) v1 a (col k l) := by
  refine concat16 ![trip_k0_t1.sl.v2899 arg3 arg12 v1 X_arg3 X_arg12 k, trip_k0_t1.sl.v2908 arg3 arg12 v1 X_arg3 X_arg12 k, trip_k0_t1.sl.v2917 arg3 arg12 v1 X_arg3 X_arg12 k, trip_k0_t1.sl.v2926 arg3 arg12 v1 X_arg3 X_arg12 k, trip_k0_t1.sl.v2935 arg3 arg12 v1 X_arg3 X_arg12 k, trip_k0_t1.sl.v2944 arg3 arg12 v1 X_arg3 X_arg12 k, trip_k0_t1.sl.v2953 arg3 arg12 v1 X_arg3 X_arg12 k, trip_k0_t1.sl.v2962 arg3 arg12 v1 X_arg3 X_arg12 k, trip_k0_t1.sl.v2971 arg3 arg12 v1 X_arg3 X_arg12 k, trip_k0_t1.sl.v2980 arg3 arg12 v1 X_arg3 X_arg12 k, trip_k0_t1.sl.v2989 arg3 arg12 v1 X_arg3 X_arg12 k, trip_k0_t1.sl.v2998 arg3 arg12 v1 X_arg3 X_arg12 k, trip_k0_t1.sl.v3007 arg3 arg12 v1 X_arg3 X_arg12 k, trip_k0_t1.sl.v3016 arg3 arg12 v1 X_arg3 X_arg12 k, trip_k0_t1.sl.v3025 arg3 arg12 v1 X_arg3 X_arg12 k, trip_k0_t1.sl.v3034 arg3 arg12 v1 X_arg3 X_arg12 k]
    (fun a l => sv (arg3.view.read (Elt Ideal) X_arg3) (arg12.view.read (Elt Ideal) X_arg12) v1 a (col k l)) ?_ _ a l
  intro g i l
  fin_cases g
  · exact row0 arg3 arg12 v1 X_arg3 X_arg12 k i l
  · exact row1 arg3 arg12 v1 X_arg3 X_arg12 k i l
  · exact row2 arg3 arg12 v1 X_arg3 X_arg12 k i l
  · exact row3 arg3 arg12 v1 X_arg3 X_arg12 k i l
  · exact row4 arg3 arg12 v1 X_arg3 X_arg12 k i l
  · exact row5 arg3 arg12 v1 X_arg3 X_arg12 k i l
  · exact row6 arg3 arg12 v1 X_arg3 X_arg12 k i l
  · exact row7 arg3 arg12 v1 X_arg3 X_arg12 k i l
  · exact row8 arg3 arg12 v1 X_arg3 X_arg12 k i l
  · exact row9 arg3 arg12 v1 X_arg3 X_arg12 k i l
  · exact row10 arg3 arg12 v1 X_arg3 X_arg12 k i l
  · exact row11 arg3 arg12 v1 X_arg3 X_arg12 k i l
  · exact row12 arg3 arg12 v1 X_arg3 X_arg12 k i l
  · exact row13 arg3 arg12 v1 X_arg3 X_arg12 k i l
  · exact row14 arg3 arg12 v1 X_arg3 X_arg12 k i l
  · exact row15 arg3 arg12 v1 X_arg3 X_arg12 k i l
/-- The code of a scaled weight. -/
theorem code_at (a : Fin 256) (l : Fin 512) : trip_k0_t1.sl.v3083 arg3 arg12 v1 X_arg3 X_arg12 k (ix2 a l)
    = code (trip_k0_t1.sl.v3035 arg3 arg12 v1 X_arg3 X_arg12 k (ix2 a l)) := by
  simp only [trip_k0_t1.sl.v3036, trip_k0_t1.sl.v3037, trip_k0_t1.sl.v3038, trip_k0_t1.sl.v3039, trip_k0_t1.sl.v3040, trip_k0_t1.sl.v3041, trip_k0_t1.sl.v3042, trip_k0_t1.sl.v3043, trip_k0_t1.sl.v3044, trip_k0_t1.sl.v3045, trip_k0_t1.sl.v3046, trip_k0_t1.sl.v3047, trip_k0_t1.sl.v3048, trip_k0_t1.sl.v3049, trip_k0_t1.sl.v3050, trip_k0_t1.sl.v3051, trip_k0_t1.sl.v3052, trip_k0_t1.sl.v3053, trip_k0_t1.sl.v3054, trip_k0_t1.sl.v3055, trip_k0_t1.sl.v3056, trip_k0_t1.sl.v3058, trip_k0_t1.sl.v3059, trip_k0_t1.sl.v3062, trip_k0_t1.sl.v3063, trip_k0_t1.sl.v3066, trip_k0_t1.sl.v3067, trip_k0_t1.sl.v3070, trip_k0_t1.sl.v3071, trip_k0_t1.sl.v3074, trip_k0_t1.sl.v3075, trip_k0_t1.sl.v3078, trip_k0_t1.sl.v3079, trip_k0_t1.sl.v3082, trip_k0_t1.sl.v3083]
  generalize trip_k0_t1.sl.v3035 arg3 arg12 v1 X_arg3 X_arg12 k = V
  pointwise
  simp only [trip_k0_t1.sl.cst_850, trip_k0_t1.sl.cst_853, trip_k0_t1.sl.cst_854, trip_k0_t1.sl.cst_855, trip_k0_t1.sl.cst_856, trip_k0_t1.sl.cst_857, trip_k0_t1.sl.cst_858, trip_k0_t1.sl.cst_859, lit0, lit1048576000, lit1061158912, lit1067450368, lit1071644672, lit1075838976, lit1080033280, lit1084227584, sel_lt, sel_gt, sel_ge]
  rfl

/-- The value of a code. -/
theorem val_at (a : Fin 256) (l : Fin 512) : trip_k0_t1.sl.v3160 arg3 arg12 v1 X_arg3 X_arg12 k (ix2 a l)
    = val (trip_k0_t1.sl.v3083 arg3 arg12 v1 X_arg3 X_arg12 k (ix2 a l)) := by
  simp only [trip_k0_t1.sl.v3138, trip_k0_t1.sl.v3139, trip_k0_t1.sl.v3140, trip_k0_t1.sl.v3141, trip_k0_t1.sl.v3142, trip_k0_t1.sl.v3143, trip_k0_t1.sl.v3144, trip_k0_t1.sl.v3145, trip_k0_t1.sl.v3146, trip_k0_t1.sl.v3147, trip_k0_t1.sl.v3148, trip_k0_t1.sl.v3150, trip_k0_t1.sl.v3151, trip_k0_t1.sl.v3152, trip_k0_t1.sl.v3153, trip_k0_t1.sl.v3154, trip_k0_t1.sl.v3156, trip_k0_t1.sl.v3158, trip_k0_t1.sl.v3159, trip_k0_t1.sl.v3160]
  generalize trip_k0_t1.sl.v3083 arg3 arg12 v1 X_arg3 X_arg12 k = V
  pointwise
  simp only [trip_k0_t1.sl.cst_886, trip_k0_t1.sl.cst_887, trip_k0_t1.sl.cst_889, lit0, lit1056964608, lit1073741824, lit1090519040, trip_k0_t1.sl.v3037, trip_k0_t1.sl.v3039, trip_k0_t1.sl.cst_850, broadcast]
  simp only [sel_slt]
  rfl

/-- The block of codes packed along the rows. -/
theorem low_at (l : Fin 512) (b : Fin 128) : trip_k0_t1.sl.v3093 arg3 arg12 v1 X_arg3 X_arg12 k (ix2 l b)
    = pack (trip_k0_t1.sl.v3083 arg3 arg12 v1 X_arg3 X_arg12 k (ix2 (⟨2 * b.val, by omega⟩ : Fin 256) l)) (trip_k0_t1.sl.v3083 arg3 arg12 v1 X_arg3 X_arg12 k (ix2 (⟨2 * b.val + 1, by omega⟩ : Fin 256) l)) := by
  unfold trip_k0_t1.sl.v3093
  rw [ValueIdx.transpose_ix2_apply]
  rw [← even_rows (trip_k0_t1.sl.v3083 arg3 arg12 v1 X_arg3 X_arg12 k) (by decide) (by decide) (by decide) b l, ← odd_rows (trip_k0_t1.sl.v3083 arg3 arg12 v1 X_arg3 X_arg12 k) (by decide) (by decide) (by decide) b l]
  rfl

/-- The block of codes packed along the columns. -/
theorem swap_at (a : Fin 256) (j : Fin 256) : trip_k0_t1.sl.v3117 arg3 arg12 v1 X_arg3 X_arg12 k (ix2 a j)
    = pack (trip_k0_t1.sl.v3083 arg3 arg12 v1 X_arg3 X_arg12 k (ix2 a (⟨2 * j.val, by omega⟩ : Fin 512))) (trip_k0_t1.sl.v3083 arg3 arg12 v1 X_arg3 X_arg12 k (ix2 a (⟨2 * j.val + 1, by omega⟩ : Fin 512))) := by
  exact byte_rows (trip_k0_t1.sl.v3093 arg3 arg12 v1 X_arg3 X_arg12 k) (fun a l => trip_k0_t1.sl.v3083 arg3 arg12 v1 X_arg3 X_arg12 k (ix2 a l))
    (fun a l => by rw [code_at]; exact code_lt _) (fun l b => low_at arg3 arg12 v1 X_arg3 X_arg12 k l b) (by decide) (by decide) (by decide) (by decide) (by decide) (by decide) a j

theorem deq0 (i : Fin 16) (l : Fin 512) : trip_k0_t1.sl.v3167 arg3 arg12 arg13 v1 X_arg3 X_arg12 X_arg13 k (ix2 i l)
    = trip_k0_t1.sl.v3160 arg3 arg12 v1 X_arg3 X_arg12 k (ix2 (⟨16 * 0 + i.val, by omega⟩ : Fin 256) l)
      * arg13.view.read (Elt Ideal) X_arg13 (ix2 (⟨(16 * 0 + i.val) / 16, by omega⟩ : Fin 16) (col k l)) := by
  have e2 := e_at k arg13.view X_arg13 (k0_off2 k) (k0_off2_inb k) 0 (by norm_num) (k0_off2_eq k) l
  have e3 : (⟨(16 * 0 + i.val) / 16, by omega⟩ : Fin 16) = ⟨0, by norm_num⟩ := Fin.ext (by show (16 * 0 + i.val) / 16 = 0; omega)
  rw [e3, ← e2]
  exact deq_word _ _ 0 (by decide) (by decide) (by decide) i l ⟨16 * 0 + i.val, by omega⟩ rfl

theorem deq1 (i : Fin 16) (l : Fin 512) : trip_k0_t1.sl.v3174 arg3 arg12 arg13 v1 X_arg3 X_arg12 X_arg13 k (ix2 i l)
    = trip_k0_t1.sl.v3160 arg3 arg12 v1 X_arg3 X_arg12 k (ix2 (⟨16 * 1 + i.val, by omega⟩ : Fin 256) l)
      * arg13.view.read (Elt Ideal) X_arg13 (ix2 (⟨(16 * 1 + i.val) / 16, by omega⟩ : Fin 16) (col k l)) := by
  have e2 := e_at k arg13.view X_arg13 (k0_off4 k) (k0_off4_inb k) 1 (by norm_num) (k0_off4_eq k) l
  have e3 : (⟨(16 * 1 + i.val) / 16, by omega⟩ : Fin 16) = ⟨1, by norm_num⟩ := Fin.ext (by show (16 * 1 + i.val) / 16 = 1; omega)
  rw [e3, ← e2]
  exact deq_word _ _ 16 (by decide) (by decide) (by decide) i l ⟨16 * 1 + i.val, by omega⟩ rfl

theorem deq2 (i : Fin 16) (l : Fin 512) : trip_k0_t1.sl.v3181 arg3 arg12 arg13 v1 X_arg3 X_arg12 X_arg13 k (ix2 i l)
    = trip_k0_t1.sl.v3160 arg3 arg12 v1 X_arg3 X_arg12 k (ix2 (⟨16 * 2 + i.val, by omega⟩ : Fin 256) l)
      * arg13.view.read (Elt Ideal) X_arg13 (ix2 (⟨(16 * 2 + i.val) / 16, by omega⟩ : Fin 16) (col k l)) := by
  have e2 := e_at k arg13.view X_arg13 (k0_off6 k) (k0_off6_inb k) 2 (by norm_num) (k0_off6_eq k) l
  have e3 : (⟨(16 * 2 + i.val) / 16, by omega⟩ : Fin 16) = ⟨2, by norm_num⟩ := Fin.ext (by show (16 * 2 + i.val) / 16 = 2; omega)
  rw [e3, ← e2]
  exact deq_word _ _ 32 (by decide) (by decide) (by decide) i l ⟨16 * 2 + i.val, by omega⟩ rfl

theorem deq3 (i : Fin 16) (l : Fin 512) : trip_k0_t1.sl.v3188 arg3 arg12 arg13 v1 X_arg3 X_arg12 X_arg13 k (ix2 i l)
    = trip_k0_t1.sl.v3160 arg3 arg12 v1 X_arg3 X_arg12 k (ix2 (⟨16 * 3 + i.val, by omega⟩ : Fin 256) l)
      * arg13.view.read (Elt Ideal) X_arg13 (ix2 (⟨(16 * 3 + i.val) / 16, by omega⟩ : Fin 16) (col k l)) := by
  have e2 := e_at k arg13.view X_arg13 (k0_off8 k) (k0_off8_inb k) 3 (by norm_num) (k0_off8_eq k) l
  have e3 : (⟨(16 * 3 + i.val) / 16, by omega⟩ : Fin 16) = ⟨3, by norm_num⟩ := Fin.ext (by show (16 * 3 + i.val) / 16 = 3; omega)
  rw [e3, ← e2]
  exact deq_word _ _ 48 (by decide) (by decide) (by decide) i l ⟨16 * 3 + i.val, by omega⟩ rfl

theorem deq4 (i : Fin 16) (l : Fin 512) : trip_k0_t1.sl.v3195 arg3 arg12 arg13 v1 X_arg3 X_arg12 X_arg13 k (ix2 i l)
    = trip_k0_t1.sl.v3160 arg3 arg12 v1 X_arg3 X_arg12 k (ix2 (⟨16 * 4 + i.val, by omega⟩ : Fin 256) l)
      * arg13.view.read (Elt Ideal) X_arg13 (ix2 (⟨(16 * 4 + i.val) / 16, by omega⟩ : Fin 16) (col k l)) := by
  have e2 := e_at k arg13.view X_arg13 (k0_off10 k) (k0_off10_inb k) 4 (by norm_num) (k0_off10_eq k) l
  have e3 : (⟨(16 * 4 + i.val) / 16, by omega⟩ : Fin 16) = ⟨4, by norm_num⟩ := Fin.ext (by show (16 * 4 + i.val) / 16 = 4; omega)
  rw [e3, ← e2]
  exact deq_word _ _ 64 (by decide) (by decide) (by decide) i l ⟨16 * 4 + i.val, by omega⟩ rfl

theorem deq5 (i : Fin 16) (l : Fin 512) : trip_k0_t1.sl.v3202 arg3 arg12 arg13 v1 X_arg3 X_arg12 X_arg13 k (ix2 i l)
    = trip_k0_t1.sl.v3160 arg3 arg12 v1 X_arg3 X_arg12 k (ix2 (⟨16 * 5 + i.val, by omega⟩ : Fin 256) l)
      * arg13.view.read (Elt Ideal) X_arg13 (ix2 (⟨(16 * 5 + i.val) / 16, by omega⟩ : Fin 16) (col k l)) := by
  have e2 := e_at k arg13.view X_arg13 (k0_off12 k) (k0_off12_inb k) 5 (by norm_num) (k0_off12_eq k) l
  have e3 : (⟨(16 * 5 + i.val) / 16, by omega⟩ : Fin 16) = ⟨5, by norm_num⟩ := Fin.ext (by show (16 * 5 + i.val) / 16 = 5; omega)
  rw [e3, ← e2]
  exact deq_word _ _ 80 (by decide) (by decide) (by decide) i l ⟨16 * 5 + i.val, by omega⟩ rfl

theorem deq6 (i : Fin 16) (l : Fin 512) : trip_k0_t1.sl.v3209 arg3 arg12 arg13 v1 X_arg3 X_arg12 X_arg13 k (ix2 i l)
    = trip_k0_t1.sl.v3160 arg3 arg12 v1 X_arg3 X_arg12 k (ix2 (⟨16 * 6 + i.val, by omega⟩ : Fin 256) l)
      * arg13.view.read (Elt Ideal) X_arg13 (ix2 (⟨(16 * 6 + i.val) / 16, by omega⟩ : Fin 16) (col k l)) := by
  have e2 := e_at k arg13.view X_arg13 (k0_off14 k) (k0_off14_inb k) 6 (by norm_num) (k0_off14_eq k) l
  have e3 : (⟨(16 * 6 + i.val) / 16, by omega⟩ : Fin 16) = ⟨6, by norm_num⟩ := Fin.ext (by show (16 * 6 + i.val) / 16 = 6; omega)
  rw [e3, ← e2]
  exact deq_word _ _ 96 (by decide) (by decide) (by decide) i l ⟨16 * 6 + i.val, by omega⟩ rfl

theorem deq7 (i : Fin 16) (l : Fin 512) : trip_k0_t1.sl.v3216 arg3 arg12 arg13 v1 X_arg3 X_arg12 X_arg13 k (ix2 i l)
    = trip_k0_t1.sl.v3160 arg3 arg12 v1 X_arg3 X_arg12 k (ix2 (⟨16 * 7 + i.val, by omega⟩ : Fin 256) l)
      * arg13.view.read (Elt Ideal) X_arg13 (ix2 (⟨(16 * 7 + i.val) / 16, by omega⟩ : Fin 16) (col k l)) := by
  have e2 := e_at k arg13.view X_arg13 (k0_off16 k) (k0_off16_inb k) 7 (by norm_num) (k0_off16_eq k) l
  have e3 : (⟨(16 * 7 + i.val) / 16, by omega⟩ : Fin 16) = ⟨7, by norm_num⟩ := Fin.ext (by show (16 * 7 + i.val) / 16 = 7; omega)
  rw [e3, ← e2]
  exact deq_word _ _ 112 (by decide) (by decide) (by decide) i l ⟨16 * 7 + i.val, by omega⟩ rfl

theorem deq8 (i : Fin 16) (l : Fin 512) : trip_k0_t1.sl.v3223 arg3 arg12 arg13 v1 X_arg3 X_arg12 X_arg13 k (ix2 i l)
    = trip_k0_t1.sl.v3160 arg3 arg12 v1 X_arg3 X_arg12 k (ix2 (⟨16 * 8 + i.val, by omega⟩ : Fin 256) l)
      * arg13.view.read (Elt Ideal) X_arg13 (ix2 (⟨(16 * 8 + i.val) / 16, by omega⟩ : Fin 16) (col k l)) := by
  have e2 := e_at k arg13.view X_arg13 (k0_off18 k) (k0_off18_inb k) 8 (by norm_num) (k0_off18_eq k) l
  have e3 : (⟨(16 * 8 + i.val) / 16, by omega⟩ : Fin 16) = ⟨8, by norm_num⟩ := Fin.ext (by show (16 * 8 + i.val) / 16 = 8; omega)
  rw [e3, ← e2]
  exact deq_word _ _ 128 (by decide) (by decide) (by decide) i l ⟨16 * 8 + i.val, by omega⟩ rfl

theorem deq9 (i : Fin 16) (l : Fin 512) : trip_k0_t1.sl.v3230 arg3 arg12 arg13 v1 X_arg3 X_arg12 X_arg13 k (ix2 i l)
    = trip_k0_t1.sl.v3160 arg3 arg12 v1 X_arg3 X_arg12 k (ix2 (⟨16 * 9 + i.val, by omega⟩ : Fin 256) l)
      * arg13.view.read (Elt Ideal) X_arg13 (ix2 (⟨(16 * 9 + i.val) / 16, by omega⟩ : Fin 16) (col k l)) := by
  have e2 := e_at k arg13.view X_arg13 (k0_off20 k) (k0_off20_inb k) 9 (by norm_num) (k0_off20_eq k) l
  have e3 : (⟨(16 * 9 + i.val) / 16, by omega⟩ : Fin 16) = ⟨9, by norm_num⟩ := Fin.ext (by show (16 * 9 + i.val) / 16 = 9; omega)
  rw [e3, ← e2]
  exact deq_word _ _ 144 (by decide) (by decide) (by decide) i l ⟨16 * 9 + i.val, by omega⟩ rfl

theorem deq10 (i : Fin 16) (l : Fin 512) : trip_k0_t1.sl.v3237 arg3 arg12 arg13 v1 X_arg3 X_arg12 X_arg13 k (ix2 i l)
    = trip_k0_t1.sl.v3160 arg3 arg12 v1 X_arg3 X_arg12 k (ix2 (⟨16 * 10 + i.val, by omega⟩ : Fin 256) l)
      * arg13.view.read (Elt Ideal) X_arg13 (ix2 (⟨(16 * 10 + i.val) / 16, by omega⟩ : Fin 16) (col k l)) := by
  have e2 := e_at k arg13.view X_arg13 (k0_off22 k) (k0_off22_inb k) 10 (by norm_num) (k0_off22_eq k) l
  have e3 : (⟨(16 * 10 + i.val) / 16, by omega⟩ : Fin 16) = ⟨10, by norm_num⟩ := Fin.ext (by show (16 * 10 + i.val) / 16 = 10; omega)
  rw [e3, ← e2]
  exact deq_word _ _ 160 (by decide) (by decide) (by decide) i l ⟨16 * 10 + i.val, by omega⟩ rfl

theorem deq11 (i : Fin 16) (l : Fin 512) : trip_k0_t1.sl.v3244 arg3 arg12 arg13 v1 X_arg3 X_arg12 X_arg13 k (ix2 i l)
    = trip_k0_t1.sl.v3160 arg3 arg12 v1 X_arg3 X_arg12 k (ix2 (⟨16 * 11 + i.val, by omega⟩ : Fin 256) l)
      * arg13.view.read (Elt Ideal) X_arg13 (ix2 (⟨(16 * 11 + i.val) / 16, by omega⟩ : Fin 16) (col k l)) := by
  have e2 := e_at k arg13.view X_arg13 (k0_off24 k) (k0_off24_inb k) 11 (by norm_num) (k0_off24_eq k) l
  have e3 : (⟨(16 * 11 + i.val) / 16, by omega⟩ : Fin 16) = ⟨11, by norm_num⟩ := Fin.ext (by show (16 * 11 + i.val) / 16 = 11; omega)
  rw [e3, ← e2]
  exact deq_word _ _ 176 (by decide) (by decide) (by decide) i l ⟨16 * 11 + i.val, by omega⟩ rfl

theorem deq12 (i : Fin 16) (l : Fin 512) : trip_k0_t1.sl.v3251 arg3 arg12 arg13 v1 X_arg3 X_arg12 X_arg13 k (ix2 i l)
    = trip_k0_t1.sl.v3160 arg3 arg12 v1 X_arg3 X_arg12 k (ix2 (⟨16 * 12 + i.val, by omega⟩ : Fin 256) l)
      * arg13.view.read (Elt Ideal) X_arg13 (ix2 (⟨(16 * 12 + i.val) / 16, by omega⟩ : Fin 16) (col k l)) := by
  have e2 := e_at k arg13.view X_arg13 (k0_off26 k) (k0_off26_inb k) 12 (by norm_num) (k0_off26_eq k) l
  have e3 : (⟨(16 * 12 + i.val) / 16, by omega⟩ : Fin 16) = ⟨12, by norm_num⟩ := Fin.ext (by show (16 * 12 + i.val) / 16 = 12; omega)
  rw [e3, ← e2]
  exact deq_word _ _ 192 (by decide) (by decide) (by decide) i l ⟨16 * 12 + i.val, by omega⟩ rfl

theorem deq13 (i : Fin 16) (l : Fin 512) : trip_k0_t1.sl.v3258 arg3 arg12 arg13 v1 X_arg3 X_arg12 X_arg13 k (ix2 i l)
    = trip_k0_t1.sl.v3160 arg3 arg12 v1 X_arg3 X_arg12 k (ix2 (⟨16 * 13 + i.val, by omega⟩ : Fin 256) l)
      * arg13.view.read (Elt Ideal) X_arg13 (ix2 (⟨(16 * 13 + i.val) / 16, by omega⟩ : Fin 16) (col k l)) := by
  have e2 := e_at k arg13.view X_arg13 (k0_off28 k) (k0_off28_inb k) 13 (by norm_num) (k0_off28_eq k) l
  have e3 : (⟨(16 * 13 + i.val) / 16, by omega⟩ : Fin 16) = ⟨13, by norm_num⟩ := Fin.ext (by show (16 * 13 + i.val) / 16 = 13; omega)
  rw [e3, ← e2]
  exact deq_word _ _ 208 (by decide) (by decide) (by decide) i l ⟨16 * 13 + i.val, by omega⟩ rfl

theorem deq14 (i : Fin 16) (l : Fin 512) : trip_k0_t1.sl.v3265 arg3 arg12 arg13 v1 X_arg3 X_arg12 X_arg13 k (ix2 i l)
    = trip_k0_t1.sl.v3160 arg3 arg12 v1 X_arg3 X_arg12 k (ix2 (⟨16 * 14 + i.val, by omega⟩ : Fin 256) l)
      * arg13.view.read (Elt Ideal) X_arg13 (ix2 (⟨(16 * 14 + i.val) / 16, by omega⟩ : Fin 16) (col k l)) := by
  have e2 := e_at k arg13.view X_arg13 (k0_off30 k) (k0_off30_inb k) 14 (by norm_num) (k0_off30_eq k) l
  have e3 : (⟨(16 * 14 + i.val) / 16, by omega⟩ : Fin 16) = ⟨14, by norm_num⟩ := Fin.ext (by show (16 * 14 + i.val) / 16 = 14; omega)
  rw [e3, ← e2]
  exact deq_word _ _ 224 (by decide) (by decide) (by decide) i l ⟨16 * 14 + i.val, by omega⟩ rfl

theorem deq15 (i : Fin 16) (l : Fin 512) : trip_k0_t1.sl.v3272 arg3 arg12 arg13 v1 X_arg3 X_arg12 X_arg13 k (ix2 i l)
    = trip_k0_t1.sl.v3160 arg3 arg12 v1 X_arg3 X_arg12 k (ix2 (⟨16 * 15 + i.val, by omega⟩ : Fin 256) l)
      * arg13.view.read (Elt Ideal) X_arg13 (ix2 (⟨(16 * 15 + i.val) / 16, by omega⟩ : Fin 16) (col k l)) := by
  have e2 := e_at k arg13.view X_arg13 (k0_off32 k) (k0_off32_inb k) 15 (by norm_num) (k0_off32_eq k) l
  have e3 : (⟨(16 * 15 + i.val) / 16, by omega⟩ : Fin 16) = ⟨15, by norm_num⟩ := Fin.ext (by show (16 * 15 + i.val) / 16 = 15; omega)
  rw [e3, ← e2]
  exact deq_word _ _ 240 (by decide) (by decide) (by decide) i l ⟨16 * 15 + i.val, by omega⟩ rfl

/-- The block of dequantised weights: the value of the code times the expanded scale. -/
theorem deq_at (a : Fin 256) (l : Fin 512) : trip_k0_t1.sl.v3276 arg3 arg12 arg13 v1 X_arg3 X_arg12 X_arg13 k (ix2 a l)
    = trip_k0_t1.sl.v3160 arg3 arg12 v1 X_arg3 X_arg12 k (ix2 a l) * arg13.view.read (Elt Ideal) X_arg13 (ix2 (⟨a.val / 16, by omega⟩ : Fin 16) (col k l)) := by
  refine concat16 ![trip_k0_t1.sl.v3167 arg3 arg12 arg13 v1 X_arg3 X_arg12 X_arg13 k, trip_k0_t1.sl.v3174 arg3 arg12 arg13 v1 X_arg3 X_arg12 X_arg13 k, trip_k0_t1.sl.v3181 arg3 arg12 arg13 v1 X_arg3 X_arg12 X_arg13 k, trip_k0_t1.sl.v3188 arg3 arg12 arg13 v1 X_arg3 X_arg12 X_arg13 k, trip_k0_t1.sl.v3195 arg3 arg12 arg13 v1 X_arg3 X_arg12 X_arg13 k, trip_k0_t1.sl.v3202 arg3 arg12 arg13 v1 X_arg3 X_arg12 X_arg13 k, trip_k0_t1.sl.v3209 arg3 arg12 arg13 v1 X_arg3 X_arg12 X_arg13 k, trip_k0_t1.sl.v3216 arg3 arg12 arg13 v1 X_arg3 X_arg12 X_arg13 k, trip_k0_t1.sl.v3223 arg3 arg12 arg13 v1 X_arg3 X_arg12 X_arg13 k, trip_k0_t1.sl.v3230 arg3 arg12 arg13 v1 X_arg3 X_arg12 X_arg13 k, trip_k0_t1.sl.v3237 arg3 arg12 arg13 v1 X_arg3 X_arg12 X_arg13 k, trip_k0_t1.sl.v3244 arg3 arg12 arg13 v1 X_arg3 X_arg12 X_arg13 k, trip_k0_t1.sl.v3251 arg3 arg12 arg13 v1 X_arg3 X_arg12 X_arg13 k, trip_k0_t1.sl.v3258 arg3 arg12 arg13 v1 X_arg3 X_arg12 X_arg13 k, trip_k0_t1.sl.v3265 arg3 arg12 arg13 v1 X_arg3 X_arg12 X_arg13 k, trip_k0_t1.sl.v3272 arg3 arg12 arg13 v1 X_arg3 X_arg12 X_arg13 k]
    (fun a l => trip_k0_t1.sl.v3160 arg3 arg12 v1 X_arg3 X_arg12 k (ix2 a l) * arg13.view.read (Elt Ideal) X_arg13 (ix2 (⟨a.val / 16, by omega⟩ : Fin 16) (col k l))) ?_ _ a l
  intro g i l
  fin_cases g
  · exact deq0 arg3 arg12 arg13 v1 X_arg3 X_arg12 X_arg13 k i l
  · exact deq1 arg3 arg12 arg13 v1 X_arg3 X_arg12 X_arg13 k i l
  · exact deq2 arg3 arg12 arg13 v1 X_arg3 X_arg12 X_arg13 k i l
  · exact deq3 arg3 arg12 arg13 v1 X_arg3 X_arg12 X_arg13 k i l
  · exact deq4 arg3 arg12 arg13 v1 X_arg3 X_arg12 X_arg13 k i l
  · exact deq5 arg3 arg12 arg13 v1 X_arg3 X_arg12 X_arg13 k i l
  · exact deq6 arg3 arg12 arg13 v1 X_arg3 X_arg12 X_arg13 k i l
  · exact deq7 arg3 arg12 arg13 v1 X_arg3 X_arg12 X_arg13 k i l
  · exact deq8 arg3 arg12 arg13 v1 X_arg3 X_arg12 X_arg13 k i l
  · exact deq9 arg3 arg12 arg13 v1 X_arg3 X_arg12 X_arg13 k i l
  · exact deq10 arg3 arg12 arg13 v1 X_arg3 X_arg12 X_arg13 k i l
  · exact deq11 arg3 arg12 arg13 v1 X_arg3 X_arg12 X_arg13 k i l
  · exact deq12 arg3 arg12 arg13 v1 X_arg3 X_arg12 X_arg13 k i l
  · exact deq13 arg3 arg12 arg13 v1 X_arg3 X_arg12 X_arg13 k i l
  · exact deq14 arg3 arg12 arg13 v1 X_arg3 X_arg12 X_arg13 k i l
  · exact deq15 arg3 arg12 arg13 v1 X_arg3 X_arg12 X_arg13 k i l

end Words
end Cert.Weight

end
-- ==== Proof.Fold.lean ====
/- The fourteen trips of the kernel's inner loop together: what they leave in the two code outputs and in the accumulator. -/
module

public import proofs.«01_k».proof.Proof.Trip

public import Idealize.ShloMosaic.Lib.VecWindow
public import Idealize.ShloMosaic.Lib.Pointwise

@[expose] public section

noncomputable section

namespace Cert.Weight
open Idealize.ShloMosaic Idealize.ShloMosaic.TcCoe Idealize.SL.Sem
open Cert.KernelIdeal Cert.KernelIdeal.Gen

theorem trips14 : k0_t1_loop.trips = 14 := by rfl

section Fold
variable (𝒱 : Variants) (c : Dev nD) (bd : Option 𝒱.V) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole)
  (v1 : Ideal .f32) (X_arg3 : BufTy.Contents (Elt Ideal) arg3.view.ty) (X_arg5 : BufTy.Contents (Elt Ideal) arg5.view.ty)
  (X_arg12 : BufTy.Contents (Elt Ideal) arg12.view.ty) (X_arg13 : BufTy.Contents (Elt Ideal) arg13.view.ty)
  (G7 : BufTy.Contents (Elt Ideal) arg7.view.ty) (G8 : BufTy.Contents (Elt Ideal) arg8.view.ty) (G14 : BufTy.Contents (Elt Ideal) arg14.view.ty)

/-- The pieces stored into the codes packed along the columns, one trip further. -/
theorem succ7 (k : Fin k0_t1_loop.trips) : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 (k.val + 1)).1
    = ⟨Rect.unit (s := S256x3584) (k0_off35 k) ![256, 256] (k0_off35_inb k), trip_k0_t1.sl.v3117 arg3 arg12 v1 X_arg3 X_arg12 k⟩ :: (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 k.val).1 := by
  rw [pb_k0_t1_succ]
  unfold tripL_k0_t1 trip_k0_t1
  rfl

/-- The pieces stored into the codes packed along the rows, one trip further. -/
theorem succ8 (k : Fin k0_t1_loop.trips) : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 (k.val + 1)).2.1
    = ⟨Rect.unit (s := S7168x128) (k0_off34 k) ![512, 128] (k0_off34_inb k), trip_k0_t1.sl.v3093 arg3 arg12 v1 X_arg3 X_arg12 k⟩ :: (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 k.val).2.1 := by
  rw [pb_k0_t1_succ]
  unfold tripL_k0_t1 trip_k0_t1
  rfl

/-- The pieces stored into the accumulator, one trip further. -/
theorem succ14 (k : Fin k0_t1_loop.trips) : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 (k.val + 1)).2.2
    = ⟨Rect.unit (s := S128x256) ![0, 0] ![128, 256] inb_S128x256_S128x256_0_0,
        k0_pay3 (View.readAt (Elt Ideal) arg14.view (Rect.unit (s := S128x256) ![0, 0] ![128, 256] inb_S128x256_S128x256_0_0).toLoadRect (arg14.view.writes (Elt Ideal) G14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 k.val).2.2))
          (View.readAt (Elt Ideal) arg5.view (Rect.unit (s := S128x7168) (k0_off36 k) ![128, 512] (k0_off36_inb k)).toLoadRect X_arg5)
          (trip_k0_t1.sl.v3276 arg3 arg12 arg13 v1 X_arg3 X_arg12 X_arg13 k)⟩ :: (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 k.val).2.2 := by
  rw [pb_k0_t1_succ]
  unfold tripL_k0_t1 trip_k0_t1
  rfl

/-- The code of the scaled weight of row `a` at column `n`. -/
def cd (w : S256x7168.Idx → EReal) (re : S16x7168.Idx → EReal) (v1 : EReal) (a : Fin 256) (n : Fin 7168) : BitVec 32 := code (sv w re v1 a n)

/-- After `n` trips the first `256 n` columns of the first code output hold the packed pairs of neighbouring columns. -/
theorem fold7 (v : View sig .tc .vmem S256x3584 .i8) (f : BufTy.Contents (Elt Ideal) v.ty) (n : ℕ) (hn : n ≤ 14) (a : Fin 256) (j : Fin 3584) (hj : j.val < 256 * n) :
    v.read (Elt Ideal) (v.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 n).1) (ix2 a j)
      = pack (cd (arg3.view.read (Elt Ideal) X_arg3) (arg12.view.read (Elt Ideal) X_arg12) v1 a ⟨2 * j.val, by omega⟩)
          (cd (arg3.view.read (Elt Ideal) X_arg3) (arg12.view.read (Elt Ideal) X_arg12) v1 a ⟨2 * j.val + 1, by omega⟩) := by
  induction n with
  | zero => omega
  | succ n ih =>
    have e := succ7 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 ⟨n, by rw [trips14]; omega⟩
    dsimp only at e
    rw [e]
    have hoff := k0_off35_eq ⟨n, by rw [trips14]; omega⟩
    by_cases h : 256 * n ≤ j.val
    · have hx : (ix2 a (⟨j.val - 256 * n, by omega⟩ : Fin 256)) = (ix2 a (⟨j.val - 256 * n, by omega⟩ : Fin 256)) := rfl
      refine (View.read_writes_cons_unit_of_mem v f (k0_off35_inb ⟨n, by rw [trips14]; omega⟩) _ _ (ix2 a j) (ix2 a (⟨j.val - 256 * n, by omega⟩ : Fin 256)) hoff ?_).trans ?_
      · intro b
        match b with
        | ⟨0, _⟩ => show a.val = 0 + a.val; omega
        | ⟨1, _⟩ => show j.val = 256 * n + (j.val - 256 * n); omega
      · rw [swap_at, code_at, code_at, scaled_at, scaled_at]
        unfold cd
        congr 4 <;> exact Fin.ext (by show 512 * n + _ = _; dsimp only; omega)
    · refine (View.read_writes_cons_unit_of_not_mem v f (k0_off35_inb ⟨n, by rw [trips14]; omega⟩) _ _ (ix2 a j) hoff (1 : Fin 2) ?_).trans (ih (by omega) (by omega))
      exact Or.inl (by show j.val < 256 * n; omega)

/-- After `n` trips the first `512 n` rows of the second code output hold the packed pairs of neighbouring rows. -/
theorem fold8 (v : View sig .tc .vmem S7168x128 .i8) (f : BufTy.Contents (Elt Ideal) v.ty) (n : ℕ) (hn : n ≤ 14) (m : Fin 7168) (b : Fin 128) (hm : m.val < 512 * n) :
    v.read (Elt Ideal) (v.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 n).2.1) (ix2 m b)
      = pack (cd (arg3.view.read (Elt Ideal) X_arg3) (arg12.view.read (Elt Ideal) X_arg12) v1 ⟨2 * b.val, by omega⟩ m)
          (cd (arg3.view.read (Elt Ideal) X_arg3) (arg12.view.read (Elt Ideal) X_arg12) v1 ⟨2 * b.val + 1, by omega⟩ m) := by
  induction n with
  | zero => omega
  | succ n ih =>
    have e := succ8 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 ⟨n, by rw [trips14]; omega⟩
    dsimp only at e
    rw [e]
    have hoff := k0_off34_eq ⟨n, by rw [trips14]; omega⟩
    by_cases h : 512 * n ≤ m.val
    · refine (View.read_writes_cons_unit_of_mem v f (k0_off34_inb ⟨n, by rw [trips14]; omega⟩) _ _ (ix2 m b) (ix2 (⟨m.val - 512 * n, by omega⟩ : Fin 512) b) hoff ?_).trans ?_
      · intro q
        match q with
        | ⟨0, _⟩ => show m.val = 512 * n + (m.val - 512 * n); omega
        | ⟨1, _⟩ => show b.val = 0 + b.val; omega
      · rw [low_at, code_at, code_at, scaled_at, scaled_at]
        unfold cd
        congr 4 <;> exact Fin.ext (by show 512 * n + _ = _; dsimp only; omega)
    · refine (View.read_writes_cons_unit_of_not_mem v f (k0_off34_inb ⟨n, by rw [trips14]; omega⟩) _ _ (ix2 m b) hoff (0 : Fin 2) ?_).trans (ih (by omega) (by omega))
      exact Or.inl (by show m.val < 512 * n; omega)

/-- The dequantised weight of row `a` at column `n`: the value of its code times the expanded scale. -/
def dq (w : S256x7168.Idx → EReal) (re se : S16x7168.Idx → EReal) (v1 : EReal) (a : Fin 256) (n : Fin 7168) : EReal :=
  val (cd w re v1 a n) * se (ix2 (⟨a.val / 16, by omega⟩ : Fin 16) n)

/-- The accumulator after one trip at an index: what it held plus the trip's block of products. -/
theorem pay3_at (p : S128x256.Idx → EReal) (x : S128x512.Idx → EReal) (q : S256x512.Idx → EReal) (r : Fin 128) (a : Fin 256) :
    k0_pay3 (F := Ideal) p x q (ix2 r a) = p (ix2 r a) + ∑ l : Fin 512, x (ix2 r l) * q (ix2 a l) := by
  unfold k0_pay3
  rw [shapeCast_self]
  pointwise
  refine congrArg (p (ix2 r a) + ·) (Finset.sum_congr rfl fun l _ => congrArg₂ (fun u v => x u * q v) ?_ ?_)
  · funext b
    match b with
    | ⟨0, _⟩ => rfl
    | ⟨1, _⟩ => rfl
  · funext b
    match b with
    | ⟨0, _⟩ => rfl
    | ⟨1, _⟩ => rfl

/-- A block of columns of the activations, read at an index. -/
theorem x_at (k : Fin k0_t1_loop.trips) (v : View sig .tc .vmem S128x7168 .bf16) (X : BufTy.Contents (Elt Ideal) v.ty) (off : Fin 2 → Nat)
    (inb : ∀ a, off a + S128x512.size a ≤ S128x7168.size a) (h : off = ![0, 512 * k.val]) (r : Fin 128) (l : Fin 512) :
    View.readAt (Elt Ideal) v (Rect.unit (s := S128x7168) off S128x512.size inb).toLoadRect X (ix2 r l) = v.read (Elt Ideal) X (ix2 r (col k l)) := by
  subst h
  exact View.ld_unit_apply_of _ _ _ _ _ _ fun a => by match a with | ⟨0, _⟩ => exact (Nat.zero_add _).symm | ⟨1, _⟩ => rfl

/-- The block of products of trip `k`. -/
def blk (x : S128x7168.Idx → EReal) (D : Fin 256 → Fin 7168 → EReal) (r : Fin 128) (a : Fin 256) (k : ℕ) : EReal :=
  if h : k < 14 then ∑ l : Fin 512, x (ix2 r (⟨512 * k + l.val, by omega⟩ : Fin 7168)) * D a ⟨512 * k + l.val, by omega⟩ else 0

/-- After `n` trips the accumulator holds what it held at entry plus the first `n` blocks of products. -/
theorem fold14 (n : ℕ) (hn : n ≤ 14) (r : Fin 128) (a : Fin 256) :
    arg14.view.read (Elt Ideal) (arg14.view.writes (Elt Ideal) G14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 n).2.2) (ix2 r a)
      = arg14.view.read (Elt Ideal) G14 (ix2 r a) + ∑ k ∈ Finset.range n, blk (arg5.view.read (Elt Ideal) X_arg5)
          (dq (arg3.view.read (Elt Ideal) X_arg3) (arg12.view.read (Elt Ideal) X_arg12) (arg13.view.read (Elt Ideal) X_arg13) v1) r a k := by
  induction n with
  | zero => rw [Finset.sum_range_zero, add_zero]; rfl
  | succ n ih =>
    have hk : n < k0_t1_loop.trips := by rw [trips14]; omega
    have e := succ14 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 ⟨n, hk⟩
    dsimp only at e
    rw [e, Finset.sum_range_succ, ← add_assoc, ← ih (by omega)]
    refine (congrFun (View.read_writes_full arg14.view G14 inb_S128x256_S128x256_0_0 _ _) (ix2 r a)).trans ?_
    rw [pay3_at]
    have e14 := congrFun (View.readAt_full arg14.view (arg14.view.writes (Elt Ideal) G14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 X_arg3 X_arg5 X_arg12 X_arg13 G7 G8 G14 n).2.2) inb_S128x256_S128x256_0_0) (ix2 r a)
    refine congrArg₂ (· + ·) e14 ?_
    unfold blk
    rw [dif_pos (by omega : n < 14)]
    refine Finset.sum_congr rfl fun l _ => congrArg₂ (· * ·) ?_ ?_
    · exact x_at ⟨n, hk⟩ arg5.view X_arg5 (k0_off36 ⟨n, hk⟩) (k0_off36_inb ⟨n, hk⟩) (k0_off36_eq ⟨n, hk⟩) r l
    · rw [deq_at, val_at, code_at, scaled_at]
      rfl

end Fold
end Cert.Weight
end
-- ==== Proof.Expand.lean ====
/- The block scales spread along the lanes: one 128-lane chunk of the spread array, and the array of all chunks. -/
module

public import proofs.«01_k».proof.Proof.Trip

@[expose] public section

noncomputable section

namespace Cert.Weight
open Idealize.ShloMosaic Idealize.ShloMosaic.TcCoe Idealize.SL.Sem
open Cert.KernelIdeal Cert.KernelIdeal.Gen

/-- Row group values spread along the lanes: lane `n` reads column `n / 16`. -/
def ex (src : S16x512.Idx → EReal) : S16x7168.Idx → EReal :=
  fun y => src (ix2 (y 0) (⟨(y 1).val / 16, by have h : (y 1).val < 7168 := (y 1).isLt; omega⟩ : Fin 512))

/-- The lane number divided by sixteen, rounded down, as the kernel computes it. -/
def lane16 : IVec S16x128 32 :=
  select (andi (cmpi .ne (subi (extui 32 (cmpi .sgt (iota .tc S16x128 32 [1] iota_S16x128_d1_w32) (broadcast S16x128 0#32)) natLt_1_32)
        (extui 32 (cmpi .slt (iota .tc S16x128 32 [1] iota_S16x128_d1_w32) (broadcast S16x128 0#32)) natLt_1_32))
        (broadcast S16x128 (Scalar.subi (Scalar.extui (Scalar.cmpi .sgt 16#32 0#32)) (Scalar.extui (Scalar.cmpi .slt 16#32 0#32)))))
      (cmpi .ne (remsi (iota .tc S16x128 32 [1] iota_S16x128_d1_w32) (broadcast S16x128 16#32)) (broadcast S16x128 0#32)))
    (subi (divsi (iota .tc S16x128 32 [1] iota_S16x128_d1_w32) (broadcast S16x128 16#32)) (broadcast S16x128 1#32))
    (divsi (iota .tc S16x128 32 [1] iota_S16x128_d1_w32) (broadcast S16x128 16#32))

/-- The gather index of a chunk whose first column in its tile is `b`. -/
def ixw (b : BitVec 32) : IVec S16x128 32 :=
  shapeCast S16x128 (shapeCast S16x128x1 (select (cmpi .slt (addi (broadcast S16x128 b) lane16) (broadcast S16x128 0#32))
    (addi (addi (broadcast S16x128 b) lane16) (broadcast S16x128 128#32)) (addi (broadcast S16x128 b) lane16))
    shapeCasts_S16x128_S16x128x1) shapeCasts_S16x128x1_S16x128

/-- `lane16` at a lane. -/
theorem lane16_at (g : Fin 16) (l : Fin 128) : lane16 (ix2 g l) = BitVec.ofNat 32 (l.val / 16) := by
  revert g l; decide +kernel

/-- The word arithmetic of the gather index. -/
theorem ix_word (j : Fin 16) (k : Fin 8) :
    (Scalar.select (Scalar.cmpi .slt (BitVec.ofNat 32 (8 * j.val) + BitVec.ofNat 32 k.val) 0#32)
      (BitVec.ofNat 32 (8 * j.val) + BitVec.ofNat 32 k.val + 128#32) (BitVec.ofNat 32 (8 * j.val) + BitVec.ofNat 32 k.val)) =
    BitVec.ofNat 32 (8 * j.val + k.val) := by
  revert j k; decide +kernel

/-- The gather index at a lane. -/
theorem ixw_at (j : Fin 16) (g : Fin 16) (l : Fin 128) :
    ixw (BitVec.ofNat 32 (8 * j.val)) (ix2 g l) = BitVec.ofNat 32 (8 * j.val + l.val / 16) := by
  unfold ixw
  rw [shapeCast_shapeCast]
  have h := ix_word j ⟨l.val / 16, by omega⟩
  rw [← h]
  show Scalar.select (Scalar.cmpi .slt (BitVec.ofNat 32 (8 * j.val) + lane16 (ix2 g l)) 0#32)
      (BitVec.ofNat 32 (8 * j.val) + lane16 (ix2 g l) + 128#32) (BitVec.ofNat 32 (8 * j.val) + lane16 (ix2 g l)) = _
  rw [lane16_at]

/-- One chunk of the spread array: the kernel's gather of its columns. -/
theorem chunk (src : S16x512.Idx → EReal) (off o : ℕ) (j : Fin 16) (inb : ∀ a, ![0, off] a + S16x128.size a ≤ S16x7168.size a)
    (e : off = 16 * (o + 8 * j.val)) (hs : S16x512.Slices ![0, o] S16x128) (hc : S16x128.ShapeCasts S16x128) (x : S16x128.Idx) :
    shapeCast S16x128 (dynamicGather 1 (extractStridedSlice S16x128 ![0, o] src hs) (ixw (BitVec.ofNat 32 (8 * j.val)))) hc x =
      ex src ((Rect.unit (s := S16x7168) ![0, off] S16x128.size inb).emb x) := by
  obtain ⟨g, l, rfl⟩ : ∃ (g : Fin 16) (l : Fin 128), x = ix2 g l := ⟨x 0, x 1, funext fun a => match a with | 0 => rfl | 1 => rfl⟩
  rw [shapeCast_self]
  unfold dynamicGather ex
  refine extractStridedSlice_apply _ _ hs _ _ fun a => ?_
  match a with
  | 0 =>
    show 0 + 1 * g.val = 0 + g.val
    omega
  | 1 =>
    show (off + 1 * l.val) / 16 = o + (ixw (BitVec.ofNat 32 (8 * j.val)) (ix2 g l)).toNat % 128
    rw [ixw_at, BitVec.toNat_ofNat]
    omega

end Cert.Weight
end
-- ==== Proof.OutC.lean ====
/- Reads shared by the two cases of the ideal kernel's body. -/
module

public import proofs.«01_k».proof.Proof.Fold
public import proofs.«01_k».proof.Proof.Expand

@[expose] public section

set_option maxRecDepth 16384

noncomputable section

namespace Cert.Weight
open Idealize.ShloMosaic Idealize.ShloMosaic.TcCoe Idealize.SL.Sem Idealize.ShloMosaic.Tactic
open Cert.KernelIdeal Cert.KernelIdeal.Gen

/-- The sixteen rows of the scratch a grid point reads. -/
def sl16 (i : grid0.Coords) (S : S1152x512.Idx → EReal) : S16x512.Idx → EReal :=
  fun y => S (ix2 (⟨16 * (i 0).val + (y 0).val, by
    have h1 : (i 0).val < 72 := (i 0).isLt
    have h2 : (y 0).val < 16 := (y 0).isLt
    omega⟩ : Fin 1152) (⟨(y 1).val, (y 1).isLt⟩ : Fin 512))

/-- Those rows as the body reads them. -/
theorem sl16_read (i : grid0.Coords) (v : View sig .tc .vmem S1152x512 .f32) (X : BufTy.Contents (Elt Ideal) v.ty) (off : Fin 2 → Nat)
    (inb : ∀ a, off a + S16x512.size a ≤ S1152x512.size a) (h : off = ![16 * (i 0).val, 0]) :
    View.readAt (Elt Ideal) v (Rect.unit (s := S1152x512) off S16x512.size inb).toLoadRect X = sl16 i (v.read (Elt Ideal) X) := by
  subst h
  funext y
  exact View.ld_unit_apply_of _ _ _ _ _ _ fun a => by match a with | ⟨0, _⟩ => rfl | ⟨1, _⟩ => exact (Nat.zero_add _).symm

/-- The one index of a scalar array. -/
theorem one_idx (y : S1x1.Idx) : y = ix2 (0 : Fin 1) (0 : Fin 1) := funext fun a => by
  match a with
  | ⟨0, _⟩ => exact Subsingleton.elim (α := Fin 1) _ _
  | ⟨1, _⟩ => exact Subsingleton.elim (α := Fin 1) _ _

/-- A scalar read from its array. -/
theorem scal (v : View sig .tc .smem S1x1 .f32) (X : BufTy.Contents (Elt Ideal) v.ty) (inb : ∀ a, (![0, 0] : Fin 2 → Nat) a + S1x1.size a ≤ S1x1.size a) (y : S1x1.Idx) :
    View.readAt (Elt Ideal) v (Rect.unit (s := S1x1) ![0, 0] S1x1.size inb).toLoadRect X y = v.read (Elt Ideal) X (ix2 (0 : Fin 1) (0 : Fin 1)) := by
  rw [View.readAt_full, one_idx y]

end Cert.Weight
end
-- ==== Proof.KerPay.lean ====
/- The scales and scaled weights of the ideal kernel's body at an index, and its blocked sums as one sum. -/
module

public import proofs.«01_k».proof.Proof.Spec
public import proofs.«01_k».proof.Proof.OutC

@[expose] public section

set_option maxRecDepth 16384

noncomputable section

namespace Cert.Weight
open Idealize.ShloMosaic
open Cert.KernelIdeal Cert.KernelIdeal.Gen

/-- The kernel's tensor scale. -/
theorem ker50 (g : EReal) : k0_pay50 (F := Ideal) g = sT g := by
  unfold k0_pay50
  show g * (Named.named κ "inv_tensor_div" 0x39C30C31#32 : Ideal .f32) = _
  rw [IdealRules.named_const.ideal_named_scalar _ _ _ _ rfl]
  rfl

/-- The kernel's added zero. -/
theorem ker49 (g : EReal) (h : 0 ≤ g) : k0_pay49 (F := Ideal) g = 0 := by
  unfold k0_pay49
  show min g (FloatOps.ofBits (F := Ideal) .f32 0x00000000#32) = _
  rw [lit0]
  exact min_zero g h

/-- The kernel's block scales. -/
theorem ker51 (g : EReal) (A : S1152x512.Idx → EReal) (y : S1152x512.Idx) : k0_pay51 (F := Ideal) g A y = sB g (A y) := by
  unfold k0_pay51
  show min (Ideal.div (A y) (g * (Named.named κ "inv_block_div" 0x3B124925#32 : Ideal .f32))) (FloatOps.ofBits (F := Ideal) .f32 0x43E00000#32) = _
  rw [IdealRules.named_const.ideal_named_scalar _ _ _ _ rfl, lit1138753536]
  rfl

/-- The block scales as the kernel stores them. -/
theorem ker52 (g : EReal) (A : S1152x512.Idx → EReal) (r : Fin 1152) (q : Fin 448) :
    k0_pay52 (F := Ideal) g A (ix2 r q) = sB g (A (ix2 r (⟨q.val, by omega⟩ : Fin 512))) := by
  unfold k0_pay52
  refine (extractStridedSlice_apply ![0, 0] (k0_pay51 (F := Ideal) g A) _ (ix2 r q) (ix2 r (⟨q.val, by omega⟩ : Fin 512)) (fun b => by
    match b with
    | ⟨0, _⟩ => exact (Nat.zero_add _).symm
    | ⟨1, _⟩ => exact (Nat.zero_add _).symm)).trans ?_
  exact ker51 g A _

/-- The block scales as the kernel keeps them in scratch. -/
theorem ker53 (g : EReal) (A : S1152x512.Idx → EReal) (y : S1152x512.Idx) : k0_pay53 (F := Ideal) g A y = sB g (A y) := by
  unfold k0_pay53
  rw [shapeCast_self]
  exact ker51 g A y

/-- The kernel's factors. -/
theorem ker54 (g : EReal) (B : S16x512.Idx → EReal) (y : S16x512.Idx) : k0_pay54 (F := Ideal) g B y = rcp (B y * sT g) := by
  unfold k0_pay54
  show Scalar.select (FloatOps.cmpf (F := Ideal) (φ := .f32) .ogt (B y * k0_pay50 (F := Ideal) g) (FloatOps.ofBits (F := Ideal) .f32 0x00000000#32))
    (Ideal.div (FloatOps.ofBits (F := Ideal) .f32 0x3F800000#32) (Scalar.select (FloatOps.cmpf (F := Ideal) (φ := .f32) .ogt (B y * k0_pay50 (F := Ideal) g) (FloatOps.ofBits (F := Ideal) .f32 0x00000000#32))
      (B y * k0_pay50 (F := Ideal) g) (FloatOps.ofBits (F := Ideal) .f32 0x3F800000#32)))
    (FloatOps.ofBits (F := Ideal) .f32 0x00000000#32) = _
  rw [ker50, lit0, lit1065353216, sel_gt, sel_gt]
  rfl

/-- The scratch row and column that a block's weight reads. -/
theorem scale_at (g : EReal) (A : S1152x512.Idx → EReal) (i : grid0.Coords) (m : Fin 18432) (a : Fin 256) (n : Fin 7168) (hm : m.val = 256 * (i 0).val + a.val) :
    ex (sl16 i (k0_pay53 (F := Ideal) g A)) (ix2 (⟨a.val / 16, by omega⟩ : Fin 16) n) = sB g (A (ix2 (⟨m.val / 16, by omega⟩ : Fin 1152) (⟨n.val / 16, by omega⟩ : Fin 512))) := by
  refine (ker53 g A _).trans (congrArg (fun y => sB g (A y)) (funext fun b => ?_))
  match b with
  | ⟨0, _⟩ => exact Fin.ext (by show 16 * (i 0).val + a.val / 16 = m.val / 16; omega)
  | ⟨1, _⟩ => rfl

/-- The code a grid point computes. -/
theorem cd_eq (g : EReal) (hg : 0 ≤ g) (A : S1152x512.Idx → EReal) (W : S18432x7168.Idx → EReal) (w : S256x7168.Idx → EReal) (i : grid0.Coords)
    (m : Fin 18432) (a : Fin 256) (n : Fin 7168) (hm : m.val = 256 * (i 0).val + a.val) (hw : w (ix2 a n) = W (ix2 m n)) :
    cd w (ex (k0_pay54 (F := Ideal) g (sl16 i (k0_pay53 (F := Ideal) g A)))) (k0_pay49 (F := Ideal) g) a n = cs g A W m n := by
  unfold cd sv cs
  have e : ex (k0_pay54 (F := Ideal) g (sl16 i (k0_pay53 (F := Ideal) g A))) (ix2 (⟨a.val / 16, by omega⟩ : Fin 16) n)
      = rcp (sB g (A (ix2 (⟨m.val / 16, by omega⟩ : Fin 1152) (⟨n.val / 16, by omega⟩ : Fin 512))) * sT g) :=
    (ker54 g _ _).trans (congrArg (fun z => rcp (z * sT g)) (scale_at g A i m a n hm))
  rw [hw, e, ker49 g hg, add_zero, mul_rcp]

/-- The dequantised weight a grid point computes. -/
theorem dq_eq (g : EReal) (hg : 0 ≤ g) (A : S1152x512.Idx → EReal) (W : S18432x7168.Idx → EReal) (w : S256x7168.Idx → EReal) (i : grid0.Coords)
    (m : Fin 18432) (a : Fin 256) (n : Fin 7168) (hm : m.val = 256 * (i 0).val + a.val) (hw : w (ix2 a n) = W (ix2 m n)) :
    dq w (ex (k0_pay54 (F := Ideal) g (sl16 i (k0_pay53 (F := Ideal) g A)))) (ex (sl16 i (k0_pay53 (F := Ideal) g A))) (k0_pay49 (F := Ideal) g) a n
      = val (cs g A W m n) * sB g (A (ix2 (⟨m.val / 16, by omega⟩ : Fin 1152) (⟨n.val / 16, by omega⟩ : Fin 512))) := by
  unfold dq
  rw [cd_eq g hg A W w i m a n hm hw, scale_at g A i m a n hm]

/-- A sum over the first `512 n` numbers, taken in blocks of 512. -/
theorem sum_blocks (f : ℕ → EReal) (n : ℕ) : ∑ k ∈ Finset.range n, ∑ l ∈ Finset.range 512, f (512 * k + l) = ∑ j ∈ Finset.range (512 * n), f j := by
  induction n with
  | zero => rfl
  | succ n ih => rw [Finset.sum_range_succ, ih, Nat.mul_succ, Finset.sum_range_add]

/-- The fourteen blocks of products are the whole row of products. -/
theorem blk_sum (x : S128x7168.Idx → EReal) (D : Fin 256 → Fin 7168 → EReal) (r : Fin 128) (a : Fin 256) :
    ∑ k ∈ Finset.range 14, blk x D r a k = ∑ n : Fin 7168, x (ix2 r n) * D a n := by
  let f : ℕ → EReal := fun j => if h : j < 7168 then x (ix2 r (⟨j, h⟩ : Fin 7168)) * D a ⟨j, h⟩ else 0
  have h1 : ∑ n : Fin 7168, x (ix2 r n) * D a n = ∑ j ∈ Finset.range (512 * 14), f j := by
    rw [← Fin.sum_univ_eq_sum_range f (512 * 14)]
    refine Finset.sum_congr rfl fun n _ => ?_
    show _ = dite (n.val < 7168) (fun h => x (ix2 r (⟨n.val, h⟩ : Fin 7168)) * D a ⟨n.val, h⟩) (fun _ => 0)
    rw [dif_pos n.isLt]
  rw [h1, ← sum_blocks]
  refine Finset.sum_congr rfl fun k hk => ?_
  have hk' : k < 14 := Finset.mem_range.mp hk
  unfold blk
  rw [dif_pos hk', ← Fin.sum_univ_eq_sum_range (fun l => f (512 * k + l)) 512]
  refine Finset.sum_congr rfl fun l _ => ?_
  show _ = dite (512 * k + l.val < 7168) (fun h => x (ix2 r (⟨512 * k + l.val, h⟩ : Fin 7168)) * D a ⟨512 * k + l.val, h⟩) (fun _ => 0)
  rw [dif_pos (by omega)]

end Cert.Weight
end
-- ==== Proof.ExpandA.lean ====
/- The two spread arrays of the ideal kernel's body, case A: what its 56 stores into each leave. -/
module

public import proofs.«01_k».proof.Proof.Expand
public import proofs.«01_k».proof.Proof.Ideal.RunA

@[expose] public section

set_option maxRecDepth 16384

noncomputable section

namespace Cert.Weight
open Idealize.ShloMosaic Idealize.ShloMosaic.TcCoe Idealize.SL.Sem Idealize.ShloMosaic.Tactic
open Cert.KernelIdeal Cert.KernelIdeal.Gen

/-- Store 0 of the spread reciprocals. -/
theorem recip_A_0 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v57 c i arg1 harg1 arg4 harg4 arg11 x0 x3 : S16x128.Idx → EReal) x = ex (kernelRun0_A.sl.r_4 c i arg1 harg1 arg4 harg4 arg11 x0 x3) ((Rect.unit (s := S16x7168) ![0, 0] S16x128.size inb_S16x7168_S16x128_0_0).emb x) :=
  chunk (kernelRun0_A.sl.r_4 c i arg1 harg1 arg4 harg4 arg11 x0 x3) 0 0 0 inb_S16x7168_S16x128_0_0 (by decide) slices_S16x512_o0_0_S16x128 shapeCasts_S16x128_S16x128 x

/-- Store 1 of the spread reciprocals. -/
theorem recip_A_1 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v108 c i arg1 harg1 arg4 harg4 arg11 x0 x3 : S16x128.Idx → EReal) x = ex (kernelRun0_A.sl.r_4 c i arg1 harg1 arg4 harg4 arg11 x0 x3) ((Rect.unit (s := S16x7168) ![0, 128] S16x128.size inb_S16x7168_S16x128_0_128).emb x) :=
  chunk (kernelRun0_A.sl.r_4 c i arg1 harg1 arg4 harg4 arg11 x0 x3) 128 0 1 inb_S16x7168_S16x128_0_128 (by decide) slices_S16x512_o0_0_S16x128 shapeCasts_S16x128_S16x128 x

/-- Store 2 of the spread reciprocals. -/
theorem recip_A_2 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v159 c i arg1 harg1 arg4 harg4 arg11 x0 x3 : S16x128.Idx → EReal) x = ex (kernelRun0_A.sl.r_4 c i arg1 harg1 arg4 harg4 arg11 x0 x3) ((Rect.unit (s := S16x7168) ![0, 256] S16x128.size inb_S16x7168_S16x128_0_256).emb x) :=
  chunk (kernelRun0_A.sl.r_4 c i arg1 harg1 arg4 harg4 arg11 x0 x3) 256 0 2 inb_S16x7168_S16x128_0_256 (by decide) slices_S16x512_o0_0_S16x128 shapeCasts_S16x128_S16x128 x

/-- Store 3 of the spread reciprocals. -/
theorem recip_A_3 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v210 c i arg1 harg1 arg4 harg4 arg11 x0 x3 : S16x128.Idx → EReal) x = ex (kernelRun0_A.sl.r_4 c i arg1 harg1 arg4 harg4 arg11 x0 x3) ((Rect.unit (s := S16x7168) ![0, 384] S16x128.size inb_S16x7168_S16x128_0_384).emb x) :=
  chunk (kernelRun0_A.sl.r_4 c i arg1 harg1 arg4 harg4 arg11 x0 x3) 384 0 3 inb_S16x7168_S16x128_0_384 (by decide) slices_S16x512_o0_0_S16x128 shapeCasts_S16x128_S16x128 x

/-- Store 4 of the spread reciprocals. -/
theorem recip_A_4 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v261 c i arg1 harg1 arg4 harg4 arg11 x0 x3 : S16x128.Idx → EReal) x = ex (kernelRun0_A.sl.r_4 c i arg1 harg1 arg4 harg4 arg11 x0 x3) ((Rect.unit (s := S16x7168) ![0, 512] S16x128.size inb_S16x7168_S16x128_0_512).emb x) :=
  chunk (kernelRun0_A.sl.r_4 c i arg1 harg1 arg4 harg4 arg11 x0 x3) 512 0 4 inb_S16x7168_S16x128_0_512 (by decide) slices_S16x512_o0_0_S16x128 shapeCasts_S16x128_S16x128 x

/-- Store 5 of the spread reciprocals. -/
theorem recip_A_5 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v312 c i arg1 harg1 arg4 harg4 arg11 x0 x3 : S16x128.Idx → EReal) x = ex (kernelRun0_A.sl.r_4 c i arg1 harg1 arg4 harg4 arg11 x0 x3) ((Rect.unit (s := S16x7168) ![0, 640] S16x128.size inb_S16x7168_S16x128_0_640).emb x) :=
  chunk (kernelRun0_A.sl.r_4 c i arg1 harg1 arg4 harg4 arg11 x0 x3) 640 0 5 inb_S16x7168_S16x128_0_640 (by decide) slices_S16x512_o0_0_S16x128 shapeCasts_S16x128_S16x128 x

/-- Store 6 of the spread reciprocals. -/
theorem recip_A_6 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v363 c i arg1 harg1 arg4 harg4 arg11 x0 x3 : S16x128.Idx → EReal) x = ex (kernelRun0_A.sl.r_4 c i arg1 harg1 arg4 harg4 arg11 x0 x3) ((Rect.unit (s := S16x7168) ![0, 768] S16x128.size inb_S16x7168_S16x128_0_768).emb x) :=
  chunk (kernelRun0_A.sl.r_4 c i arg1 harg1 arg4 harg4 arg11 x0 x3) 768 0 6 inb_S16x7168_S16x128_0_768 (by decide) slices_S16x512_o0_0_S16x128 shapeCasts_S16x128_S16x128 x

/-- Store 7 of the spread reciprocals. -/
theorem recip_A_7 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v414 c i arg1 harg1 arg4 harg4 arg11 x0 x3 : S16x128.Idx → EReal) x = ex (kernelRun0_A.sl.r_4 c i arg1 harg1 arg4 harg4 arg11 x0 x3) ((Rect.unit (s := S16x7168) ![0, 896] S16x128.size inb_S16x7168_S16x128_0_896).emb x) :=
  chunk (kernelRun0_A.sl.r_4 c i arg1 harg1 arg4 harg4 arg11 x0 x3) 896 0 7 inb_S16x7168_S16x128_0_896 (by decide) slices_S16x512_o0_0_S16x128 shapeCasts_S16x128_S16x128 x

/-- Store 8 of the spread reciprocals. -/
theorem recip_A_8 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v465 c i arg1 harg1 arg4 harg4 arg11 x0 x3 : S16x128.Idx → EReal) x = ex (kernelRun0_A.sl.r_4 c i arg1 harg1 arg4 harg4 arg11 x0 x3) ((Rect.unit (s := S16x7168) ![0, 1024] S16x128.size inb_S16x7168_S16x128_0_1024).emb x) :=
  chunk (kernelRun0_A.sl.r_4 c i arg1 harg1 arg4 harg4 arg11 x0 x3) 1024 0 8 inb_S16x7168_S16x128_0_1024 (by decide) slices_S16x512_o0_0_S16x128 shapeCasts_S16x128_S16x128 x

/-- Store 9 of the spread reciprocals. -/
theorem recip_A_9 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v516 c i arg1 harg1 arg4 harg4 arg11 x0 x3 : S16x128.Idx → EReal) x = ex (kernelRun0_A.sl.r_4 c i arg1 harg1 arg4 harg4 arg11 x0 x3) ((Rect.unit (s := S16x7168) ![0, 1152] S16x128.size inb_S16x7168_S16x128_0_1152).emb x) :=
  chunk (kernelRun0_A.sl.r_4 c i arg1 harg1 arg4 harg4 arg11 x0 x3) 1152 0 9 inb_S16x7168_S16x128_0_1152 (by decide) slices_S16x512_o0_0_S16x128 shapeCasts_S16x128_S16x128 x

/-- Store 10 of the spread reciprocals. -/
theorem recip_A_10 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v567 c i arg1 harg1 arg4 harg4 arg11 x0 x3 : S16x128.Idx → EReal) x = ex (kernelRun0_A.sl.r_4 c i arg1 harg1 arg4 harg4 arg11 x0 x3) ((Rect.unit (s := S16x7168) ![0, 1280] S16x128.size inb_S16x7168_S16x128_0_1280).emb x) :=
  chunk (kernelRun0_A.sl.r_4 c i arg1 harg1 arg4 harg4 arg11 x0 x3) 1280 0 10 inb_S16x7168_S16x128_0_1280 (by decide) slices_S16x512_o0_0_S16x128 shapeCasts_S16x128_S16x128 x

/-- Store 11 of the spread reciprocals. -/
theorem recip_A_11 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v618 c i arg1 harg1 arg4 harg4 arg11 x0 x3 : S16x128.Idx → EReal) x = ex (kernelRun0_A.sl.r_4 c i arg1 harg1 arg4 harg4 arg11 x0 x3) ((Rect.unit (s := S16x7168) ![0, 1408] S16x128.size inb_S16x7168_S16x128_0_1408).emb x) :=
  chunk (kernelRun0_A.sl.r_4 c i arg1 harg1 arg4 harg4 arg11 x0 x3) 1408 0 11 inb_S16x7168_S16x128_0_1408 (by decide) slices_S16x512_o0_0_S16x128 shapeCasts_S16x128_S16x128 x

/-- Store 12 of the spread reciprocals. -/
theorem recip_A_12 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v669 c i arg1 harg1 arg4 harg4 arg11 x0 x3 : S16x128.Idx → EReal) x = ex (kernelRun0_A.sl.r_4 c i arg1 harg1 arg4 harg4 arg11 x0 x3) ((Rect.unit (s := S16x7168) ![0, 1536] S16x128.size inb_S16x7168_S16x128_0_1536).emb x) :=
  chunk (kernelRun0_A.sl.r_4 c i arg1 harg1 arg4 harg4 arg11 x0 x3) 1536 0 12 inb_S16x7168_S16x128_0_1536 (by decide) slices_S16x512_o0_0_S16x128 shapeCasts_S16x128_S16x128 x

/-- Store 13 of the spread reciprocals. -/
theorem recip_A_13 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v720 c i arg1 harg1 arg4 harg4 arg11 x0 x3 : S16x128.Idx → EReal) x = ex (kernelRun0_A.sl.r_4 c i arg1 harg1 arg4 harg4 arg11 x0 x3) ((Rect.unit (s := S16x7168) ![0, 1664] S16x128.size inb_S16x7168_S16x128_0_1664).emb x) :=
  chunk (kernelRun0_A.sl.r_4 c i arg1 harg1 arg4 harg4 arg11 x0 x3) 1664 0 13 inb_S16x7168_S16x128_0_1664 (by decide) slices_S16x512_o0_0_S16x128 shapeCasts_S16x128_S16x128 x

/-- Store 14 of the spread reciprocals. -/
theorem recip_A_14 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v771 c i arg1 harg1 arg4 harg4 arg11 x0 x3 : S16x128.Idx → EReal) x = ex (kernelRun0_A.sl.r_4 c i arg1 harg1 arg4 harg4 arg11 x0 x3) ((Rect.unit (s := S16x7168) ![0, 1792] S16x128.size inb_S16x7168_S16x128_0_1792).emb x) :=
  chunk (kernelRun0_A.sl.r_4 c i arg1 harg1 arg4 harg4 arg11 x0 x3) 1792 0 14 inb_S16x7168_S16x128_0_1792 (by decide) slices_S16x512_o0_0_S16x128 shapeCasts_S16x128_S16x128 x

/-- Store 15 of the spread reciprocals. -/
theorem recip_A_15 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v822 c i arg1 harg1 arg4 harg4 arg11 x0 x3 : S16x128.Idx → EReal) x = ex (kernelRun0_A.sl.r_4 c i arg1 harg1 arg4 harg4 arg11 x0 x3) ((Rect.unit (s := S16x7168) ![0, 1920] S16x128.size inb_S16x7168_S16x128_0_1920).emb x) :=
  chunk (kernelRun0_A.sl.r_4 c i arg1 harg1 arg4 harg4 arg11 x0 x3) 1920 0 15 inb_S16x7168_S16x128_0_1920 (by decide) slices_S16x512_o0_0_S16x128 shapeCasts_S16x128_S16x128 x

/-- Store 16 of the spread reciprocals. -/
theorem recip_A_16 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v873 c i arg1 harg1 arg4 harg4 arg11 x0 x3 : S16x128.Idx → EReal) x = ex (kernelRun0_A.sl.r_4 c i arg1 harg1 arg4 harg4 arg11 x0 x3) ((Rect.unit (s := S16x7168) ![0, 2048] S16x128.size inb_S16x7168_S16x128_0_2048).emb x) :=
  chunk (kernelRun0_A.sl.r_4 c i arg1 harg1 arg4 harg4 arg11 x0 x3) 2048 128 0 inb_S16x7168_S16x128_0_2048 (by decide) slices_S16x512_o0_128_S16x128 shapeCasts_S16x128_S16x128 x

/-- Store 17 of the spread reciprocals. -/
theorem recip_A_17 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v924 c i arg1 harg1 arg4 harg4 arg11 x0 x3 : S16x128.Idx → EReal) x = ex (kernelRun0_A.sl.r_4 c i arg1 harg1 arg4 harg4 arg11 x0 x3) ((Rect.unit (s := S16x7168) ![0, 2176] S16x128.size inb_S16x7168_S16x128_0_2176).emb x) :=
  chunk (kernelRun0_A.sl.r_4 c i arg1 harg1 arg4 harg4 arg11 x0 x3) 2176 128 1 inb_S16x7168_S16x128_0_2176 (by decide) slices_S16x512_o0_128_S16x128 shapeCasts_S16x128_S16x128 x

/-- Store 18 of the spread reciprocals. -/
theorem recip_A_18 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v975 c i arg1 harg1 arg4 harg4 arg11 x0 x3 : S16x128.Idx → EReal) x = ex (kernelRun0_A.sl.r_4 c i arg1 harg1 arg4 harg4 arg11 x0 x3) ((Rect.unit (s := S16x7168) ![0, 2304] S16x128.size inb_S16x7168_S16x128_0_2304).emb x) :=
  chunk (kernelRun0_A.sl.r_4 c i arg1 harg1 arg4 harg4 arg11 x0 x3) 2304 128 2 inb_S16x7168_S16x128_0_2304 (by decide) slices_S16x512_o0_128_S16x128 shapeCasts_S16x128_S16x128 x

/-- Store 19 of the spread reciprocals. -/
theorem recip_A_19 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1026 c i arg1 harg1 arg4 harg4 arg11 x0 x3 : S16x128.Idx → EReal) x = ex (kernelRun0_A.sl.r_4 c i arg1 harg1 arg4 harg4 arg11 x0 x3) ((Rect.unit (s := S16x7168) ![0, 2432] S16x128.size inb_S16x7168_S16x128_0_2432).emb x) :=
  chunk (kernelRun0_A.sl.r_4 c i arg1 harg1 arg4 harg4 arg11 x0 x3) 2432 128 3 inb_S16x7168_S16x128_0_2432 (by decide) slices_S16x512_o0_128_S16x128 shapeCasts_S16x128_S16x128 x

/-- Store 20 of the spread reciprocals. -/
theorem recip_A_20 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1077 c i arg1 harg1 arg4 harg4 arg11 x0 x3 : S16x128.Idx → EReal) x = ex (kernelRun0_A.sl.r_4 c i arg1 harg1 arg4 harg4 arg11 x0 x3) ((Rect.unit (s := S16x7168) ![0, 2560] S16x128.size inb_S16x7168_S16x128_0_2560).emb x) :=
  chunk (kernelRun0_A.sl.r_4 c i arg1 harg1 arg4 harg4 arg11 x0 x3) 2560 128 4 inb_S16x7168_S16x128_0_2560 (by decide) slices_S16x512_o0_128_S16x128 shapeCasts_S16x128_S16x128 x

/-- Store 21 of the spread reciprocals. -/
theorem recip_A_21 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1128 c i arg1 harg1 arg4 harg4 arg11 x0 x3 : S16x128.Idx → EReal) x = ex (kernelRun0_A.sl.r_4 c i arg1 harg1 arg4 harg4 arg11 x0 x3) ((Rect.unit (s := S16x7168) ![0, 2688] S16x128.size inb_S16x7168_S16x128_0_2688).emb x) :=
  chunk (kernelRun0_A.sl.r_4 c i arg1 harg1 arg4 harg4 arg11 x0 x3) 2688 128 5 inb_S16x7168_S16x128_0_2688 (by decide) slices_S16x512_o0_128_S16x128 shapeCasts_S16x128_S16x128 x

/-- Store 22 of the spread reciprocals. -/
theorem recip_A_22 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1179 c i arg1 harg1 arg4 harg4 arg11 x0 x3 : S16x128.Idx → EReal) x = ex (kernelRun0_A.sl.r_4 c i arg1 harg1 arg4 harg4 arg11 x0 x3) ((Rect.unit (s := S16x7168) ![0, 2816] S16x128.size inb_S16x7168_S16x128_0_2816).emb x) :=
  chunk (kernelRun0_A.sl.r_4 c i arg1 harg1 arg4 harg4 arg11 x0 x3) 2816 128 6 inb_S16x7168_S16x128_0_2816 (by decide) slices_S16x512_o0_128_S16x128 shapeCasts_S16x128_S16x128 x

/-- Store 23 of the spread reciprocals. -/
theorem recip_A_23 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1230 c i arg1 harg1 arg4 harg4 arg11 x0 x3 : S16x128.Idx → EReal) x = ex (kernelRun0_A.sl.r_4 c i arg1 harg1 arg4 harg4 arg11 x0 x3) ((Rect.unit (s := S16x7168) ![0, 2944] S16x128.size inb_S16x7168_S16x128_0_2944).emb x) :=
  chunk (kernelRun0_A.sl.r_4 c i arg1 harg1 arg4 harg4 arg11 x0 x3) 2944 128 7 inb_S16x7168_S16x128_0_2944 (by decide) slices_S16x512_o0_128_S16x128 shapeCasts_S16x128_S16x128 x

/-- Store 24 of the spread reciprocals. -/
theorem recip_A_24 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1281 c i arg1 harg1 arg4 harg4 arg11 x0 x3 : S16x128.Idx → EReal) x = ex (kernelRun0_A.sl.r_4 c i arg1 harg1 arg4 harg4 arg11 x0 x3) ((Rect.unit (s := S16x7168) ![0, 3072] S16x128.size inb_S16x7168_S16x128_0_3072).emb x) :=
  chunk (kernelRun0_A.sl.r_4 c i arg1 harg1 arg4 harg4 arg11 x0 x3) 3072 128 8 inb_S16x7168_S16x128_0_3072 (by decide) slices_S16x512_o0_128_S16x128 shapeCasts_S16x128_S16x128 x

/-- Store 25 of the spread reciprocals. -/
theorem recip_A_25 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1332 c i arg1 harg1 arg4 harg4 arg11 x0 x3 : S16x128.Idx → EReal) x = ex (kernelRun0_A.sl.r_4 c i arg1 harg1 arg4 harg4 arg11 x0 x3) ((Rect.unit (s := S16x7168) ![0, 3200] S16x128.size inb_S16x7168_S16x128_0_3200).emb x) :=
  chunk (kernelRun0_A.sl.r_4 c i arg1 harg1 arg4 harg4 arg11 x0 x3) 3200 128 9 inb_S16x7168_S16x128_0_3200 (by decide) slices_S16x512_o0_128_S16x128 shapeCasts_S16x128_S16x128 x

/-- Store 26 of the spread reciprocals. -/
theorem recip_A_26 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1383 c i arg1 harg1 arg4 harg4 arg11 x0 x3 : S16x128.Idx → EReal) x = ex (kernelRun0_A.sl.r_4 c i arg1 harg1 arg4 harg4 arg11 x0 x3) ((Rect.unit (s := S16x7168) ![0, 3328] S16x128.size inb_S16x7168_S16x128_0_3328).emb x) :=
  chunk (kernelRun0_A.sl.r_4 c i arg1 harg1 arg4 harg4 arg11 x0 x3) 3328 128 10 inb_S16x7168_S16x128_0_3328 (by decide) slices_S16x512_o0_128_S16x128 shapeCasts_S16x128_S16x128 x

/-- Store 27 of the spread reciprocals. -/
theorem recip_A_27 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1434 c i arg1 harg1 arg4 harg4 arg11 x0 x3 : S16x128.Idx → EReal) x = ex (kernelRun0_A.sl.r_4 c i arg1 harg1 arg4 harg4 arg11 x0 x3) ((Rect.unit (s := S16x7168) ![0, 3456] S16x128.size inb_S16x7168_S16x128_0_3456).emb x) :=
  chunk (kernelRun0_A.sl.r_4 c i arg1 harg1 arg4 harg4 arg11 x0 x3) 3456 128 11 inb_S16x7168_S16x128_0_3456 (by decide) slices_S16x512_o0_128_S16x128 shapeCasts_S16x128_S16x128 x

/-- Store 28 of the spread reciprocals. -/
theorem recip_A_28 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1485 c i arg1 harg1 arg4 harg4 arg11 x0 x3 : S16x128.Idx → EReal) x = ex (kernelRun0_A.sl.r_4 c i arg1 harg1 arg4 harg4 arg11 x0 x3) ((Rect.unit (s := S16x7168) ![0, 3584] S16x128.size inb_S16x7168_S16x128_0_3584).emb x) :=
  chunk (kernelRun0_A.sl.r_4 c i arg1 harg1 arg4 harg4 arg11 x0 x3) 3584 128 12 inb_S16x7168_S16x128_0_3584 (by decide) slices_S16x512_o0_128_S16x128 shapeCasts_S16x128_S16x128 x

/-- Store 29 of the spread reciprocals. -/
theorem recip_A_29 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1536 c i arg1 harg1 arg4 harg4 arg11 x0 x3 : S16x128.Idx → EReal) x = ex (kernelRun0_A.sl.r_4 c i arg1 harg1 arg4 harg4 arg11 x0 x3) ((Rect.unit (s := S16x7168) ![0, 3712] S16x128.size inb_S16x7168_S16x128_0_3712).emb x) :=
  chunk (kernelRun0_A.sl.r_4 c i arg1 harg1 arg4 harg4 arg11 x0 x3) 3712 128 13 inb_S16x7168_S16x128_0_3712 (by decide) slices_S16x512_o0_128_S16x128 shapeCasts_S16x128_S16x128 x

/-- Store 30 of the spread reciprocals. -/
theorem recip_A_30 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1587 c i arg1 harg1 arg4 harg4 arg11 x0 x3 : S16x128.Idx → EReal) x = ex (kernelRun0_A.sl.r_4 c i arg1 harg1 arg4 harg4 arg11 x0 x3) ((Rect.unit (s := S16x7168) ![0, 3840] S16x128.size inb_S16x7168_S16x128_0_3840).emb x) :=
  chunk (kernelRun0_A.sl.r_4 c i arg1 harg1 arg4 harg4 arg11 x0 x3) 3840 128 14 inb_S16x7168_S16x128_0_3840 (by decide) slices_S16x512_o0_128_S16x128 shapeCasts_S16x128_S16x128 x

/-- Store 31 of the spread reciprocals. -/
theorem recip_A_31 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1638 c i arg1 harg1 arg4 harg4 arg11 x0 x3 : S16x128.Idx → EReal) x = ex (kernelRun0_A.sl.r_4 c i arg1 harg1 arg4 harg4 arg11 x0 x3) ((Rect.unit (s := S16x7168) ![0, 3968] S16x128.size inb_S16x7168_S16x128_0_3968).emb x) :=
  chunk (kernelRun0_A.sl.r_4 c i arg1 harg1 arg4 harg4 arg11 x0 x3) 3968 128 15 inb_S16x7168_S16x128_0_3968 (by decide) slices_S16x512_o0_128_S16x128 shapeCasts_S16x128_S16x128 x

/-- Store 32 of the spread reciprocals. -/
theorem recip_A_32 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1689 c i arg1 harg1 arg4 harg4 arg11 x0 x3 : S16x128.Idx → EReal) x = ex (kernelRun0_A.sl.r_4 c i arg1 harg1 arg4 harg4 arg11 x0 x3) ((Rect.unit (s := S16x7168) ![0, 4096] S16x128.size inb_S16x7168_S16x128_0_4096).emb x) :=
  chunk (kernelRun0_A.sl.r_4 c i arg1 harg1 arg4 harg4 arg11 x0 x3) 4096 256 0 inb_S16x7168_S16x128_0_4096 (by decide) slices_S16x512_o0_256_S16x128 shapeCasts_S16x128_S16x128 x

/-- Store 33 of the spread reciprocals. -/
theorem recip_A_33 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1740 c i arg1 harg1 arg4 harg4 arg11 x0 x3 : S16x128.Idx → EReal) x = ex (kernelRun0_A.sl.r_4 c i arg1 harg1 arg4 harg4 arg11 x0 x3) ((Rect.unit (s := S16x7168) ![0, 4224] S16x128.size inb_S16x7168_S16x128_0_4224).emb x) :=
  chunk (kernelRun0_A.sl.r_4 c i arg1 harg1 arg4 harg4 arg11 x0 x3) 4224 256 1 inb_S16x7168_S16x128_0_4224 (by decide) slices_S16x512_o0_256_S16x128 shapeCasts_S16x128_S16x128 x

/-- Store 34 of the spread reciprocals. -/
theorem recip_A_34 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1791 c i arg1 harg1 arg4 harg4 arg11 x0 x3 : S16x128.Idx → EReal) x = ex (kernelRun0_A.sl.r_4 c i arg1 harg1 arg4 harg4 arg11 x0 x3) ((Rect.unit (s := S16x7168) ![0, 4352] S16x128.size inb_S16x7168_S16x128_0_4352).emb x) :=
  chunk (kernelRun0_A.sl.r_4 c i arg1 harg1 arg4 harg4 arg11 x0 x3) 4352 256 2 inb_S16x7168_S16x128_0_4352 (by decide) slices_S16x512_o0_256_S16x128 shapeCasts_S16x128_S16x128 x

/-- Store 35 of the spread reciprocals. -/
theorem recip_A_35 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1842 c i arg1 harg1 arg4 harg4 arg11 x0 x3 : S16x128.Idx → EReal) x = ex (kernelRun0_A.sl.r_4 c i arg1 harg1 arg4 harg4 arg11 x0 x3) ((Rect.unit (s := S16x7168) ![0, 4480] S16x128.size inb_S16x7168_S16x128_0_4480).emb x) :=
  chunk (kernelRun0_A.sl.r_4 c i arg1 harg1 arg4 harg4 arg11 x0 x3) 4480 256 3 inb_S16x7168_S16x128_0_4480 (by decide) slices_S16x512_o0_256_S16x128 shapeCasts_S16x128_S16x128 x

/-- Store 36 of the spread reciprocals. -/
theorem recip_A_36 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1893 c i arg1 harg1 arg4 harg4 arg11 x0 x3 : S16x128.Idx → EReal) x = ex (kernelRun0_A.sl.r_4 c i arg1 harg1 arg4 harg4 arg11 x0 x3) ((Rect.unit (s := S16x7168) ![0, 4608] S16x128.size inb_S16x7168_S16x128_0_4608).emb x) :=
  chunk (kernelRun0_A.sl.r_4 c i arg1 harg1 arg4 harg4 arg11 x0 x3) 4608 256 4 inb_S16x7168_S16x128_0_4608 (by decide) slices_S16x512_o0_256_S16x128 shapeCasts_S16x128_S16x128 x

/-- Store 37 of the spread reciprocals. -/
theorem recip_A_37 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1944 c i arg1 harg1 arg4 harg4 arg11 x0 x3 : S16x128.Idx → EReal) x = ex (kernelRun0_A.sl.r_4 c i arg1 harg1 arg4 harg4 arg11 x0 x3) ((Rect.unit (s := S16x7168) ![0, 4736] S16x128.size inb_S16x7168_S16x128_0_4736).emb x) :=
  chunk (kernelRun0_A.sl.r_4 c i arg1 harg1 arg4 harg4 arg11 x0 x3) 4736 256 5 inb_S16x7168_S16x128_0_4736 (by decide) slices_S16x512_o0_256_S16x128 shapeCasts_S16x128_S16x128 x

/-- Store 38 of the spread reciprocals. -/
theorem recip_A_38 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1995 c i arg1 harg1 arg4 harg4 arg11 x0 x3 : S16x128.Idx → EReal) x = ex (kernelRun0_A.sl.r_4 c i arg1 harg1 arg4 harg4 arg11 x0 x3) ((Rect.unit (s := S16x7168) ![0, 4864] S16x128.size inb_S16x7168_S16x128_0_4864).emb x) :=
  chunk (kernelRun0_A.sl.r_4 c i arg1 harg1 arg4 harg4 arg11 x0 x3) 4864 256 6 inb_S16x7168_S16x128_0_4864 (by decide) slices_S16x512_o0_256_S16x128 shapeCasts_S16x128_S16x128 x

/-- Store 39 of the spread reciprocals. -/
theorem recip_A_39 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2046 c i arg1 harg1 arg4 harg4 arg11 x0 x3 : S16x128.Idx → EReal) x = ex (kernelRun0_A.sl.r_4 c i arg1 harg1 arg4 harg4 arg11 x0 x3) ((Rect.unit (s := S16x7168) ![0, 4992] S16x128.size inb_S16x7168_S16x128_0_4992).emb x) :=
  chunk (kernelRun0_A.sl.r_4 c i arg1 harg1 arg4 harg4 arg11 x0 x3) 4992 256 7 inb_S16x7168_S16x128_0_4992 (by decide) slices_S16x512_o0_256_S16x128 shapeCasts_S16x128_S16x128 x

/-- Store 40 of the spread reciprocals. -/
theorem recip_A_40 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2097 c i arg1 harg1 arg4 harg4 arg11 x0 x3 : S16x128.Idx → EReal) x = ex (kernelRun0_A.sl.r_4 c i arg1 harg1 arg4 harg4 arg11 x0 x3) ((Rect.unit (s := S16x7168) ![0, 5120] S16x128.size inb_S16x7168_S16x128_0_5120).emb x) :=
  chunk (kernelRun0_A.sl.r_4 c i arg1 harg1 arg4 harg4 arg11 x0 x3) 5120 256 8 inb_S16x7168_S16x128_0_5120 (by decide) slices_S16x512_o0_256_S16x128 shapeCasts_S16x128_S16x128 x

/-- Store 41 of the spread reciprocals. -/
theorem recip_A_41 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2148 c i arg1 harg1 arg4 harg4 arg11 x0 x3 : S16x128.Idx → EReal) x = ex (kernelRun0_A.sl.r_4 c i arg1 harg1 arg4 harg4 arg11 x0 x3) ((Rect.unit (s := S16x7168) ![0, 5248] S16x128.size inb_S16x7168_S16x128_0_5248).emb x) :=
  chunk (kernelRun0_A.sl.r_4 c i arg1 harg1 arg4 harg4 arg11 x0 x3) 5248 256 9 inb_S16x7168_S16x128_0_5248 (by decide) slices_S16x512_o0_256_S16x128 shapeCasts_S16x128_S16x128 x

/-- Store 42 of the spread reciprocals. -/
theorem recip_A_42 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2199 c i arg1 harg1 arg4 harg4 arg11 x0 x3 : S16x128.Idx → EReal) x = ex (kernelRun0_A.sl.r_4 c i arg1 harg1 arg4 harg4 arg11 x0 x3) ((Rect.unit (s := S16x7168) ![0, 5376] S16x128.size inb_S16x7168_S16x128_0_5376).emb x) :=
  chunk (kernelRun0_A.sl.r_4 c i arg1 harg1 arg4 harg4 arg11 x0 x3) 5376 256 10 inb_S16x7168_S16x128_0_5376 (by decide) slices_S16x512_o0_256_S16x128 shapeCasts_S16x128_S16x128 x

/-- Store 43 of the spread reciprocals. -/
theorem recip_A_43 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2250 c i arg1 harg1 arg4 harg4 arg11 x0 x3 : S16x128.Idx → EReal) x = ex (kernelRun0_A.sl.r_4 c i arg1 harg1 arg4 harg4 arg11 x0 x3) ((Rect.unit (s := S16x7168) ![0, 5504] S16x128.size inb_S16x7168_S16x128_0_5504).emb x) :=
  chunk (kernelRun0_A.sl.r_4 c i arg1 harg1 arg4 harg4 arg11 x0 x3) 5504 256 11 inb_S16x7168_S16x128_0_5504 (by decide) slices_S16x512_o0_256_S16x128 shapeCasts_S16x128_S16x128 x

/-- Store 44 of the spread reciprocals. -/
theorem recip_A_44 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2301 c i arg1 harg1 arg4 harg4 arg11 x0 x3 : S16x128.Idx → EReal) x = ex (kernelRun0_A.sl.r_4 c i arg1 harg1 arg4 harg4 arg11 x0 x3) ((Rect.unit (s := S16x7168) ![0, 5632] S16x128.size inb_S16x7168_S16x128_0_5632).emb x) :=
  chunk (kernelRun0_A.sl.r_4 c i arg1 harg1 arg4 harg4 arg11 x0 x3) 5632 256 12 inb_S16x7168_S16x128_0_5632 (by decide) slices_S16x512_o0_256_S16x128 shapeCasts_S16x128_S16x128 x

/-- Store 45 of the spread reciprocals. -/
theorem recip_A_45 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2352 c i arg1 harg1 arg4 harg4 arg11 x0 x3 : S16x128.Idx → EReal) x = ex (kernelRun0_A.sl.r_4 c i arg1 harg1 arg4 harg4 arg11 x0 x3) ((Rect.unit (s := S16x7168) ![0, 5760] S16x128.size inb_S16x7168_S16x128_0_5760).emb x) :=
  chunk (kernelRun0_A.sl.r_4 c i arg1 harg1 arg4 harg4 arg11 x0 x3) 5760 256 13 inb_S16x7168_S16x128_0_5760 (by decide) slices_S16x512_o0_256_S16x128 shapeCasts_S16x128_S16x128 x

/-- Store 46 of the spread reciprocals. -/
theorem recip_A_46 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2403 c i arg1 harg1 arg4 harg4 arg11 x0 x3 : S16x128.Idx → EReal) x = ex (kernelRun0_A.sl.r_4 c i arg1 harg1 arg4 harg4 arg11 x0 x3) ((Rect.unit (s := S16x7168) ![0, 5888] S16x128.size inb_S16x7168_S16x128_0_5888).emb x) :=
  chunk (kernelRun0_A.sl.r_4 c i arg1 harg1 arg4 harg4 arg11 x0 x3) 5888 256 14 inb_S16x7168_S16x128_0_5888 (by decide) slices_S16x512_o0_256_S16x128 shapeCasts_S16x128_S16x128 x

/-- Store 47 of the spread reciprocals. -/
theorem recip_A_47 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2454 c i arg1 harg1 arg4 harg4 arg11 x0 x3 : S16x128.Idx → EReal) x = ex (kernelRun0_A.sl.r_4 c i arg1 harg1 arg4 harg4 arg11 x0 x3) ((Rect.unit (s := S16x7168) ![0, 6016] S16x128.size inb_S16x7168_S16x128_0_6016).emb x) :=
  chunk (kernelRun0_A.sl.r_4 c i arg1 harg1 arg4 harg4 arg11 x0 x3) 6016 256 15 inb_S16x7168_S16x128_0_6016 (by decide) slices_S16x512_o0_256_S16x128 shapeCasts_S16x128_S16x128 x

/-- Store 48 of the spread reciprocals. -/
theorem recip_A_48 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2505 c i arg1 harg1 arg4 harg4 arg11 x0 x3 : S16x128.Idx → EReal) x = ex (kernelRun0_A.sl.r_4 c i arg1 harg1 arg4 harg4 arg11 x0 x3) ((Rect.unit (s := S16x7168) ![0, 6144] S16x128.size inb_S16x7168_S16x128_0_6144).emb x) :=
  chunk (kernelRun0_A.sl.r_4 c i arg1 harg1 arg4 harg4 arg11 x0 x3) 6144 384 0 inb_S16x7168_S16x128_0_6144 (by decide) slices_S16x512_o0_384_S16x128 shapeCasts_S16x128_S16x128 x

/-- Store 49 of the spread reciprocals. -/
theorem recip_A_49 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2556 c i arg1 harg1 arg4 harg4 arg11 x0 x3 : S16x128.Idx → EReal) x = ex (kernelRun0_A.sl.r_4 c i arg1 harg1 arg4 harg4 arg11 x0 x3) ((Rect.unit (s := S16x7168) ![0, 6272] S16x128.size inb_S16x7168_S16x128_0_6272).emb x) :=
  chunk (kernelRun0_A.sl.r_4 c i arg1 harg1 arg4 harg4 arg11 x0 x3) 6272 384 1 inb_S16x7168_S16x128_0_6272 (by decide) slices_S16x512_o0_384_S16x128 shapeCasts_S16x128_S16x128 x

/-- Store 50 of the spread reciprocals. -/
theorem recip_A_50 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2607 c i arg1 harg1 arg4 harg4 arg11 x0 x3 : S16x128.Idx → EReal) x = ex (kernelRun0_A.sl.r_4 c i arg1 harg1 arg4 harg4 arg11 x0 x3) ((Rect.unit (s := S16x7168) ![0, 6400] S16x128.size inb_S16x7168_S16x128_0_6400).emb x) :=
  chunk (kernelRun0_A.sl.r_4 c i arg1 harg1 arg4 harg4 arg11 x0 x3) 6400 384 2 inb_S16x7168_S16x128_0_6400 (by decide) slices_S16x512_o0_384_S16x128 shapeCasts_S16x128_S16x128 x

/-- Store 51 of the spread reciprocals. -/
theorem recip_A_51 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay315 (kernelRun0_A.sl.v2655 c i arg1 harg1 arg4 harg4 arg11 x0 x3) : S16x128.Idx → EReal) x = ex (kernelRun0_A.sl.r_4 c i arg1 harg1 arg4 harg4 arg11 x0 x3) ((Rect.unit (s := S16x7168) ![0, 6528] S16x128.size inb_S16x7168_S16x128_0_6528).emb x) :=
  chunk (kernelRun0_A.sl.r_4 c i arg1 harg1 arg4 harg4 arg11 x0 x3) 6528 384 3 inb_S16x7168_S16x128_0_6528 (by decide) slices_S16x512_o0_384_S16x128 shapeCasts_S16x128_S16x128 x

/-- Store 52 of the spread reciprocals. -/
theorem recip_A_52 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay320 k0_pay317 (kernelRun0_A.sl.r_5 c i arg1 harg1 arg4 harg4 arg11 x0 x3) k0_pay319 : S16x128.Idx → EReal) x = ex (kernelRun0_A.sl.r_4 c i arg1 harg1 arg4 harg4 arg11 x0 x3) ((Rect.unit (s := S16x7168) ![0, 6656] S16x128.size inb_S16x7168_S16x128_0_6656).emb x) :=
  chunk (kernelRun0_A.sl.r_4 c i arg1 harg1 arg4 harg4 arg11 x0 x3) 6656 384 4 inb_S16x7168_S16x128_0_6656 (by decide) slices_S16x512_o0_384_S16x128 shapeCasts_S16x128_S16x128 x

/-- Store 53 of the spread reciprocals. -/
theorem recip_A_53 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay326 (kernelRun0_A.sl.r_4 c i arg1 harg1 arg4 harg4 arg11 x0 x3) k0_pay322 k0_pay323 k0_pay324 : S16x128.Idx → EReal) x = ex (kernelRun0_A.sl.r_4 c i arg1 harg1 arg4 harg4 arg11 x0 x3) ((Rect.unit (s := S16x7168) ![0, 6784] S16x128.size inb_S16x7168_S16x128_0_6784).emb x) :=
  chunk (kernelRun0_A.sl.r_4 c i arg1 harg1 arg4 harg4 arg11 x0 x3) 6784 384 5 inb_S16x7168_S16x128_0_6784 (by decide) slices_S16x512_o0_384_S16x128 shapeCasts_S16x128_S16x128 x

/-- Store 54 of the spread reciprocals. -/
theorem recip_A_54 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay332 (kernelRun0_A.sl.r_4 c i arg1 harg1 arg4 harg4 arg11 x0 x3) kernelRun0_A.sl.v2773 (16#32) k0_pay328 k0_pay329 k0_pay330 : S16x128.Idx → EReal) x = ex (kernelRun0_A.sl.r_4 c i arg1 harg1 arg4 harg4 arg11 x0 x3) ((Rect.unit (s := S16x7168) ![0, 6912] S16x128.size inb_S16x7168_S16x128_0_6912).emb x) :=
  chunk (kernelRun0_A.sl.r_4 c i arg1 harg1 arg4 harg4 arg11 x0 x3) 6912 384 6 inb_S16x7168_S16x128_0_6912 (by decide) slices_S16x512_o0_384_S16x128 shapeCasts_S16x128_S16x128 x

/-- Store 55 of the spread reciprocals. -/
theorem recip_A_55 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay338 (kernelRun0_A.sl.r_4 c i arg1 harg1 arg4 harg4 arg11 x0 x3) kernelRun0_A.sl.v2773 (16#32) k0_pay334 k0_pay335 k0_pay336 : S16x128.Idx → EReal) x = ex (kernelRun0_A.sl.r_4 c i arg1 harg1 arg4 harg4 arg11 x0 x3) ((Rect.unit (s := S16x7168) ![0, 7040] S16x128.size inb_S16x7168_S16x128_0_7040).emb x) :=
  chunk (kernelRun0_A.sl.r_4 c i arg1 harg1 arg4 harg4 arg11 x0 x3) 7040 384 7 inb_S16x7168_S16x128_0_7040 (by decide) slices_S16x512_o0_384_S16x128 shapeCasts_S16x128_S16x128 x

set_option maxHeartbeats 0 in
/-- Each store of the spread reciprocals is the chunk of the spread array it covers. -/
theorem recip_pieces_A (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) :
    ∀ p ∈ kernelRun0_A.sl.HS1_56 (F := Ideal) c i arg1 harg1 arg4 harg4 arg11 x0 x3, ∀ x, p.2 x = ex (kernelRun0_A.sl.r_4 c i arg1 harg1 arg4 harg4 arg11 x0 x3) (p.1.emb x) := by
  unfold kernelRun0_A.sl.HS1_56
  simp only [List.forall_mem_cons]
  exact ⟨recip_A_55 c i arg1 harg1 arg4 harg4 arg11 x0 x3, recip_A_54 c i arg1 harg1 arg4 harg4 arg11 x0 x3, recip_A_53 c i arg1 harg1 arg4 harg4 arg11 x0 x3, recip_A_52 c i arg1 harg1 arg4 harg4 arg11 x0 x3, recip_A_51 c i arg1 harg1 arg4 harg4 arg11 x0 x3, recip_A_50 c i arg1 harg1 arg4 harg4 arg11 x0 x3, recip_A_49 c i arg1 harg1 arg4 harg4 arg11 x0 x3, recip_A_48 c i arg1 harg1 arg4 harg4 arg11 x0 x3, recip_A_47 c i arg1 harg1 arg4 harg4 arg11 x0 x3, recip_A_46 c i arg1 harg1 arg4 harg4 arg11 x0 x3, recip_A_45 c i arg1 harg1 arg4 harg4 arg11 x0 x3, recip_A_44 c i arg1 harg1 arg4 harg4 arg11 x0 x3, recip_A_43 c i arg1 harg1 arg4 harg4 arg11 x0 x3, recip_A_42 c i arg1 harg1 arg4 harg4 arg11 x0 x3, recip_A_41 c i arg1 harg1 arg4 harg4 arg11 x0 x3, recip_A_40 c i arg1 harg1 arg4 harg4 arg11 x0 x3, recip_A_39 c i arg1 harg1 arg4 harg4 arg11 x0 x3, recip_A_38 c i arg1 harg1 arg4 harg4 arg11 x0 x3, recip_A_37 c i arg1 harg1 arg4 harg4 arg11 x0 x3, recip_A_36 c i arg1 harg1 arg4 harg4 arg11 x0 x3, recip_A_35 c i arg1 harg1 arg4 harg4 arg11 x0 x3, recip_A_34 c i arg1 harg1 arg4 harg4 arg11 x0 x3, recip_A_33 c i arg1 harg1 arg4 harg4 arg11 x0 x3, recip_A_32 c i arg1 harg1 arg4 harg4 arg11 x0 x3, recip_A_31 c i arg1 harg1 arg4 harg4 arg11 x0 x3, recip_A_30 c i arg1 harg1 arg4 harg4 arg11 x0 x3, recip_A_29 c i arg1 harg1 arg4 harg4 arg11 x0 x3, recip_A_28 c i arg1 harg1 arg4 harg4 arg11 x0 x3, recip_A_27 c i arg1 harg1 arg4 harg4 arg11 x0 x3, recip_A_26 c i arg1 harg1 arg4 harg4 arg11 x0 x3, recip_A_25 c i arg1 harg1 arg4 harg4 arg11 x0 x3, recip_A_24 c i arg1 harg1 arg4 harg4 arg11 x0 x3, recip_A_23 c i arg1 harg1 arg4 harg4 arg11 x0 x3, recip_A_22 c i arg1 harg1 arg4 harg4 arg11 x0 x3, recip_A_21 c i arg1 harg1 arg4 harg4 arg11 x0 x3, recip_A_20 c i arg1 harg1 arg4 harg4 arg11 x0 x3, recip_A_19 c i arg1 harg1 arg4 harg4 arg11 x0 x3, recip_A_18 c i arg1 harg1 arg4 harg4 arg11 x0 x3, recip_A_17 c i arg1 harg1 arg4 harg4 arg11 x0 x3, recip_A_16 c i arg1 harg1 arg4 harg4 arg11 x0 x3, recip_A_15 c i arg1 harg1 arg4 harg4 arg11 x0 x3, recip_A_14 c i arg1 harg1 arg4 harg4 arg11 x0 x3, recip_A_13 c i arg1 harg1 arg4 harg4 arg11 x0 x3, recip_A_12 c i arg1 harg1 arg4 harg4 arg11 x0 x3, recip_A_11 c i arg1 harg1 arg4 harg4 arg11 x0 x3, recip_A_10 c i arg1 harg1 arg4 harg4 arg11 x0 x3, recip_A_9 c i arg1 harg1 arg4 harg4 arg11 x0 x3, recip_A_8 c i arg1 harg1 arg4 harg4 arg11 x0 x3, recip_A_7 c i arg1 harg1 arg4 harg4 arg11 x0 x3, recip_A_6 c i arg1 harg1 arg4 harg4 arg11 x0 x3, recip_A_5 c i arg1 harg1 arg4 harg4 arg11 x0 x3, recip_A_4 c i arg1 harg1 arg4 harg4 arg11 x0 x3, recip_A_3 c i arg1 harg1 arg4 harg4 arg11 x0 x3, recip_A_2 c i arg1 harg1 arg4 harg4 arg11 x0 x3, recip_A_1 c i arg1 harg1 arg4 harg4 arg11 x0 x3, recip_A_0 c i arg1 harg1 arg4 harg4 arg11 x0 x3, fun _ h => absurd h List.not_mem_nil⟩

/-- The spread reciprocals read back. -/
theorem recip_read_A (v : View sig .tc .vmem S16x7168 .f32) (f) (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) :
    v.read (Elt Ideal) (v.writes (Elt Ideal) f (kernelRun0_A.sl.HS1_56 (F := Ideal) c i arg1 harg1 arg4 harg4 arg11 x0 x3)) = ex (kernelRun0_A.sl.r_4 c i arg1 harg1 arg4 harg4 arg11 x0 x3) := by
  have cov := fun y => View.cover_of_tiledL (kernelRun0_A.sl.HS1_56 (F := Ideal) c i arg1 harg1 arg4 harg4 arg11 x0 x3) S16x128.size (by sl_kernel_rfl) y
  rw [View.read_writes_eq_canon _ _ _ cov]
  funext y
  exact View.canon_apply_of_pieces _ _ (recip_pieces_A c i arg1 harg1 arg4 harg4 arg11 x0 x3) y (cov y)

/-- Store 0 of the spread scales. -/
theorem scale_A_0 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v69 c i arg1 harg1 arg4 harg4 arg11 x0 x3 : S16x128.Idx → EReal) x = ex (kernelRun0_A.sl.v8 c i arg1 harg1 arg4 harg4 arg11 x0 x3) ((Rect.unit (s := S16x7168) ![0, 0] S16x128.size inb_S16x7168_S16x128_0_0).emb x) :=
  chunk (kernelRun0_A.sl.v8 c i arg1 harg1 arg4 harg4 arg11 x0 x3) 0 0 0 inb_S16x7168_S16x128_0_0 (by decide) slices_S16x512_o0_0_S16x128 shapeCasts_S16x128_S16x128 x

/-- Store 1 of the spread scales. -/
theorem scale_A_1 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v120 c i arg1 harg1 arg4 harg4 arg11 x0 x3 : S16x128.Idx → EReal) x = ex (kernelRun0_A.sl.v8 c i arg1 harg1 arg4 harg4 arg11 x0 x3) ((Rect.unit (s := S16x7168) ![0, 128] S16x128.size inb_S16x7168_S16x128_0_128).emb x) :=
  chunk (kernelRun0_A.sl.v8 c i arg1 harg1 arg4 harg4 arg11 x0 x3) 128 0 1 inb_S16x7168_S16x128_0_128 (by decide) slices_S16x512_o0_0_S16x128 shapeCasts_S16x128_S16x128 x

/-- Store 2 of the spread scales. -/
theorem scale_A_2 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v171 c i arg1 harg1 arg4 harg4 arg11 x0 x3 : S16x128.Idx → EReal) x = ex (kernelRun0_A.sl.v8 c i arg1 harg1 arg4 harg4 arg11 x0 x3) ((Rect.unit (s := S16x7168) ![0, 256] S16x128.size inb_S16x7168_S16x128_0_256).emb x) :=
  chunk (kernelRun0_A.sl.v8 c i arg1 harg1 arg4 harg4 arg11 x0 x3) 256 0 2 inb_S16x7168_S16x128_0_256 (by decide) slices_S16x512_o0_0_S16x128 shapeCasts_S16x128_S16x128 x

/-- Store 3 of the spread scales. -/
theorem scale_A_3 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v222 c i arg1 harg1 arg4 harg4 arg11 x0 x3 : S16x128.Idx → EReal) x = ex (kernelRun0_A.sl.v8 c i arg1 harg1 arg4 harg4 arg11 x0 x3) ((Rect.unit (s := S16x7168) ![0, 384] S16x128.size inb_S16x7168_S16x128_0_384).emb x) :=
  chunk (kernelRun0_A.sl.v8 c i arg1 harg1 arg4 harg4 arg11 x0 x3) 384 0 3 inb_S16x7168_S16x128_0_384 (by decide) slices_S16x512_o0_0_S16x128 shapeCasts_S16x128_S16x128 x

/-- Store 4 of the spread scales. -/
theorem scale_A_4 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v273 c i arg1 harg1 arg4 harg4 arg11 x0 x3 : S16x128.Idx → EReal) x = ex (kernelRun0_A.sl.v8 c i arg1 harg1 arg4 harg4 arg11 x0 x3) ((Rect.unit (s := S16x7168) ![0, 512] S16x128.size inb_S16x7168_S16x128_0_512).emb x) :=
  chunk (kernelRun0_A.sl.v8 c i arg1 harg1 arg4 harg4 arg11 x0 x3) 512 0 4 inb_S16x7168_S16x128_0_512 (by decide) slices_S16x512_o0_0_S16x128 shapeCasts_S16x128_S16x128 x

/-- Store 5 of the spread scales. -/
theorem scale_A_5 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v324 c i arg1 harg1 arg4 harg4 arg11 x0 x3 : S16x128.Idx → EReal) x = ex (kernelRun0_A.sl.v8 c i arg1 harg1 arg4 harg4 arg11 x0 x3) ((Rect.unit (s := S16x7168) ![0, 640] S16x128.size inb_S16x7168_S16x128_0_640).emb x) :=
  chunk (kernelRun0_A.sl.v8 c i arg1 harg1 arg4 harg4 arg11 x0 x3) 640 0 5 inb_S16x7168_S16x128_0_640 (by decide) slices_S16x512_o0_0_S16x128 shapeCasts_S16x128_S16x128 x

/-- Store 6 of the spread scales. -/
theorem scale_A_6 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v375 c i arg1 harg1 arg4 harg4 arg11 x0 x3 : S16x128.Idx → EReal) x = ex (kernelRun0_A.sl.v8 c i arg1 harg1 arg4 harg4 arg11 x0 x3) ((Rect.unit (s := S16x7168) ![0, 768] S16x128.size inb_S16x7168_S16x128_0_768).emb x) :=
  chunk (kernelRun0_A.sl.v8 c i arg1 harg1 arg4 harg4 arg11 x0 x3) 768 0 6 inb_S16x7168_S16x128_0_768 (by decide) slices_S16x512_o0_0_S16x128 shapeCasts_S16x128_S16x128 x

/-- Store 7 of the spread scales. -/
theorem scale_A_7 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v426 c i arg1 harg1 arg4 harg4 arg11 x0 x3 : S16x128.Idx → EReal) x = ex (kernelRun0_A.sl.v8 c i arg1 harg1 arg4 harg4 arg11 x0 x3) ((Rect.unit (s := S16x7168) ![0, 896] S16x128.size inb_S16x7168_S16x128_0_896).emb x) :=
  chunk (kernelRun0_A.sl.v8 c i arg1 harg1 arg4 harg4 arg11 x0 x3) 896 0 7 inb_S16x7168_S16x128_0_896 (by decide) slices_S16x512_o0_0_S16x128 shapeCasts_S16x128_S16x128 x

/-- Store 8 of the spread scales. -/
theorem scale_A_8 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v477 c i arg1 harg1 arg4 harg4 arg11 x0 x3 : S16x128.Idx → EReal) x = ex (kernelRun0_A.sl.v8 c i arg1 harg1 arg4 harg4 arg11 x0 x3) ((Rect.unit (s := S16x7168) ![0, 1024] S16x128.size inb_S16x7168_S16x128_0_1024).emb x) :=
  chunk (kernelRun0_A.sl.v8 c i arg1 harg1 arg4 harg4 arg11 x0 x3) 1024 0 8 inb_S16x7168_S16x128_0_1024 (by decide) slices_S16x512_o0_0_S16x128 shapeCasts_S16x128_S16x128 x

/-- Store 9 of the spread scales. -/
theorem scale_A_9 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v528 c i arg1 harg1 arg4 harg4 arg11 x0 x3 : S16x128.Idx → EReal) x = ex (kernelRun0_A.sl.v8 c i arg1 harg1 arg4 harg4 arg11 x0 x3) ((Rect.unit (s := S16x7168) ![0, 1152] S16x128.size inb_S16x7168_S16x128_0_1152).emb x) :=
  chunk (kernelRun0_A.sl.v8 c i arg1 harg1 arg4 harg4 arg11 x0 x3) 1152 0 9 inb_S16x7168_S16x128_0_1152 (by decide) slices_S16x512_o0_0_S16x128 shapeCasts_S16x128_S16x128 x

/-- Store 10 of the spread scales. -/
theorem scale_A_10 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v579 c i arg1 harg1 arg4 harg4 arg11 x0 x3 : S16x128.Idx → EReal) x = ex (kernelRun0_A.sl.v8 c i arg1 harg1 arg4 harg4 arg11 x0 x3) ((Rect.unit (s := S16x7168) ![0, 1280] S16x128.size inb_S16x7168_S16x128_0_1280).emb x) :=
  chunk (kernelRun0_A.sl.v8 c i arg1 harg1 arg4 harg4 arg11 x0 x3) 1280 0 10 inb_S16x7168_S16x128_0_1280 (by decide) slices_S16x512_o0_0_S16x128 shapeCasts_S16x128_S16x128 x

/-- Store 11 of the spread scales. -/
theorem scale_A_11 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v630 c i arg1 harg1 arg4 harg4 arg11 x0 x3 : S16x128.Idx → EReal) x = ex (kernelRun0_A.sl.v8 c i arg1 harg1 arg4 harg4 arg11 x0 x3) ((Rect.unit (s := S16x7168) ![0, 1408] S16x128.size inb_S16x7168_S16x128_0_1408).emb x) :=
  chunk (kernelRun0_A.sl.v8 c i arg1 harg1 arg4 harg4 arg11 x0 x3) 1408 0 11 inb_S16x7168_S16x128_0_1408 (by decide) slices_S16x512_o0_0_S16x128 shapeCasts_S16x128_S16x128 x

/-- Store 12 of the spread scales. -/
theorem scale_A_12 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v681 c i arg1 harg1 arg4 harg4 arg11 x0 x3 : S16x128.Idx → EReal) x = ex (kernelRun0_A.sl.v8 c i arg1 harg1 arg4 harg4 arg11 x0 x3) ((Rect.unit (s := S16x7168) ![0, 1536] S16x128.size inb_S16x7168_S16x128_0_1536).emb x) :=
  chunk (kernelRun0_A.sl.v8 c i arg1 harg1 arg4 harg4 arg11 x0 x3) 1536 0 12 inb_S16x7168_S16x128_0_1536 (by decide) slices_S16x512_o0_0_S16x128 shapeCasts_S16x128_S16x128 x

/-- Store 13 of the spread scales. -/
theorem scale_A_13 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v732 c i arg1 harg1 arg4 harg4 arg11 x0 x3 : S16x128.Idx → EReal) x = ex (kernelRun0_A.sl.v8 c i arg1 harg1 arg4 harg4 arg11 x0 x3) ((Rect.unit (s := S16x7168) ![0, 1664] S16x128.size inb_S16x7168_S16x128_0_1664).emb x) :=
  chunk (kernelRun0_A.sl.v8 c i arg1 harg1 arg4 harg4 arg11 x0 x3) 1664 0 13 inb_S16x7168_S16x128_0_1664 (by decide) slices_S16x512_o0_0_S16x128 shapeCasts_S16x128_S16x128 x

/-- Store 14 of the spread scales. -/
theorem scale_A_14 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v783 c i arg1 harg1 arg4 harg4 arg11 x0 x3 : S16x128.Idx → EReal) x = ex (kernelRun0_A.sl.v8 c i arg1 harg1 arg4 harg4 arg11 x0 x3) ((Rect.unit (s := S16x7168) ![0, 1792] S16x128.size inb_S16x7168_S16x128_0_1792).emb x) :=
  chunk (kernelRun0_A.sl.v8 c i arg1 harg1 arg4 harg4 arg11 x0 x3) 1792 0 14 inb_S16x7168_S16x128_0_1792 (by decide) slices_S16x512_o0_0_S16x128 shapeCasts_S16x128_S16x128 x

/-- Store 15 of the spread scales. -/
theorem scale_A_15 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v834 c i arg1 harg1 arg4 harg4 arg11 x0 x3 : S16x128.Idx → EReal) x = ex (kernelRun0_A.sl.v8 c i arg1 harg1 arg4 harg4 arg11 x0 x3) ((Rect.unit (s := S16x7168) ![0, 1920] S16x128.size inb_S16x7168_S16x128_0_1920).emb x) :=
  chunk (kernelRun0_A.sl.v8 c i arg1 harg1 arg4 harg4 arg11 x0 x3) 1920 0 15 inb_S16x7168_S16x128_0_1920 (by decide) slices_S16x512_o0_0_S16x128 shapeCasts_S16x128_S16x128 x

/-- Store 16 of the spread scales. -/
theorem scale_A_16 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v885 c i arg1 harg1 arg4 harg4 arg11 x0 x3 : S16x128.Idx → EReal) x = ex (kernelRun0_A.sl.v8 c i arg1 harg1 arg4 harg4 arg11 x0 x3) ((Rect.unit (s := S16x7168) ![0, 2048] S16x128.size inb_S16x7168_S16x128_0_2048).emb x) :=
  chunk (kernelRun0_A.sl.v8 c i arg1 harg1 arg4 harg4 arg11 x0 x3) 2048 128 0 inb_S16x7168_S16x128_0_2048 (by decide) slices_S16x512_o0_128_S16x128 shapeCasts_S16x128_S16x128 x

/-- Store 17 of the spread scales. -/
theorem scale_A_17 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v936 c i arg1 harg1 arg4 harg4 arg11 x0 x3 : S16x128.Idx → EReal) x = ex (kernelRun0_A.sl.v8 c i arg1 harg1 arg4 harg4 arg11 x0 x3) ((Rect.unit (s := S16x7168) ![0, 2176] S16x128.size inb_S16x7168_S16x128_0_2176).emb x) :=
  chunk (kernelRun0_A.sl.v8 c i arg1 harg1 arg4 harg4 arg11 x0 x3) 2176 128 1 inb_S16x7168_S16x128_0_2176 (by decide) slices_S16x512_o0_128_S16x128 shapeCasts_S16x128_S16x128 x

/-- Store 18 of the spread scales. -/
theorem scale_A_18 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v987 c i arg1 harg1 arg4 harg4 arg11 x0 x3 : S16x128.Idx → EReal) x = ex (kernelRun0_A.sl.v8 c i arg1 harg1 arg4 harg4 arg11 x0 x3) ((Rect.unit (s := S16x7168) ![0, 2304] S16x128.size inb_S16x7168_S16x128_0_2304).emb x) :=
  chunk (kernelRun0_A.sl.v8 c i arg1 harg1 arg4 harg4 arg11 x0 x3) 2304 128 2 inb_S16x7168_S16x128_0_2304 (by decide) slices_S16x512_o0_128_S16x128 shapeCasts_S16x128_S16x128 x

/-- Store 19 of the spread scales. -/
theorem scale_A_19 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1038 c i arg1 harg1 arg4 harg4 arg11 x0 x3 : S16x128.Idx → EReal) x = ex (kernelRun0_A.sl.v8 c i arg1 harg1 arg4 harg4 arg11 x0 x3) ((Rect.unit (s := S16x7168) ![0, 2432] S16x128.size inb_S16x7168_S16x128_0_2432).emb x) :=
  chunk (kernelRun0_A.sl.v8 c i arg1 harg1 arg4 harg4 arg11 x0 x3) 2432 128 3 inb_S16x7168_S16x128_0_2432 (by decide) slices_S16x512_o0_128_S16x128 shapeCasts_S16x128_S16x128 x

/-- Store 20 of the spread scales. -/
theorem scale_A_20 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1089 c i arg1 harg1 arg4 harg4 arg11 x0 x3 : S16x128.Idx → EReal) x = ex (kernelRun0_A.sl.v8 c i arg1 harg1 arg4 harg4 arg11 x0 x3) ((Rect.unit (s := S16x7168) ![0, 2560] S16x128.size inb_S16x7168_S16x128_0_2560).emb x) :=
  chunk (kernelRun0_A.sl.v8 c i arg1 harg1 arg4 harg4 arg11 x0 x3) 2560 128 4 inb_S16x7168_S16x128_0_2560 (by decide) slices_S16x512_o0_128_S16x128 shapeCasts_S16x128_S16x128 x

/-- Store 21 of the spread scales. -/
theorem scale_A_21 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1140 c i arg1 harg1 arg4 harg4 arg11 x0 x3 : S16x128.Idx → EReal) x = ex (kernelRun0_A.sl.v8 c i arg1 harg1 arg4 harg4 arg11 x0 x3) ((Rect.unit (s := S16x7168) ![0, 2688] S16x128.size inb_S16x7168_S16x128_0_2688).emb x) :=
  chunk (kernelRun0_A.sl.v8 c i arg1 harg1 arg4 harg4 arg11 x0 x3) 2688 128 5 inb_S16x7168_S16x128_0_2688 (by decide) slices_S16x512_o0_128_S16x128 shapeCasts_S16x128_S16x128 x

/-- Store 22 of the spread scales. -/
theorem scale_A_22 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1191 c i arg1 harg1 arg4 harg4 arg11 x0 x3 : S16x128.Idx → EReal) x = ex (kernelRun0_A.sl.v8 c i arg1 harg1 arg4 harg4 arg11 x0 x3) ((Rect.unit (s := S16x7168) ![0, 2816] S16x128.size inb_S16x7168_S16x128_0_2816).emb x) :=
  chunk (kernelRun0_A.sl.v8 c i arg1 harg1 arg4 harg4 arg11 x0 x3) 2816 128 6 inb_S16x7168_S16x128_0_2816 (by decide) slices_S16x512_o0_128_S16x128 shapeCasts_S16x128_S16x128 x

/-- Store 23 of the spread scales. -/
theorem scale_A_23 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1242 c i arg1 harg1 arg4 harg4 arg11 x0 x3 : S16x128.Idx → EReal) x = ex (kernelRun0_A.sl.v8 c i arg1 harg1 arg4 harg4 arg11 x0 x3) ((Rect.unit (s := S16x7168) ![0, 2944] S16x128.size inb_S16x7168_S16x128_0_2944).emb x) :=
  chunk (kernelRun0_A.sl.v8 c i arg1 harg1 arg4 harg4 arg11 x0 x3) 2944 128 7 inb_S16x7168_S16x128_0_2944 (by decide) slices_S16x512_o0_128_S16x128 shapeCasts_S16x128_S16x128 x

/-- Store 24 of the spread scales. -/
theorem scale_A_24 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1293 c i arg1 harg1 arg4 harg4 arg11 x0 x3 : S16x128.Idx → EReal) x = ex (kernelRun0_A.sl.v8 c i arg1 harg1 arg4 harg4 arg11 x0 x3) ((Rect.unit (s := S16x7168) ![0, 3072] S16x128.size inb_S16x7168_S16x128_0_3072).emb x) :=
  chunk (kernelRun0_A.sl.v8 c i arg1 harg1 arg4 harg4 arg11 x0 x3) 3072 128 8 inb_S16x7168_S16x128_0_3072 (by decide) slices_S16x512_o0_128_S16x128 shapeCasts_S16x128_S16x128 x

/-- Store 25 of the spread scales. -/
theorem scale_A_25 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1344 c i arg1 harg1 arg4 harg4 arg11 x0 x3 : S16x128.Idx → EReal) x = ex (kernelRun0_A.sl.v8 c i arg1 harg1 arg4 harg4 arg11 x0 x3) ((Rect.unit (s := S16x7168) ![0, 3200] S16x128.size inb_S16x7168_S16x128_0_3200).emb x) :=
  chunk (kernelRun0_A.sl.v8 c i arg1 harg1 arg4 harg4 arg11 x0 x3) 3200 128 9 inb_S16x7168_S16x128_0_3200 (by decide) slices_S16x512_o0_128_S16x128 shapeCasts_S16x128_S16x128 x

/-- Store 26 of the spread scales. -/
theorem scale_A_26 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1395 c i arg1 harg1 arg4 harg4 arg11 x0 x3 : S16x128.Idx → EReal) x = ex (kernelRun0_A.sl.v8 c i arg1 harg1 arg4 harg4 arg11 x0 x3) ((Rect.unit (s := S16x7168) ![0, 3328] S16x128.size inb_S16x7168_S16x128_0_3328).emb x) :=
  chunk (kernelRun0_A.sl.v8 c i arg1 harg1 arg4 harg4 arg11 x0 x3) 3328 128 10 inb_S16x7168_S16x128_0_3328 (by decide) slices_S16x512_o0_128_S16x128 shapeCasts_S16x128_S16x128 x

/-- Store 27 of the spread scales. -/
theorem scale_A_27 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1446 c i arg1 harg1 arg4 harg4 arg11 x0 x3 : S16x128.Idx → EReal) x = ex (kernelRun0_A.sl.v8 c i arg1 harg1 arg4 harg4 arg11 x0 x3) ((Rect.unit (s := S16x7168) ![0, 3456] S16x128.size inb_S16x7168_S16x128_0_3456).emb x) :=
  chunk (kernelRun0_A.sl.v8 c i arg1 harg1 arg4 harg4 arg11 x0 x3) 3456 128 11 inb_S16x7168_S16x128_0_3456 (by decide) slices_S16x512_o0_128_S16x128 shapeCasts_S16x128_S16x128 x

/-- Store 28 of the spread scales. -/
theorem scale_A_28 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1497 c i arg1 harg1 arg4 harg4 arg11 x0 x3 : S16x128.Idx → EReal) x = ex (kernelRun0_A.sl.v8 c i arg1 harg1 arg4 harg4 arg11 x0 x3) ((Rect.unit (s := S16x7168) ![0, 3584] S16x128.size inb_S16x7168_S16x128_0_3584).emb x) :=
  chunk (kernelRun0_A.sl.v8 c i arg1 harg1 arg4 harg4 arg11 x0 x3) 3584 128 12 inb_S16x7168_S16x128_0_3584 (by decide) slices_S16x512_o0_128_S16x128 shapeCasts_S16x128_S16x128 x

/-- Store 29 of the spread scales. -/
theorem scale_A_29 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1548 c i arg1 harg1 arg4 harg4 arg11 x0 x3 : S16x128.Idx → EReal) x = ex (kernelRun0_A.sl.v8 c i arg1 harg1 arg4 harg4 arg11 x0 x3) ((Rect.unit (s := S16x7168) ![0, 3712] S16x128.size inb_S16x7168_S16x128_0_3712).emb x) :=
  chunk (kernelRun0_A.sl.v8 c i arg1 harg1 arg4 harg4 arg11 x0 x3) 3712 128 13 inb_S16x7168_S16x128_0_3712 (by decide) slices_S16x512_o0_128_S16x128 shapeCasts_S16x128_S16x128 x

/-- Store 30 of the spread scales. -/
theorem scale_A_30 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1599 c i arg1 harg1 arg4 harg4 arg11 x0 x3 : S16x128.Idx → EReal) x = ex (kernelRun0_A.sl.v8 c i arg1 harg1 arg4 harg4 arg11 x0 x3) ((Rect.unit (s := S16x7168) ![0, 3840] S16x128.size inb_S16x7168_S16x128_0_3840).emb x) :=
  chunk (kernelRun0_A.sl.v8 c i arg1 harg1 arg4 harg4 arg11 x0 x3) 3840 128 14 inb_S16x7168_S16x128_0_3840 (by decide) slices_S16x512_o0_128_S16x128 shapeCasts_S16x128_S16x128 x

/-- Store 31 of the spread scales. -/
theorem scale_A_31 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1650 c i arg1 harg1 arg4 harg4 arg11 x0 x3 : S16x128.Idx → EReal) x = ex (kernelRun0_A.sl.v8 c i arg1 harg1 arg4 harg4 arg11 x0 x3) ((Rect.unit (s := S16x7168) ![0, 3968] S16x128.size inb_S16x7168_S16x128_0_3968).emb x) :=
  chunk (kernelRun0_A.sl.v8 c i arg1 harg1 arg4 harg4 arg11 x0 x3) 3968 128 15 inb_S16x7168_S16x128_0_3968 (by decide) slices_S16x512_o0_128_S16x128 shapeCasts_S16x128_S16x128 x

/-- Store 32 of the spread scales. -/
theorem scale_A_32 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1701 c i arg1 harg1 arg4 harg4 arg11 x0 x3 : S16x128.Idx → EReal) x = ex (kernelRun0_A.sl.v8 c i arg1 harg1 arg4 harg4 arg11 x0 x3) ((Rect.unit (s := S16x7168) ![0, 4096] S16x128.size inb_S16x7168_S16x128_0_4096).emb x) :=
  chunk (kernelRun0_A.sl.v8 c i arg1 harg1 arg4 harg4 arg11 x0 x3) 4096 256 0 inb_S16x7168_S16x128_0_4096 (by decide) slices_S16x512_o0_256_S16x128 shapeCasts_S16x128_S16x128 x

/-- Store 33 of the spread scales. -/
theorem scale_A_33 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1752 c i arg1 harg1 arg4 harg4 arg11 x0 x3 : S16x128.Idx → EReal) x = ex (kernelRun0_A.sl.v8 c i arg1 harg1 arg4 harg4 arg11 x0 x3) ((Rect.unit (s := S16x7168) ![0, 4224] S16x128.size inb_S16x7168_S16x128_0_4224).emb x) :=
  chunk (kernelRun0_A.sl.v8 c i arg1 harg1 arg4 harg4 arg11 x0 x3) 4224 256 1 inb_S16x7168_S16x128_0_4224 (by decide) slices_S16x512_o0_256_S16x128 shapeCasts_S16x128_S16x128 x

/-- Store 34 of the spread scales. -/
theorem scale_A_34 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1803 c i arg1 harg1 arg4 harg4 arg11 x0 x3 : S16x128.Idx → EReal) x = ex (kernelRun0_A.sl.v8 c i arg1 harg1 arg4 harg4 arg11 x0 x3) ((Rect.unit (s := S16x7168) ![0, 4352] S16x128.size inb_S16x7168_S16x128_0_4352).emb x) :=
  chunk (kernelRun0_A.sl.v8 c i arg1 harg1 arg4 harg4 arg11 x0 x3) 4352 256 2 inb_S16x7168_S16x128_0_4352 (by decide) slices_S16x512_o0_256_S16x128 shapeCasts_S16x128_S16x128 x

/-- Store 35 of the spread scales. -/
theorem scale_A_35 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1854 c i arg1 harg1 arg4 harg4 arg11 x0 x3 : S16x128.Idx → EReal) x = ex (kernelRun0_A.sl.v8 c i arg1 harg1 arg4 harg4 arg11 x0 x3) ((Rect.unit (s := S16x7168) ![0, 4480] S16x128.size inb_S16x7168_S16x128_0_4480).emb x) :=
  chunk (kernelRun0_A.sl.v8 c i arg1 harg1 arg4 harg4 arg11 x0 x3) 4480 256 3 inb_S16x7168_S16x128_0_4480 (by decide) slices_S16x512_o0_256_S16x128 shapeCasts_S16x128_S16x128 x

/-- Store 36 of the spread scales. -/
theorem scale_A_36 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1905 c i arg1 harg1 arg4 harg4 arg11 x0 x3 : S16x128.Idx → EReal) x = ex (kernelRun0_A.sl.v8 c i arg1 harg1 arg4 harg4 arg11 x0 x3) ((Rect.unit (s := S16x7168) ![0, 4608] S16x128.size inb_S16x7168_S16x128_0_4608).emb x) :=
  chunk (kernelRun0_A.sl.v8 c i arg1 harg1 arg4 harg4 arg11 x0 x3) 4608 256 4 inb_S16x7168_S16x128_0_4608 (by decide) slices_S16x512_o0_256_S16x128 shapeCasts_S16x128_S16x128 x

/-- Store 37 of the spread scales. -/
theorem scale_A_37 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v1956 c i arg1 harg1 arg4 harg4 arg11 x0 x3 : S16x128.Idx → EReal) x = ex (kernelRun0_A.sl.v8 c i arg1 harg1 arg4 harg4 arg11 x0 x3) ((Rect.unit (s := S16x7168) ![0, 4736] S16x128.size inb_S16x7168_S16x128_0_4736).emb x) :=
  chunk (kernelRun0_A.sl.v8 c i arg1 harg1 arg4 harg4 arg11 x0 x3) 4736 256 5 inb_S16x7168_S16x128_0_4736 (by decide) slices_S16x512_o0_256_S16x128 shapeCasts_S16x128_S16x128 x

/-- Store 38 of the spread scales. -/
theorem scale_A_38 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2007 c i arg1 harg1 arg4 harg4 arg11 x0 x3 : S16x128.Idx → EReal) x = ex (kernelRun0_A.sl.v8 c i arg1 harg1 arg4 harg4 arg11 x0 x3) ((Rect.unit (s := S16x7168) ![0, 4864] S16x128.size inb_S16x7168_S16x128_0_4864).emb x) :=
  chunk (kernelRun0_A.sl.v8 c i arg1 harg1 arg4 harg4 arg11 x0 x3) 4864 256 6 inb_S16x7168_S16x128_0_4864 (by decide) slices_S16x512_o0_256_S16x128 shapeCasts_S16x128_S16x128 x

/-- Store 39 of the spread scales. -/
theorem scale_A_39 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2058 c i arg1 harg1 arg4 harg4 arg11 x0 x3 : S16x128.Idx → EReal) x = ex (kernelRun0_A.sl.v8 c i arg1 harg1 arg4 harg4 arg11 x0 x3) ((Rect.unit (s := S16x7168) ![0, 4992] S16x128.size inb_S16x7168_S16x128_0_4992).emb x) :=
  chunk (kernelRun0_A.sl.v8 c i arg1 harg1 arg4 harg4 arg11 x0 x3) 4992 256 7 inb_S16x7168_S16x128_0_4992 (by decide) slices_S16x512_o0_256_S16x128 shapeCasts_S16x128_S16x128 x

/-- Store 40 of the spread scales. -/
theorem scale_A_40 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2109 c i arg1 harg1 arg4 harg4 arg11 x0 x3 : S16x128.Idx → EReal) x = ex (kernelRun0_A.sl.v8 c i arg1 harg1 arg4 harg4 arg11 x0 x3) ((Rect.unit (s := S16x7168) ![0, 5120] S16x128.size inb_S16x7168_S16x128_0_5120).emb x) :=
  chunk (kernelRun0_A.sl.v8 c i arg1 harg1 arg4 harg4 arg11 x0 x3) 5120 256 8 inb_S16x7168_S16x128_0_5120 (by decide) slices_S16x512_o0_256_S16x128 shapeCasts_S16x128_S16x128 x

/-- Store 41 of the spread scales. -/
theorem scale_A_41 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2160 c i arg1 harg1 arg4 harg4 arg11 x0 x3 : S16x128.Idx → EReal) x = ex (kernelRun0_A.sl.v8 c i arg1 harg1 arg4 harg4 arg11 x0 x3) ((Rect.unit (s := S16x7168) ![0, 5248] S16x128.size inb_S16x7168_S16x128_0_5248).emb x) :=
  chunk (kernelRun0_A.sl.v8 c i arg1 harg1 arg4 harg4 arg11 x0 x3) 5248 256 9 inb_S16x7168_S16x128_0_5248 (by decide) slices_S16x512_o0_256_S16x128 shapeCasts_S16x128_S16x128 x

/-- Store 42 of the spread scales. -/
theorem scale_A_42 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2211 c i arg1 harg1 arg4 harg4 arg11 x0 x3 : S16x128.Idx → EReal) x = ex (kernelRun0_A.sl.v8 c i arg1 harg1 arg4 harg4 arg11 x0 x3) ((Rect.unit (s := S16x7168) ![0, 5376] S16x128.size inb_S16x7168_S16x128_0_5376).emb x) :=
  chunk (kernelRun0_A.sl.v8 c i arg1 harg1 arg4 harg4 arg11 x0 x3) 5376 256 10 inb_S16x7168_S16x128_0_5376 (by decide) slices_S16x512_o0_256_S16x128 shapeCasts_S16x128_S16x128 x

/-- Store 43 of the spread scales. -/
theorem scale_A_43 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2262 c i arg1 harg1 arg4 harg4 arg11 x0 x3 : S16x128.Idx → EReal) x = ex (kernelRun0_A.sl.v8 c i arg1 harg1 arg4 harg4 arg11 x0 x3) ((Rect.unit (s := S16x7168) ![0, 5504] S16x128.size inb_S16x7168_S16x128_0_5504).emb x) :=
  chunk (kernelRun0_A.sl.v8 c i arg1 harg1 arg4 harg4 arg11 x0 x3) 5504 256 11 inb_S16x7168_S16x128_0_5504 (by decide) slices_S16x512_o0_256_S16x128 shapeCasts_S16x128_S16x128 x

/-- Store 44 of the spread scales. -/
theorem scale_A_44 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2313 c i arg1 harg1 arg4 harg4 arg11 x0 x3 : S16x128.Idx → EReal) x = ex (kernelRun0_A.sl.v8 c i arg1 harg1 arg4 harg4 arg11 x0 x3) ((Rect.unit (s := S16x7168) ![0, 5632] S16x128.size inb_S16x7168_S16x128_0_5632).emb x) :=
  chunk (kernelRun0_A.sl.v8 c i arg1 harg1 arg4 harg4 arg11 x0 x3) 5632 256 12 inb_S16x7168_S16x128_0_5632 (by decide) slices_S16x512_o0_256_S16x128 shapeCasts_S16x128_S16x128 x

/-- Store 45 of the spread scales. -/
theorem scale_A_45 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2364 c i arg1 harg1 arg4 harg4 arg11 x0 x3 : S16x128.Idx → EReal) x = ex (kernelRun0_A.sl.v8 c i arg1 harg1 arg4 harg4 arg11 x0 x3) ((Rect.unit (s := S16x7168) ![0, 5760] S16x128.size inb_S16x7168_S16x128_0_5760).emb x) :=
  chunk (kernelRun0_A.sl.v8 c i arg1 harg1 arg4 harg4 arg11 x0 x3) 5760 256 13 inb_S16x7168_S16x128_0_5760 (by decide) slices_S16x512_o0_256_S16x128 shapeCasts_S16x128_S16x128 x

/-- Store 46 of the spread scales. -/
theorem scale_A_46 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2415 c i arg1 harg1 arg4 harg4 arg11 x0 x3 : S16x128.Idx → EReal) x = ex (kernelRun0_A.sl.v8 c i arg1 harg1 arg4 harg4 arg11 x0 x3) ((Rect.unit (s := S16x7168) ![0, 5888] S16x128.size inb_S16x7168_S16x128_0_5888).emb x) :=
  chunk (kernelRun0_A.sl.v8 c i arg1 harg1 arg4 harg4 arg11 x0 x3) 5888 256 14 inb_S16x7168_S16x128_0_5888 (by decide) slices_S16x512_o0_256_S16x128 shapeCasts_S16x128_S16x128 x

/-- Store 47 of the spread scales. -/
theorem scale_A_47 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2466 c i arg1 harg1 arg4 harg4 arg11 x0 x3 : S16x128.Idx → EReal) x = ex (kernelRun0_A.sl.v8 c i arg1 harg1 arg4 harg4 arg11 x0 x3) ((Rect.unit (s := S16x7168) ![0, 6016] S16x128.size inb_S16x7168_S16x128_0_6016).emb x) :=
  chunk (kernelRun0_A.sl.v8 c i arg1 harg1 arg4 harg4 arg11 x0 x3) 6016 256 15 inb_S16x7168_S16x128_0_6016 (by decide) slices_S16x512_o0_256_S16x128 shapeCasts_S16x128_S16x128 x

/-- Store 48 of the spread scales. -/
theorem scale_A_48 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2517 c i arg1 harg1 arg4 harg4 arg11 x0 x3 : S16x128.Idx → EReal) x = ex (kernelRun0_A.sl.v8 c i arg1 harg1 arg4 harg4 arg11 x0 x3) ((Rect.unit (s := S16x7168) ![0, 6144] S16x128.size inb_S16x7168_S16x128_0_6144).emb x) :=
  chunk (kernelRun0_A.sl.v8 c i arg1 harg1 arg4 harg4 arg11 x0 x3) 6144 384 0 inb_S16x7168_S16x128_0_6144 (by decide) slices_S16x512_o0_384_S16x128 shapeCasts_S16x128_S16x128 x

/-- Store 49 of the spread scales. -/
theorem scale_A_49 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2568 c i arg1 harg1 arg4 harg4 arg11 x0 x3 : S16x128.Idx → EReal) x = ex (kernelRun0_A.sl.v8 c i arg1 harg1 arg4 harg4 arg11 x0 x3) ((Rect.unit (s := S16x7168) ![0, 6272] S16x128.size inb_S16x7168_S16x128_0_6272).emb x) :=
  chunk (kernelRun0_A.sl.v8 c i arg1 harg1 arg4 harg4 arg11 x0 x3) 6272 384 1 inb_S16x7168_S16x128_0_6272 (by decide) slices_S16x512_o0_384_S16x128 shapeCasts_S16x128_S16x128 x

/-- Store 50 of the spread scales. -/
theorem scale_A_50 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (kernelRun0_A.sl.v2619 c i arg1 harg1 arg4 harg4 arg11 x0 x3 : S16x128.Idx → EReal) x = ex (kernelRun0_A.sl.v8 c i arg1 harg1 arg4 harg4 arg11 x0 x3) ((Rect.unit (s := S16x7168) ![0, 6400] S16x128.size inb_S16x7168_S16x128_0_6400).emb x) :=
  chunk (kernelRun0_A.sl.v8 c i arg1 harg1 arg4 harg4 arg11 x0 x3) 6400 384 2 inb_S16x7168_S16x128_0_6400 (by decide) slices_S16x512_o0_384_S16x128 shapeCasts_S16x128_S16x128 x

/-- Store 51 of the spread scales. -/
theorem scale_A_51 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay316 (kernelRun0_A.sl.v8 c i arg1 harg1 arg4 harg4 arg11 x0 x3) (addi kernelRun0_A.sl.v197 kernelRun0_A.sl.v94) : S16x128.Idx → EReal) x = ex (kernelRun0_A.sl.v8 c i arg1 harg1 arg4 harg4 arg11 x0 x3) ((Rect.unit (s := S16x7168) ![0, 6528] S16x128.size inb_S16x7168_S16x128_0_6528).emb x) :=
  chunk (kernelRun0_A.sl.v8 c i arg1 harg1 arg4 harg4 arg11 x0 x3) 6528 384 3 inb_S16x7168_S16x128_0_6528 (by decide) slices_S16x512_o0_384_S16x128 shapeCasts_S16x128_S16x128 x

/-- Store 52 of the spread scales. -/
theorem scale_A_52 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay321 (kernelRun0_A.sl.v8 c i arg1 harg1 arg4 harg4 arg11 x0 x3) k0_pay317 : S16x128.Idx → EReal) x = ex (kernelRun0_A.sl.v8 c i arg1 harg1 arg4 harg4 arg11 x0 x3) ((Rect.unit (s := S16x7168) ![0, 6656] S16x128.size inb_S16x7168_S16x128_0_6656).emb x) :=
  chunk (kernelRun0_A.sl.v8 c i arg1 harg1 arg4 harg4 arg11 x0 x3) 6656 384 4 inb_S16x7168_S16x128_0_6656 (by decide) slices_S16x512_o0_384_S16x128 shapeCasts_S16x128_S16x128 x

/-- Store 53 of the spread scales. -/
theorem scale_A_53 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay327 (kernelRun0_A.sl.v8 c i arg1 harg1 arg4 harg4 arg11 x0 x3) k0_pay322 k0_pay323 k0_pay324 : S16x128.Idx → EReal) x = ex (kernelRun0_A.sl.v8 c i arg1 harg1 arg4 harg4 arg11 x0 x3) ((Rect.unit (s := S16x7168) ![0, 6784] S16x128.size inb_S16x7168_S16x128_0_6784).emb x) :=
  chunk (kernelRun0_A.sl.v8 c i arg1 harg1 arg4 harg4 arg11 x0 x3) 6784 384 5 inb_S16x7168_S16x128_0_6784 (by decide) slices_S16x512_o0_384_S16x128 shapeCasts_S16x128_S16x128 x

/-- Store 54 of the spread scales. -/
theorem scale_A_54 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay333 (kernelRun0_A.sl.v8 c i arg1 harg1 arg4 harg4 arg11 x0 x3) kernelRun0_A.sl.v2773 (16#32) k0_pay328 k0_pay329 k0_pay330 : S16x128.Idx → EReal) x = ex (kernelRun0_A.sl.v8 c i arg1 harg1 arg4 harg4 arg11 x0 x3) ((Rect.unit (s := S16x7168) ![0, 6912] S16x128.size inb_S16x7168_S16x128_0_6912).emb x) :=
  chunk (kernelRun0_A.sl.v8 c i arg1 harg1 arg4 harg4 arg11 x0 x3) 6912 384 6 inb_S16x7168_S16x128_0_6912 (by decide) slices_S16x512_o0_384_S16x128 shapeCasts_S16x128_S16x128 x

/-- Store 55 of the spread scales. -/
theorem scale_A_55 (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) (x : S16x128.Idx) : (k0_pay339 (kernelRun0_A.sl.v8 c i arg1 harg1 arg4 harg4 arg11 x0 x3) kernelRun0_A.sl.v2773 (16#32) k0_pay334 k0_pay335 k0_pay336 : S16x128.Idx → EReal) x = ex (kernelRun0_A.sl.v8 c i arg1 harg1 arg4 harg4 arg11 x0 x3) ((Rect.unit (s := S16x7168) ![0, 7040] S16x128.size inb_S16x7168_S16x128_0_7040).emb x) :=
  chunk (kernelRun0_A.sl.v8 c i arg1 harg1 arg4 harg4 arg11 x0 x3) 7040 384 7 inb_S16x7168_S16x128_0_7040 (by decide) slices_S16x512_o0_384_S16x128 shapeCasts_S16x128_S16x128 x

set_option maxHeartbeats 0 in
/-- Each store of the spread scales is the chunk of the spread array it covers. -/
theorem scale_pieces_A (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) :
    ∀ p ∈ kernelRun0_A.sl.HS2_56 (F := Ideal) c i arg1 harg1 arg4 harg4 arg11 x0 x3, ∀ x, p.2 x = ex (kernelRun0_A.sl.v8 c i arg1 harg1 arg4 harg4 arg11 x0 x3) (p.1.emb x) := by
  unfold kernelRun0_A.sl.HS2_56
  simp only [List.forall_mem_cons]
  exact ⟨scale_A_55 c i arg1 harg1 arg4 harg4 arg11 x0 x3, scale_A_54 c i arg1 harg1 arg4 harg4 arg11 x0 x3, scale_A_53 c i arg1 harg1 arg4 harg4 arg11 x0 x3, scale_A_52 c i arg1 harg1 arg4 harg4 arg11 x0 x3, scale_A_51 c i arg1 harg1 arg4 harg4 arg11 x0 x3, scale_A_50 c i arg1 harg1 arg4 harg4 arg11 x0 x3, scale_A_49 c i arg1 harg1 arg4 harg4 arg11 x0 x3, scale_A_48 c i arg1 harg1 arg4 harg4 arg11 x0 x3, scale_A_47 c i arg1 harg1 arg4 harg4 arg11 x0 x3, scale_A_46 c i arg1 harg1 arg4 harg4 arg11 x0 x3, scale_A_45 c i arg1 harg1 arg4 harg4 arg11 x0 x3, scale_A_44 c i arg1 harg1 arg4 harg4 arg11 x0 x3, scale_A_43 c i arg1 harg1 arg4 harg4 arg11 x0 x3, scale_A_42 c i arg1 harg1 arg4 harg4 arg11 x0 x3, scale_A_41 c i arg1 harg1 arg4 harg4 arg11 x0 x3, scale_A_40 c i arg1 harg1 arg4 harg4 arg11 x0 x3, scale_A_39 c i arg1 harg1 arg4 harg4 arg11 x0 x3, scale_A_38 c i arg1 harg1 arg4 harg4 arg11 x0 x3, scale_A_37 c i arg1 harg1 arg4 harg4 arg11 x0 x3, scale_A_36 c i arg1 harg1 arg4 harg4 arg11 x0 x3, scale_A_35 c i arg1 harg1 arg4 harg4 arg11 x0 x3, scale_A_34 c i arg1 harg1 arg4 harg4 arg11 x0 x3, scale_A_33 c i arg1 harg1 arg4 harg4 arg11 x0 x3, scale_A_32 c i arg1 harg1 arg4 harg4 arg11 x0 x3, scale_A_31 c i arg1 harg1 arg4 harg4 arg11 x0 x3, scale_A_30 c i arg1 harg1 arg4 harg4 arg11 x0 x3, scale_A_29 c i arg1 harg1 arg4 harg4 arg11 x0 x3, scale_A_28 c i arg1 harg1 arg4 harg4 arg11 x0 x3, scale_A_27 c i arg1 harg1 arg4 harg4 arg11 x0 x3, scale_A_26 c i arg1 harg1 arg4 harg4 arg11 x0 x3, scale_A_25 c i arg1 harg1 arg4 harg4 arg11 x0 x3, scale_A_24 c i arg1 harg1 arg4 harg4 arg11 x0 x3, scale_A_23 c i arg1 harg1 arg4 harg4 arg11 x0 x3, scale_A_22 c i arg1 harg1 arg4 harg4 arg11 x0 x3, scale_A_21 c i arg1 harg1 arg4 harg4 arg11 x0 x3, scale_A_20 c i arg1 harg1 arg4 harg4 arg11 x0 x3, scale_A_19 c i arg1 harg1 arg4 harg4 arg11 x0 x3, scale_A_18 c i arg1 harg1 arg4 harg4 arg11 x0 x3, scale_A_17 c i arg1 harg1 arg4 harg4 arg11 x0 x3, scale_A_16 c i arg1 harg1 arg4 harg4 arg11 x0 x3, scale_A_15 c i arg1 harg1 arg4 harg4 arg11 x0 x3, scale_A_14 c i arg1 harg1 arg4 harg4 arg11 x0 x3, scale_A_13 c i arg1 harg1 arg4 harg4 arg11 x0 x3, scale_A_12 c i arg1 harg1 arg4 harg4 arg11 x0 x3, scale_A_11 c i arg1 harg1 arg4 harg4 arg11 x0 x3, scale_A_10 c i arg1 harg1 arg4 harg4 arg11 x0 x3, scale_A_9 c i arg1 harg1 arg4 harg4 arg11 x0 x3, scale_A_8 c i arg1 harg1 arg4 harg4 arg11 x0 x3, scale_A_7 c i arg1 harg1 arg4 harg4 arg11 x0 x3, scale_A_6 c i arg1 harg1 arg4 harg4 arg11 x0 x3, scale_A_5 c i arg1 harg1 arg4 harg4 arg11 x0 x3, scale_A_4 c i arg1 harg1 arg4 harg4 arg11 x0 x3, scale_A_3 c i arg1 harg1 arg4 harg4 arg11 x0 x3, scale_A_2 c i arg1 harg1 arg4 harg4 arg11 x0 x3, scale_A_1 c i arg1 harg1 arg4 harg4 arg11 x0 x3, scale_A_0 c i arg1 harg1 arg4 harg4 arg11 x0 x3, fun _ h => absurd h List.not_mem_nil⟩

/-- The spread scales read back. -/
theorem scale_read_A (v : View sig .tc .vmem S16x7168 .f32) (f) (c : Dev nD) (i : grid0.Coords) (arg1 : Memref sig .tc .smem S1x1 .f32) (harg1 : arg1.IsWhole) (arg4 : Memref sig .tc .vmem S1152x512 .f32) (harg4 : arg4.IsWhole) (arg11 : Memref sig .tc .vmem S1152x512 .f32) (x0 : Vec Ideal S1x1 .f32) (x3 : Vec Ideal S1152x512 .f32) :
    v.read (Elt Ideal) (v.writes (Elt Ideal) f (kernelRun0_A.sl.HS2_56 (F := Ideal) c i arg1 harg1 arg4 harg4 arg11 x0 x3)) = ex (kernelRun0_A.sl.v8 c i arg1 harg1 arg4 harg4 arg11 x0 x3) := by
  have cov := fun y => View.cover_of_tiledL (kernelRun0_A.sl.HS2_56 (F := Ideal) c i arg1 harg1 arg4 harg4 arg11 x0 x3) S16x128.size (by sl_kernel_rfl) y
  rw [View.read_writes_eq_canon _ _ _ cov]
  funext y
  exact View.canon_apply_of_pieces _ _ (scale_pieces_A c i arg1 harg1 arg4 harg4 arg11 x0 x3) y (cov y)

end Cert.Weight
end
-- ==== Proof.OutA.lean ====
/- What the ideal kernel's body leaves in its outputs, case A, read at an index. -/
module

public import proofs.«01_k».proof.Proof.OutC
public import proofs.«01_k».proof.Proof.ExpandA
public import proofs.«01_k».proof.Proof.Ideal.Frame

@[expose] public section

set_option maxRecDepth 16384

noncomputable section

namespace Cert.Weight
open Idealize.ShloMosaic Idealize.ShloMosaic.TcCoe Idealize.SL.Sem Idealize.ShloMosaic.Tactic
open Cert.KernelIdeal Cert.KernelIdeal.Gen

section Outs
variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole)  (hc0 : cond0_0 i) (x0 : Vec Ideal S1x1 .f32) (x1 : Vec Ideal S1x1 .f32) (x2 : Vec Ideal S256x7168 .bf16) (x3 : Vec Ideal S1152x512 .f32) (x4 : Vec Ideal S128x7168 .bf16)

theorem g_A : kernelRun0_A.sl.r (F := Ideal) c arg1 harg1 x0 = (x0 (ix2 (0 : Fin 1) (0 : Fin 1))) := by
  unfold kernelRun0_A.sl.r
  rw [scal, harg1.read_unread]

theorem b_A : kernelRun0_A.sl.r_6 (F := Ideal) c arg2 harg2 x1 = x1 (ix2 (0 : Fin 1) (0 : Fin 1)) := by
  unfold kernelRun0_A.sl.r_6
  exact (scal arg2.view (harg2.unread x1) _ _).trans (by rw [harg2.read_unread])

theorem hs0_A (v : View sig .tc .vmem S1152x512 .f32) (f) : v.read (Elt Ideal) (v.writes (Elt Ideal) f (kernelRun0_A.sl.HS0_1 (F := Ideal) c arg1 harg1 arg4 harg4 x0 x3)) = (k0_pay53 (F := Ideal) (x0 (ix2 (0 : Fin 1) (0 : Fin 1))) x3) := by
  unfold kernelRun0_A.sl.HS0_1
  rw [View.read_writes_full, View.readAt_full, harg4.read_unread, g_A c arg1 harg1 x0]

theorem sl_A : kernelRun0_A.sl.v8 (F := Ideal) c i arg1 harg1 arg4 harg4 arg11 x0 x3 = sl16 i (k0_pay53 (F := Ideal) (x0 (ix2 (0 : Fin 1) (0 : Fin 1))) x3) := by
  unfold kernelRun0_A.sl.v8
  rw [sl16_read i arg11.view _ _ _ (k0_off1_eq i), hs0_A c arg1 harg1 arg4 harg4 x0 x3]

theorem rc_A : kernelRun0_A.sl.r_4 (F := Ideal) c i arg1 harg1 arg4 harg4 arg11 x0 x3 = k0_pay54 (F := Ideal) (x0 (ix2 (0 : Fin 1) (0 : Fin 1))) (sl16 i (k0_pay53 (F := Ideal) (x0 (ix2 (0 : Fin 1) (0 : Fin 1))) x3)) := by
  unfold kernelRun0_A.sl.r_4
  rw [g_A c arg1 harg1 x0, sl_A c i arg1 harg1 arg4 harg4 arg11 x0 x3]

theorem z_A : kernelRun0_A.sl.r_2 (F := Ideal) c arg1 harg1 x0 = k0_pay49 (F := Ideal) (x0 (ix2 (0 : Fin 1) (0 : Fin 1))) := by
  unfold kernelRun0_A.sl.r_2
  rw [g_A c arg1 harg1 x0]

theorem s_A : kernelRun0_A.sl.r_3 (F := Ideal) c arg1 harg1 x0 = k0_pay50 (F := Ideal) (x0 (ix2 (0 : Fin 1) (0 : Fin 1))) := by
  unfold kernelRun0_A.sl.r_3
  rw [g_A c arg1 harg1 x0]

/-- The first code output. -/
theorem out6_A (a : Fin 256) (j : Fin 3584) : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 (ix2 a j)
    = pack (cd x2 (ex (k0_pay54 (F := Ideal) (x0 (ix2 (0 : Fin 1) (0 : Fin 1))) (sl16 i (k0_pay53 (F := Ideal) (x0 (ix2 (0 : Fin 1) (0 : Fin 1))) x3)))) (k0_pay49 (F := Ideal) (x0 (ix2 (0 : Fin 1) (0 : Fin 1)))) a ⟨2 * j.val, by omega⟩) (cd x2 (ex (k0_pay54 (F := Ideal) (x0 (ix2 (0 : Fin 1) (0 : Fin 1))) (sl16 i (k0_pay53 (F := Ideal) (x0 (ix2 (0 : Fin 1) (0 : Fin 1))) x3)))) (k0_pay49 (F := Ideal) (x0 (ix2 (0 : Fin 1) (0 : Fin 1)))) a ⟨2 * j.val + 1, by omega⟩) := by
  refine (fold7 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.r_2 (F := Ideal) c arg1 harg1 x0) (harg3.unread x2) (harg5.unread x4)
    (arg12.view.writes (Elt Ideal) arg12.view.junk (kernelRun0_A.sl.HS1_56 (F := Ideal) c i arg1 harg1 arg4 harg4 arg11 x0 x3)) (arg13.view.writes (Elt Ideal) arg13.view.junk (kernelRun0_A.sl.HS2_56 (F := Ideal) c i arg1 harg1 arg4 harg4 arg11 x0 x3))
    arg7.view.junk arg8.view.junk (arg14.view.writes (Elt Ideal) arg14.view.junk (kernelRun0_A.sl.HS3_1 (F := Ideal)))
    VO0_6 VO0_6.junk k0_t1_loop.trips trips14.le a j (by rw [trips14]; omega)).trans ?_
  rw [recip_read_A, harg3.read_unread, rc_A c i arg1 harg1 arg4 harg4 arg11 x0 x3, z_A c arg1 harg1 x0]

/-- The second code output. -/
theorem out7_A (m : Fin 7168) (b : Fin 128) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 (ix2 m b)
    = pack (cd x2 (ex (k0_pay54 (F := Ideal) (x0 (ix2 (0 : Fin 1) (0 : Fin 1))) (sl16 i (k0_pay53 (F := Ideal) (x0 (ix2 (0 : Fin 1) (0 : Fin 1))) x3)))) (k0_pay49 (F := Ideal) (x0 (ix2 (0 : Fin 1) (0 : Fin 1)))) ⟨2 * b.val, by omega⟩ m) (cd x2 (ex (k0_pay54 (F := Ideal) (x0 (ix2 (0 : Fin 1) (0 : Fin 1))) (sl16 i (k0_pay53 (F := Ideal) (x0 (ix2 (0 : Fin 1) (0 : Fin 1))) x3)))) (k0_pay49 (F := Ideal) (x0 (ix2 (0 : Fin 1) (0 : Fin 1)))) ⟨2 * b.val + 1, by omega⟩ m) := by
  refine (fold8 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.r_2 (F := Ideal) c arg1 harg1 x0) (harg3.unread x2) (harg5.unread x4)
    (arg12.view.writes (Elt Ideal) arg12.view.junk (kernelRun0_A.sl.HS1_56 (F := Ideal) c i arg1 harg1 arg4 harg4 arg11 x0 x3)) (arg13.view.writes (Elt Ideal) arg13.view.junk (kernelRun0_A.sl.HS2_56 (F := Ideal) c i arg1 harg1 arg4 harg4 arg11 x0 x3))
    arg7.view.junk arg8.view.junk (arg14.view.writes (Elt Ideal) arg14.view.junk (kernelRun0_A.sl.HS3_1 (F := Ideal)))
    VO0_7 VO0_7.junk k0_t1_loop.trips trips14.le m b (by rw [trips14]; omega)).trans ?_
  rw [recip_read_A, harg3.read_unread, rc_A c i arg1 harg1 arg4 harg4 arg11 x0 x3, z_A c arg1 harg1 x0]

/-- The product output. -/
theorem out5_A (r : Fin 128) (a : Fin 256) : out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 (ix2 r a)
    = (∑ k ∈ Finset.range 14, blk x4 (dq x2 (ex (k0_pay54 (F := Ideal) (x0 (ix2 (0 : Fin 1) (0 : Fin 1))) (sl16 i (k0_pay53 (F := Ideal) (x0 (ix2 (0 : Fin 1) (0 : Fin 1))) x3)))) (ex (sl16 i (k0_pay53 (F := Ideal) (x0 (ix2 (0 : Fin 1) (0 : Fin 1))) x3))) (k0_pay49 (F := Ideal) (x0 (ix2 (0 : Fin 1) (0 : Fin 1))))) r a k) * (k0_pay50 (F := Ideal) (x0 (ix2 (0 : Fin 1) (0 : Fin 1))) * x1 (ix2 (0 : Fin 1) (0 : Fin 1))) := by
  have h := fold14 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_A.sl.r_2 (F := Ideal) c arg1 harg1 x0) (harg3.unread x2) (harg5.unread x4)
    (arg12.view.writes (Elt Ideal) arg12.view.junk (kernelRun0_A.sl.HS1_56 (F := Ideal) c i arg1 harg1 arg4 harg4 arg11 x0 x3)) (arg13.view.writes (Elt Ideal) arg13.view.junk (kernelRun0_A.sl.HS2_56 (F := Ideal) c i arg1 harg1 arg4 harg4 arg11 x0 x3))
    arg7.view.junk arg8.view.junk (arg14.view.writes (Elt Ideal) arg14.view.junk (kernelRun0_A.sl.HS3_1 (F := Ideal)))
    k0_t1_loop.trips trips14.le r a
  have e0 : arg14.view.read (Elt Ideal) (arg14.view.writes (Elt Ideal) arg14.view.junk (kernelRun0_A.sl.HS3_1 (F := Ideal))) (ix2 r a) = (0 : EReal) := by
    unfold kernelRun0_A.sl.HS3_1
    refine (congrFun (View.read_writes_full arg14.view _ inb_S128x256_S128x256_0_0 _ []) (ix2 r a)).trans ?_
    unfold k0_pay1 k0_pay340
    rw [shapeCast_self]
    exact Ideal.ofBits_zero .f32
  rw [e0, zero_add, ← View.writes_append] at h
  have h3 := ((congrFun (View.readAt_full arg14.view _ inb_S128x256_S128x256_0_0) (ix2 r a)).trans h).trans (b := _)
    (c := ∑ k ∈ Finset.range 14, blk x4 (dq x2 (ex (k0_pay54 (F := Ideal) (x0 (ix2 (0 : Fin 1) (0 : Fin 1))) (sl16 i (k0_pay53 (F := Ideal) (x0 (ix2 (0 : Fin 1) (0 : Fin 1))) x3)))) (ex (sl16 i (k0_pay53 (F := Ideal) (x0 (ix2 (0 : Fin 1) (0 : Fin 1))) x3))) (k0_pay49 (F := Ideal) (x0 (ix2 (0 : Fin 1) (0 : Fin 1))))) r a k) (by
    rw [recip_read_A, scale_read_A, harg3.read_unread, harg5.read_unread, rc_A c i arg1 harg1 arg4 harg4 arg11 x0 x3, sl_A c i arg1 harg1 arg4 harg4 arg11 x0 x3, z_A c arg1 harg1 x0, trips14])
  rw [← h3, ← s_A c arg1 harg1 x0, ← b_A c arg2 harg2 x1]
  exact congrFun (View.read_writes_full (Val := Elt Ideal) VO0_5 VO0_5.junk inb_S128x256_S128x256_0_0 _ []) (ix2 r a)

/-- The scale output. -/
theorem out8_A : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 = k0_pay52 (F := Ideal) (x0 (ix2 (0 : Fin 1) (0 : Fin 1))) x3 := by
  refine (View.read_writes_full VO0_8 VO0_8.junk inb_S1152x448_S1152x448_0_0 _ []).trans ?_
  rw [View.readAt_full, harg4.read_unread, g_A c arg1 harg1 x0]

/-- The tensor scale output. -/
theorem out9_A : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 = fun _ => k0_pay50 (F := Ideal) (x0 (ix2 (0 : Fin 1) (0 : Fin 1))) := by
  refine (View.read_writes_full VO0_9 VO0_9.junk inb_S1x1_S1x1_0_0 _ []).trans ?_
  rw [g_A c arg1 harg1 x0]
  rfl

/-- The scratch. -/
theorem souts_A : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 = (k0_pay53 (F := Ideal) (x0 (ix2 (0 : Fin 1) (0 : Fin 1))) x3) := hs0_A c arg1 harg1 arg4 harg4 x0 x3 VS0_0 VS0_0.junk

end Outs
end Cert.Weight
end
-- ==== Proof.ExpandB.lean ====
/- The two spread arrays of the ideal kernel's body, case B: what its 56 stores into each leave. -/
module

public import proofs.«01_k».proof.Proof.Expand
public import proofs.«01_k».proof.Proof.Ideal.RunB

@[expose] public section

set_option maxRecDepth 16384

noncomputable section

namespace Cert.Weight
open Idealize.ShloMosaic Idealize.ShloMosaic.TcCoe Idealize.SL.Sem Idealize.ShloMosaic.Tactic
open Cert.KernelIdeal Cert.KernelIdeal.Gen

/-- Store 0 of the spread reciprocals. -/
theorem recip_B_0 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v57 c i arg1 harg1 arg11 harg11 x0 xs0 : S16x128.Idx → EReal) x = ex (kernelRun0_B.sl.r_4 c i arg1 harg1 arg11 harg11 x0 xs0) ((Rect.unit (s := S16x7168) ![0, 0] S16x128.size inb_S16x7168_S16x128_0_0).emb x) :=
  chunk (kernelRun0_B.sl.r_4 c i arg1 harg1 arg11 harg11 x0 xs0) 0 0 0 inb_S16x7168_S16x128_0_0 (by decide) slices_S16x512_o0_0_S16x128 shapeCasts_S16x128_S16x128 x

/-- Store 1 of the spread reciprocals. -/
theorem recip_B_1 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v108 c i arg1 harg1 arg11 harg11 x0 xs0 : S16x128.Idx → EReal) x = ex (kernelRun0_B.sl.r_4 c i arg1 harg1 arg11 harg11 x0 xs0) ((Rect.unit (s := S16x7168) ![0, 128] S16x128.size inb_S16x7168_S16x128_0_128).emb x) :=
  chunk (kernelRun0_B.sl.r_4 c i arg1 harg1 arg11 harg11 x0 xs0) 128 0 1 inb_S16x7168_S16x128_0_128 (by decide) slices_S16x512_o0_0_S16x128 shapeCasts_S16x128_S16x128 x

/-- Store 2 of the spread reciprocals. -/
theorem recip_B_2 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v159 c i arg1 harg1 arg11 harg11 x0 xs0 : S16x128.Idx → EReal) x = ex (kernelRun0_B.sl.r_4 c i arg1 harg1 arg11 harg11 x0 xs0) ((Rect.unit (s := S16x7168) ![0, 256] S16x128.size inb_S16x7168_S16x128_0_256).emb x) :=
  chunk (kernelRun0_B.sl.r_4 c i arg1 harg1 arg11 harg11 x0 xs0) 256 0 2 inb_S16x7168_S16x128_0_256 (by decide) slices_S16x512_o0_0_S16x128 shapeCasts_S16x128_S16x128 x

/-- Store 3 of the spread reciprocals. -/
theorem recip_B_3 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v210 c i arg1 harg1 arg11 harg11 x0 xs0 : S16x128.Idx → EReal) x = ex (kernelRun0_B.sl.r_4 c i arg1 harg1 arg11 harg11 x0 xs0) ((Rect.unit (s := S16x7168) ![0, 384] S16x128.size inb_S16x7168_S16x128_0_384).emb x) :=
  chunk (kernelRun0_B.sl.r_4 c i arg1 harg1 arg11 harg11 x0 xs0) 384 0 3 inb_S16x7168_S16x128_0_384 (by decide) slices_S16x512_o0_0_S16x128 shapeCasts_S16x128_S16x128 x

/-- Store 4 of the spread reciprocals. -/
theorem recip_B_4 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v261 c i arg1 harg1 arg11 harg11 x0 xs0 : S16x128.Idx → EReal) x = ex (kernelRun0_B.sl.r_4 c i arg1 harg1 arg11 harg11 x0 xs0) ((Rect.unit (s := S16x7168) ![0, 512] S16x128.size inb_S16x7168_S16x128_0_512).emb x) :=
  chunk (kernelRun0_B.sl.r_4 c i arg1 harg1 arg11 harg11 x0 xs0) 512 0 4 inb_S16x7168_S16x128_0_512 (by decide) slices_S16x512_o0_0_S16x128 shapeCasts_S16x128_S16x128 x

/-- Store 5 of the spread reciprocals. -/
theorem recip_B_5 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v312 c i arg1 harg1 arg11 harg11 x0 xs0 : S16x128.Idx → EReal) x = ex (kernelRun0_B.sl.r_4 c i arg1 harg1 arg11 harg11 x0 xs0) ((Rect.unit (s := S16x7168) ![0, 640] S16x128.size inb_S16x7168_S16x128_0_640).emb x) :=
  chunk (kernelRun0_B.sl.r_4 c i arg1 harg1 arg11 harg11 x0 xs0) 640 0 5 inb_S16x7168_S16x128_0_640 (by decide) slices_S16x512_o0_0_S16x128 shapeCasts_S16x128_S16x128 x

/-- Store 6 of the spread reciprocals. -/
theorem recip_B_6 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v363 c i arg1 harg1 arg11 harg11 x0 xs0 : S16x128.Idx → EReal) x = ex (kernelRun0_B.sl.r_4 c i arg1 harg1 arg11 harg11 x0 xs0) ((Rect.unit (s := S16x7168) ![0, 768] S16x128.size inb_S16x7168_S16x128_0_768).emb x) :=
  chunk (kernelRun0_B.sl.r_4 c i arg1 harg1 arg11 harg11 x0 xs0) 768 0 6 inb_S16x7168_S16x128_0_768 (by decide) slices_S16x512_o0_0_S16x128 shapeCasts_S16x128_S16x128 x

/-- Store 7 of the spread reciprocals. -/
theorem recip_B_7 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v414 c i arg1 harg1 arg11 harg11 x0 xs0 : S16x128.Idx → EReal) x = ex (kernelRun0_B.sl.r_4 c i arg1 harg1 arg11 harg11 x0 xs0) ((Rect.unit (s := S16x7168) ![0, 896] S16x128.size inb_S16x7168_S16x128_0_896).emb x) :=
  chunk (kernelRun0_B.sl.r_4 c i arg1 harg1 arg11 harg11 x0 xs0) 896 0 7 inb_S16x7168_S16x128_0_896 (by decide) slices_S16x512_o0_0_S16x128 shapeCasts_S16x128_S16x128 x

/-- Store 8 of the spread reciprocals. -/
theorem recip_B_8 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v465 c i arg1 harg1 arg11 harg11 x0 xs0 : S16x128.Idx → EReal) x = ex (kernelRun0_B.sl.r_4 c i arg1 harg1 arg11 harg11 x0 xs0) ((Rect.unit (s := S16x7168) ![0, 1024] S16x128.size inb_S16x7168_S16x128_0_1024).emb x) :=
  chunk (kernelRun0_B.sl.r_4 c i arg1 harg1 arg11 harg11 x0 xs0) 1024 0 8 inb_S16x7168_S16x128_0_1024 (by decide) slices_S16x512_o0_0_S16x128 shapeCasts_S16x128_S16x128 x

/-- Store 9 of the spread reciprocals. -/
theorem recip_B_9 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v516 c i arg1 harg1 arg11 harg11 x0 xs0 : S16x128.Idx → EReal) x = ex (kernelRun0_B.sl.r_4 c i arg1 harg1 arg11 harg11 x0 xs0) ((Rect.unit (s := S16x7168) ![0, 1152] S16x128.size inb_S16x7168_S16x128_0_1152).emb x) :=
  chunk (kernelRun0_B.sl.r_4 c i arg1 harg1 arg11 harg11 x0 xs0) 1152 0 9 inb_S16x7168_S16x128_0_1152 (by decide) slices_S16x512_o0_0_S16x128 shapeCasts_S16x128_S16x128 x

/-- Store 10 of the spread reciprocals. -/
theorem recip_B_10 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v567 c i arg1 harg1 arg11 harg11 x0 xs0 : S16x128.Idx → EReal) x = ex (kernelRun0_B.sl.r_4 c i arg1 harg1 arg11 harg11 x0 xs0) ((Rect.unit (s := S16x7168) ![0, 1280] S16x128.size inb_S16x7168_S16x128_0_1280).emb x) :=
  chunk (kernelRun0_B.sl.r_4 c i arg1 harg1 arg11 harg11 x0 xs0) 1280 0 10 inb_S16x7168_S16x128_0_1280 (by decide) slices_S16x512_o0_0_S16x128 shapeCasts_S16x128_S16x128 x

/-- Store 11 of the spread reciprocals. -/
theorem recip_B_11 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v618 c i arg1 harg1 arg11 harg11 x0 xs0 : S16x128.Idx → EReal) x = ex (kernelRun0_B.sl.r_4 c i arg1 harg1 arg11 harg11 x0 xs0) ((Rect.unit (s := S16x7168) ![0, 1408] S16x128.size inb_S16x7168_S16x128_0_1408).emb x) :=
  chunk (kernelRun0_B.sl.r_4 c i arg1 harg1 arg11 harg11 x0 xs0) 1408 0 11 inb_S16x7168_S16x128_0_1408 (by decide) slices_S16x512_o0_0_S16x128 shapeCasts_S16x128_S16x128 x

/-- Store 12 of the spread reciprocals. -/
theorem recip_B_12 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v669 c i arg1 harg1 arg11 harg11 x0 xs0 : S16x128.Idx → EReal) x = ex (kernelRun0_B.sl.r_4 c i arg1 harg1 arg11 harg11 x0 xs0) ((Rect.unit (s := S16x7168) ![0, 1536] S16x128.size inb_S16x7168_S16x128_0_1536).emb x) :=
  chunk (kernelRun0_B.sl.r_4 c i arg1 harg1 arg11 harg11 x0 xs0) 1536 0 12 inb_S16x7168_S16x128_0_1536 (by decide) slices_S16x512_o0_0_S16x128 shapeCasts_S16x128_S16x128 x

/-- Store 13 of the spread reciprocals. -/
theorem recip_B_13 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v720 c i arg1 harg1 arg11 harg11 x0 xs0 : S16x128.Idx → EReal) x = ex (kernelRun0_B.sl.r_4 c i arg1 harg1 arg11 harg11 x0 xs0) ((Rect.unit (s := S16x7168) ![0, 1664] S16x128.size inb_S16x7168_S16x128_0_1664).emb x) :=
  chunk (kernelRun0_B.sl.r_4 c i arg1 harg1 arg11 harg11 x0 xs0) 1664 0 13 inb_S16x7168_S16x128_0_1664 (by decide) slices_S16x512_o0_0_S16x128 shapeCasts_S16x128_S16x128 x

/-- Store 14 of the spread reciprocals. -/
theorem recip_B_14 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v771 c i arg1 harg1 arg11 harg11 x0 xs0 : S16x128.Idx → EReal) x = ex (kernelRun0_B.sl.r_4 c i arg1 harg1 arg11 harg11 x0 xs0) ((Rect.unit (s := S16x7168) ![0, 1792] S16x128.size inb_S16x7168_S16x128_0_1792).emb x) :=
  chunk (kernelRun0_B.sl.r_4 c i arg1 harg1 arg11 harg11 x0 xs0) 1792 0 14 inb_S16x7168_S16x128_0_1792 (by decide) slices_S16x512_o0_0_S16x128 shapeCasts_S16x128_S16x128 x

/-- Store 15 of the spread reciprocals. -/
theorem recip_B_15 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v822 c i arg1 harg1 arg11 harg11 x0 xs0 : S16x128.Idx → EReal) x = ex (kernelRun0_B.sl.r_4 c i arg1 harg1 arg11 harg11 x0 xs0) ((Rect.unit (s := S16x7168) ![0, 1920] S16x128.size inb_S16x7168_S16x128_0_1920).emb x) :=
  chunk (kernelRun0_B.sl.r_4 c i arg1 harg1 arg11 harg11 x0 xs0) 1920 0 15 inb_S16x7168_S16x128_0_1920 (by decide) slices_S16x512_o0_0_S16x128 shapeCasts_S16x128_S16x128 x

/-- Store 16 of the spread reciprocals. -/
theorem recip_B_16 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v873 c i arg1 harg1 arg11 harg11 x0 xs0 : S16x128.Idx → EReal) x = ex (kernelRun0_B.sl.r_4 c i arg1 harg1 arg11 harg11 x0 xs0) ((Rect.unit (s := S16x7168) ![0, 2048] S16x128.size inb_S16x7168_S16x128_0_2048).emb x) :=
  chunk (kernelRun0_B.sl.r_4 c i arg1 harg1 arg11 harg11 x0 xs0) 2048 128 0 inb_S16x7168_S16x128_0_2048 (by decide) slices_S16x512_o0_128_S16x128 shapeCasts_S16x128_S16x128 x

/-- Store 17 of the spread reciprocals. -/
theorem recip_B_17 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v924 c i arg1 harg1 arg11 harg11 x0 xs0 : S16x128.Idx → EReal) x = ex (kernelRun0_B.sl.r_4 c i arg1 harg1 arg11 harg11 x0 xs0) ((Rect.unit (s := S16x7168) ![0, 2176] S16x128.size inb_S16x7168_S16x128_0_2176).emb x) :=
  chunk (kernelRun0_B.sl.r_4 c i arg1 harg1 arg11 harg11 x0 xs0) 2176 128 1 inb_S16x7168_S16x128_0_2176 (by decide) slices_S16x512_o0_128_S16x128 shapeCasts_S16x128_S16x128 x

/-- Store 18 of the spread reciprocals. -/
theorem recip_B_18 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v975 c i arg1 harg1 arg11 harg11 x0 xs0 : S16x128.Idx → EReal) x = ex (kernelRun0_B.sl.r_4 c i arg1 harg1 arg11 harg11 x0 xs0) ((Rect.unit (s := S16x7168) ![0, 2304] S16x128.size inb_S16x7168_S16x128_0_2304).emb x) :=
  chunk (kernelRun0_B.sl.r_4 c i arg1 harg1 arg11 harg11 x0 xs0) 2304 128 2 inb_S16x7168_S16x128_0_2304 (by decide) slices_S16x512_o0_128_S16x128 shapeCasts_S16x128_S16x128 x

/-- Store 19 of the spread reciprocals. -/
theorem recip_B_19 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1026 c i arg1 harg1 arg11 harg11 x0 xs0 : S16x128.Idx → EReal) x = ex (kernelRun0_B.sl.r_4 c i arg1 harg1 arg11 harg11 x0 xs0) ((Rect.unit (s := S16x7168) ![0, 2432] S16x128.size inb_S16x7168_S16x128_0_2432).emb x) :=
  chunk (kernelRun0_B.sl.r_4 c i arg1 harg1 arg11 harg11 x0 xs0) 2432 128 3 inb_S16x7168_S16x128_0_2432 (by decide) slices_S16x512_o0_128_S16x128 shapeCasts_S16x128_S16x128 x

/-- Store 20 of the spread reciprocals. -/
theorem recip_B_20 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1077 c i arg1 harg1 arg11 harg11 x0 xs0 : S16x128.Idx → EReal) x = ex (kernelRun0_B.sl.r_4 c i arg1 harg1 arg11 harg11 x0 xs0) ((Rect.unit (s := S16x7168) ![0, 2560] S16x128.size inb_S16x7168_S16x128_0_2560).emb x) :=
  chunk (kernelRun0_B.sl.r_4 c i arg1 harg1 arg11 harg11 x0 xs0) 2560 128 4 inb_S16x7168_S16x128_0_2560 (by decide) slices_S16x512_o0_128_S16x128 shapeCasts_S16x128_S16x128 x

/-- Store 21 of the spread reciprocals. -/
theorem recip_B_21 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1128 c i arg1 harg1 arg11 harg11 x0 xs0 : S16x128.Idx → EReal) x = ex (kernelRun0_B.sl.r_4 c i arg1 harg1 arg11 harg11 x0 xs0) ((Rect.unit (s := S16x7168) ![0, 2688] S16x128.size inb_S16x7168_S16x128_0_2688).emb x) :=
  chunk (kernelRun0_B.sl.r_4 c i arg1 harg1 arg11 harg11 x0 xs0) 2688 128 5 inb_S16x7168_S16x128_0_2688 (by decide) slices_S16x512_o0_128_S16x128 shapeCasts_S16x128_S16x128 x

/-- Store 22 of the spread reciprocals. -/
theorem recip_B_22 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1179 c i arg1 harg1 arg11 harg11 x0 xs0 : S16x128.Idx → EReal) x = ex (kernelRun0_B.sl.r_4 c i arg1 harg1 arg11 harg11 x0 xs0) ((Rect.unit (s := S16x7168) ![0, 2816] S16x128.size inb_S16x7168_S16x128_0_2816).emb x) :=
  chunk (kernelRun0_B.sl.r_4 c i arg1 harg1 arg11 harg11 x0 xs0) 2816 128 6 inb_S16x7168_S16x128_0_2816 (by decide) slices_S16x512_o0_128_S16x128 shapeCasts_S16x128_S16x128 x

/-- Store 23 of the spread reciprocals. -/
theorem recip_B_23 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1230 c i arg1 harg1 arg11 harg11 x0 xs0 : S16x128.Idx → EReal) x = ex (kernelRun0_B.sl.r_4 c i arg1 harg1 arg11 harg11 x0 xs0) ((Rect.unit (s := S16x7168) ![0, 2944] S16x128.size inb_S16x7168_S16x128_0_2944).emb x) :=
  chunk (kernelRun0_B.sl.r_4 c i arg1 harg1 arg11 harg11 x0 xs0) 2944 128 7 inb_S16x7168_S16x128_0_2944 (by decide) slices_S16x512_o0_128_S16x128 shapeCasts_S16x128_S16x128 x

/-- Store 24 of the spread reciprocals. -/
theorem recip_B_24 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1281 c i arg1 harg1 arg11 harg11 x0 xs0 : S16x128.Idx → EReal) x = ex (kernelRun0_B.sl.r_4 c i arg1 harg1 arg11 harg11 x0 xs0) ((Rect.unit (s := S16x7168) ![0, 3072] S16x128.size inb_S16x7168_S16x128_0_3072).emb x) :=
  chunk (kernelRun0_B.sl.r_4 c i arg1 harg1 arg11 harg11 x0 xs0) 3072 128 8 inb_S16x7168_S16x128_0_3072 (by decide) slices_S16x512_o0_128_S16x128 shapeCasts_S16x128_S16x128 x

/-- Store 25 of the spread reciprocals. -/
theorem recip_B_25 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1332 c i arg1 harg1 arg11 harg11 x0 xs0 : S16x128.Idx → EReal) x = ex (kernelRun0_B.sl.r_4 c i arg1 harg1 arg11 harg11 x0 xs0) ((Rect.unit (s := S16x7168) ![0, 3200] S16x128.size inb_S16x7168_S16x128_0_3200).emb x) :=
  chunk (kernelRun0_B.sl.r_4 c i arg1 harg1 arg11 harg11 x0 xs0) 3200 128 9 inb_S16x7168_S16x128_0_3200 (by decide) slices_S16x512_o0_128_S16x128 shapeCasts_S16x128_S16x128 x

/-- Store 26 of the spread reciprocals. -/
theorem recip_B_26 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1383 c i arg1 harg1 arg11 harg11 x0 xs0 : S16x128.Idx → EReal) x = ex (kernelRun0_B.sl.r_4 c i arg1 harg1 arg11 harg11 x0 xs0) ((Rect.unit (s := S16x7168) ![0, 3328] S16x128.size inb_S16x7168_S16x128_0_3328).emb x) :=
  chunk (kernelRun0_B.sl.r_4 c i arg1 harg1 arg11 harg11 x0 xs0) 3328 128 10 inb_S16x7168_S16x128_0_3328 (by decide) slices_S16x512_o0_128_S16x128 shapeCasts_S16x128_S16x128 x

/-- Store 27 of the spread reciprocals. -/
theorem recip_B_27 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1434 c i arg1 harg1 arg11 harg11 x0 xs0 : S16x128.Idx → EReal) x = ex (kernelRun0_B.sl.r_4 c i arg1 harg1 arg11 harg11 x0 xs0) ((Rect.unit (s := S16x7168) ![0, 3456] S16x128.size inb_S16x7168_S16x128_0_3456).emb x) :=
  chunk (kernelRun0_B.sl.r_4 c i arg1 harg1 arg11 harg11 x0 xs0) 3456 128 11 inb_S16x7168_S16x128_0_3456 (by decide) slices_S16x512_o0_128_S16x128 shapeCasts_S16x128_S16x128 x

/-- Store 28 of the spread reciprocals. -/
theorem recip_B_28 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1485 c i arg1 harg1 arg11 harg11 x0 xs0 : S16x128.Idx → EReal) x = ex (kernelRun0_B.sl.r_4 c i arg1 harg1 arg11 harg11 x0 xs0) ((Rect.unit (s := S16x7168) ![0, 3584] S16x128.size inb_S16x7168_S16x128_0_3584).emb x) :=
  chunk (kernelRun0_B.sl.r_4 c i arg1 harg1 arg11 harg11 x0 xs0) 3584 128 12 inb_S16x7168_S16x128_0_3584 (by decide) slices_S16x512_o0_128_S16x128 shapeCasts_S16x128_S16x128 x

/-- Store 29 of the spread reciprocals. -/
theorem recip_B_29 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1536 c i arg1 harg1 arg11 harg11 x0 xs0 : S16x128.Idx → EReal) x = ex (kernelRun0_B.sl.r_4 c i arg1 harg1 arg11 harg11 x0 xs0) ((Rect.unit (s := S16x7168) ![0, 3712] S16x128.size inb_S16x7168_S16x128_0_3712).emb x) :=
  chunk (kernelRun0_B.sl.r_4 c i arg1 harg1 arg11 harg11 x0 xs0) 3712 128 13 inb_S16x7168_S16x128_0_3712 (by decide) slices_S16x512_o0_128_S16x128 shapeCasts_S16x128_S16x128 x

/-- Store 30 of the spread reciprocals. -/
theorem recip_B_30 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1587 c i arg1 harg1 arg11 harg11 x0 xs0 : S16x128.Idx → EReal) x = ex (kernelRun0_B.sl.r_4 c i arg1 harg1 arg11 harg11 x0 xs0) ((Rect.unit (s := S16x7168) ![0, 3840] S16x128.size inb_S16x7168_S16x128_0_3840).emb x) :=
  chunk (kernelRun0_B.sl.r_4 c i arg1 harg1 arg11 harg11 x0 xs0) 3840 128 14 inb_S16x7168_S16x128_0_3840 (by decide) slices_S16x512_o0_128_S16x128 shapeCasts_S16x128_S16x128 x

/-- Store 31 of the spread reciprocals. -/
theorem recip_B_31 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1638 c i arg1 harg1 arg11 harg11 x0 xs0 : S16x128.Idx → EReal) x = ex (kernelRun0_B.sl.r_4 c i arg1 harg1 arg11 harg11 x0 xs0) ((Rect.unit (s := S16x7168) ![0, 3968] S16x128.size inb_S16x7168_S16x128_0_3968).emb x) :=
  chunk (kernelRun0_B.sl.r_4 c i arg1 harg1 arg11 harg11 x0 xs0) 3968 128 15 inb_S16x7168_S16x128_0_3968 (by decide) slices_S16x512_o0_128_S16x128 shapeCasts_S16x128_S16x128 x

/-- Store 32 of the spread reciprocals. -/
theorem recip_B_32 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1689 c i arg1 harg1 arg11 harg11 x0 xs0 : S16x128.Idx → EReal) x = ex (kernelRun0_B.sl.r_4 c i arg1 harg1 arg11 harg11 x0 xs0) ((Rect.unit (s := S16x7168) ![0, 4096] S16x128.size inb_S16x7168_S16x128_0_4096).emb x) :=
  chunk (kernelRun0_B.sl.r_4 c i arg1 harg1 arg11 harg11 x0 xs0) 4096 256 0 inb_S16x7168_S16x128_0_4096 (by decide) slices_S16x512_o0_256_S16x128 shapeCasts_S16x128_S16x128 x

/-- Store 33 of the spread reciprocals. -/
theorem recip_B_33 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1740 c i arg1 harg1 arg11 harg11 x0 xs0 : S16x128.Idx → EReal) x = ex (kernelRun0_B.sl.r_4 c i arg1 harg1 arg11 harg11 x0 xs0) ((Rect.unit (s := S16x7168) ![0, 4224] S16x128.size inb_S16x7168_S16x128_0_4224).emb x) :=
  chunk (kernelRun0_B.sl.r_4 c i arg1 harg1 arg11 harg11 x0 xs0) 4224 256 1 inb_S16x7168_S16x128_0_4224 (by decide) slices_S16x512_o0_256_S16x128 shapeCasts_S16x128_S16x128 x

/-- Store 34 of the spread reciprocals. -/
theorem recip_B_34 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1791 c i arg1 harg1 arg11 harg11 x0 xs0 : S16x128.Idx → EReal) x = ex (kernelRun0_B.sl.r_4 c i arg1 harg1 arg11 harg11 x0 xs0) ((Rect.unit (s := S16x7168) ![0, 4352] S16x128.size inb_S16x7168_S16x128_0_4352).emb x) :=
  chunk (kernelRun0_B.sl.r_4 c i arg1 harg1 arg11 harg11 x0 xs0) 4352 256 2 inb_S16x7168_S16x128_0_4352 (by decide) slices_S16x512_o0_256_S16x128 shapeCasts_S16x128_S16x128 x

/-- Store 35 of the spread reciprocals. -/
theorem recip_B_35 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1842 c i arg1 harg1 arg11 harg11 x0 xs0 : S16x128.Idx → EReal) x = ex (kernelRun0_B.sl.r_4 c i arg1 harg1 arg11 harg11 x0 xs0) ((Rect.unit (s := S16x7168) ![0, 4480] S16x128.size inb_S16x7168_S16x128_0_4480).emb x) :=
  chunk (kernelRun0_B.sl.r_4 c i arg1 harg1 arg11 harg11 x0 xs0) 4480 256 3 inb_S16x7168_S16x128_0_4480 (by decide) slices_S16x512_o0_256_S16x128 shapeCasts_S16x128_S16x128 x

/-- Store 36 of the spread reciprocals. -/
theorem recip_B_36 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1893 c i arg1 harg1 arg11 harg11 x0 xs0 : S16x128.Idx → EReal) x = ex (kernelRun0_B.sl.r_4 c i arg1 harg1 arg11 harg11 x0 xs0) ((Rect.unit (s := S16x7168) ![0, 4608] S16x128.size inb_S16x7168_S16x128_0_4608).emb x) :=
  chunk (kernelRun0_B.sl.r_4 c i arg1 harg1 arg11 harg11 x0 xs0) 4608 256 4 inb_S16x7168_S16x128_0_4608 (by decide) slices_S16x512_o0_256_S16x128 shapeCasts_S16x128_S16x128 x

/-- Store 37 of the spread reciprocals. -/
theorem recip_B_37 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1944 c i arg1 harg1 arg11 harg11 x0 xs0 : S16x128.Idx → EReal) x = ex (kernelRun0_B.sl.r_4 c i arg1 harg1 arg11 harg11 x0 xs0) ((Rect.unit (s := S16x7168) ![0, 4736] S16x128.size inb_S16x7168_S16x128_0_4736).emb x) :=
  chunk (kernelRun0_B.sl.r_4 c i arg1 harg1 arg11 harg11 x0 xs0) 4736 256 5 inb_S16x7168_S16x128_0_4736 (by decide) slices_S16x512_o0_256_S16x128 shapeCasts_S16x128_S16x128 x

/-- Store 38 of the spread reciprocals. -/
theorem recip_B_38 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v1995 c i arg1 harg1 arg11 harg11 x0 xs0 : S16x128.Idx → EReal) x = ex (kernelRun0_B.sl.r_4 c i arg1 harg1 arg11 harg11 x0 xs0) ((Rect.unit (s := S16x7168) ![0, 4864] S16x128.size inb_S16x7168_S16x128_0_4864).emb x) :=
  chunk (kernelRun0_B.sl.r_4 c i arg1 harg1 arg11 harg11 x0 xs0) 4864 256 6 inb_S16x7168_S16x128_0_4864 (by decide) slices_S16x512_o0_256_S16x128 shapeCasts_S16x128_S16x128 x

/-- Store 39 of the spread reciprocals. -/
theorem recip_B_39 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2046 c i arg1 harg1 arg11 harg11 x0 xs0 : S16x128.Idx → EReal) x = ex (kernelRun0_B.sl.r_4 c i arg1 harg1 arg11 harg11 x0 xs0) ((Rect.unit (s := S16x7168) ![0, 4992] S16x128.size inb_S16x7168_S16x128_0_4992).emb x) :=
  chunk (kernelRun0_B.sl.r_4 c i arg1 harg1 arg11 harg11 x0 xs0) 4992 256 7 inb_S16x7168_S16x128_0_4992 (by decide) slices_S16x512_o0_256_S16x128 shapeCasts_S16x128_S16x128 x

/-- Store 40 of the spread reciprocals. -/
theorem recip_B_40 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2097 c i arg1 harg1 arg11 harg11 x0 xs0 : S16x128.Idx → EReal) x = ex (kernelRun0_B.sl.r_4 c i arg1 harg1 arg11 harg11 x0 xs0) ((Rect.unit (s := S16x7168) ![0, 5120] S16x128.size inb_S16x7168_S16x128_0_5120).emb x) :=
  chunk (kernelRun0_B.sl.r_4 c i arg1 harg1 arg11 harg11 x0 xs0) 5120 256 8 inb_S16x7168_S16x128_0_5120 (by decide) slices_S16x512_o0_256_S16x128 shapeCasts_S16x128_S16x128 x

/-- Store 41 of the spread reciprocals. -/
theorem recip_B_41 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2148 c i arg1 harg1 arg11 harg11 x0 xs0 : S16x128.Idx → EReal) x = ex (kernelRun0_B.sl.r_4 c i arg1 harg1 arg11 harg11 x0 xs0) ((Rect.unit (s := S16x7168) ![0, 5248] S16x128.size inb_S16x7168_S16x128_0_5248).emb x) :=
  chunk (kernelRun0_B.sl.r_4 c i arg1 harg1 arg11 harg11 x0 xs0) 5248 256 9 inb_S16x7168_S16x128_0_5248 (by decide) slices_S16x512_o0_256_S16x128 shapeCasts_S16x128_S16x128 x

/-- Store 42 of the spread reciprocals. -/
theorem recip_B_42 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2199 c i arg1 harg1 arg11 harg11 x0 xs0 : S16x128.Idx → EReal) x = ex (kernelRun0_B.sl.r_4 c i arg1 harg1 arg11 harg11 x0 xs0) ((Rect.unit (s := S16x7168) ![0, 5376] S16x128.size inb_S16x7168_S16x128_0_5376).emb x) :=
  chunk (kernelRun0_B.sl.r_4 c i arg1 harg1 arg11 harg11 x0 xs0) 5376 256 10 inb_S16x7168_S16x128_0_5376 (by decide) slices_S16x512_o0_256_S16x128 shapeCasts_S16x128_S16x128 x

/-- Store 43 of the spread reciprocals. -/
theorem recip_B_43 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2250 c i arg1 harg1 arg11 harg11 x0 xs0 : S16x128.Idx → EReal) x = ex (kernelRun0_B.sl.r_4 c i arg1 harg1 arg11 harg11 x0 xs0) ((Rect.unit (s := S16x7168) ![0, 5504] S16x128.size inb_S16x7168_S16x128_0_5504).emb x) :=
  chunk (kernelRun0_B.sl.r_4 c i arg1 harg1 arg11 harg11 x0 xs0) 5504 256 11 inb_S16x7168_S16x128_0_5504 (by decide) slices_S16x512_o0_256_S16x128 shapeCasts_S16x128_S16x128 x

/-- Store 44 of the spread reciprocals. -/
theorem recip_B_44 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2301 c i arg1 harg1 arg11 harg11 x0 xs0 : S16x128.Idx → EReal) x = ex (kernelRun0_B.sl.r_4 c i arg1 harg1 arg11 harg11 x0 xs0) ((Rect.unit (s := S16x7168) ![0, 5632] S16x128.size inb_S16x7168_S16x128_0_5632).emb x) :=
  chunk (kernelRun0_B.sl.r_4 c i arg1 harg1 arg11 harg11 x0 xs0) 5632 256 12 inb_S16x7168_S16x128_0_5632 (by decide) slices_S16x512_o0_256_S16x128 shapeCasts_S16x128_S16x128 x

/-- Store 45 of the spread reciprocals. -/
theorem recip_B_45 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2352 c i arg1 harg1 arg11 harg11 x0 xs0 : S16x128.Idx → EReal) x = ex (kernelRun0_B.sl.r_4 c i arg1 harg1 arg11 harg11 x0 xs0) ((Rect.unit (s := S16x7168) ![0, 5760] S16x128.size inb_S16x7168_S16x128_0_5760).emb x) :=
  chunk (kernelRun0_B.sl.r_4 c i arg1 harg1 arg11 harg11 x0 xs0) 5760 256 13 inb_S16x7168_S16x128_0_5760 (by decide) slices_S16x512_o0_256_S16x128 shapeCasts_S16x128_S16x128 x

/-- Store 46 of the spread reciprocals. -/
theorem recip_B_46 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2403 c i arg1 harg1 arg11 harg11 x0 xs0 : S16x128.Idx → EReal) x = ex (kernelRun0_B.sl.r_4 c i arg1 harg1 arg11 harg11 x0 xs0) ((Rect.unit (s := S16x7168) ![0, 5888] S16x128.size inb_S16x7168_S16x128_0_5888).emb x) :=
  chunk (kernelRun0_B.sl.r_4 c i arg1 harg1 arg11 harg11 x0 xs0) 5888 256 14 inb_S16x7168_S16x128_0_5888 (by decide) slices_S16x512_o0_256_S16x128 shapeCasts_S16x128_S16x128 x

/-- Store 47 of the spread reciprocals. -/
theorem recip_B_47 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2454 c i arg1 harg1 arg11 harg11 x0 xs0 : S16x128.Idx → EReal) x = ex (kernelRun0_B.sl.r_4 c i arg1 harg1 arg11 harg11 x0 xs0) ((Rect.unit (s := S16x7168) ![0, 6016] S16x128.size inb_S16x7168_S16x128_0_6016).emb x) :=
  chunk (kernelRun0_B.sl.r_4 c i arg1 harg1 arg11 harg11 x0 xs0) 6016 256 15 inb_S16x7168_S16x128_0_6016 (by decide) slices_S16x512_o0_256_S16x128 shapeCasts_S16x128_S16x128 x

/-- Store 48 of the spread reciprocals. -/
theorem recip_B_48 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2505 c i arg1 harg1 arg11 harg11 x0 xs0 : S16x128.Idx → EReal) x = ex (kernelRun0_B.sl.r_4 c i arg1 harg1 arg11 harg11 x0 xs0) ((Rect.unit (s := S16x7168) ![0, 6144] S16x128.size inb_S16x7168_S16x128_0_6144).emb x) :=
  chunk (kernelRun0_B.sl.r_4 c i arg1 harg1 arg11 harg11 x0 xs0) 6144 384 0 inb_S16x7168_S16x128_0_6144 (by decide) slices_S16x512_o0_384_S16x128 shapeCasts_S16x128_S16x128 x

/-- Store 49 of the spread reciprocals. -/
theorem recip_B_49 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2556 c i arg1 harg1 arg11 harg11 x0 xs0 : S16x128.Idx → EReal) x = ex (kernelRun0_B.sl.r_4 c i arg1 harg1 arg11 harg11 x0 xs0) ((Rect.unit (s := S16x7168) ![0, 6272] S16x128.size inb_S16x7168_S16x128_0_6272).emb x) :=
  chunk (kernelRun0_B.sl.r_4 c i arg1 harg1 arg11 harg11 x0 xs0) 6272 384 1 inb_S16x7168_S16x128_0_6272 (by decide) slices_S16x512_o0_384_S16x128 shapeCasts_S16x128_S16x128 x

/-- Store 50 of the spread reciprocals. -/
theorem recip_B_50 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (kernelRun0_B.sl.v2607 c i arg1 harg1 arg11 harg11 x0 xs0 : S16x128.Idx → EReal) x = ex (kernelRun0_B.sl.r_4 c i arg1 harg1 arg11 harg11 x0 xs0) ((Rect.unit (s := S16x7168) ![0, 6400] S16x128.size inb_S16x7168_S16x128_0_6400).emb x) :=
  chunk (kernelRun0_B.sl.r_4 c i arg1 harg1 arg11 harg11 x0 xs0) 6400 384 2 inb_S16x7168_S16x128_0_6400 (by decide) slices_S16x512_o0_384_S16x128 shapeCasts_S16x128_S16x128 x

/-- Store 51 of the spread reciprocals. -/
theorem recip_B_51 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (k0_pay315 (kernelRun0_B.sl.v2655 c i arg1 harg1 arg11 harg11 x0 xs0) : S16x128.Idx → EReal) x = ex (kernelRun0_B.sl.r_4 c i arg1 harg1 arg11 harg11 x0 xs0) ((Rect.unit (s := S16x7168) ![0, 6528] S16x128.size inb_S16x7168_S16x128_0_6528).emb x) :=
  chunk (kernelRun0_B.sl.r_4 c i arg1 harg1 arg11 harg11 x0 xs0) 6528 384 3 inb_S16x7168_S16x128_0_6528 (by decide) slices_S16x512_o0_384_S16x128 shapeCasts_S16x128_S16x128 x

/-- Store 52 of the spread reciprocals. -/
theorem recip_B_52 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (k0_pay320 k0_pay317 (kernelRun0_B.sl.r_5 c i arg1 harg1 arg11 harg11 x0 xs0) k0_pay319 : S16x128.Idx → EReal) x = ex (kernelRun0_B.sl.r_4 c i arg1 harg1 arg11 harg11 x0 xs0) ((Rect.unit (s := S16x7168) ![0, 6656] S16x128.size inb_S16x7168_S16x128_0_6656).emb x) :=
  chunk (kernelRun0_B.sl.r_4 c i arg1 harg1 arg11 harg11 x0 xs0) 6656 384 4 inb_S16x7168_S16x128_0_6656 (by decide) slices_S16x512_o0_384_S16x128 shapeCasts_S16x128_S16x128 x

/-- Store 53 of the spread reciprocals. -/
theorem recip_B_53 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (k0_pay326 (kernelRun0_B.sl.r_4 c i arg1 harg1 arg11 harg11 x0 xs0) k0_pay322 k0_pay323 k0_pay324 : S16x128.Idx → EReal) x = ex (kernelRun0_B.sl.r_4 c i arg1 harg1 arg11 harg11 x0 xs0) ((Rect.unit (s := S16x7168) ![0, 6784] S16x128.size inb_S16x7168_S16x128_0_6784).emb x) :=
  chunk (kernelRun0_B.sl.r_4 c i arg1 harg1 arg11 harg11 x0 xs0) 6784 384 5 inb_S16x7168_S16x128_0_6784 (by decide) slices_S16x512_o0_384_S16x128 shapeCasts_S16x128_S16x128 x

/-- Store 54 of the spread reciprocals. -/
theorem recip_B_54 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (k0_pay332 (kernelRun0_B.sl.r_4 c i arg1 harg1 arg11 harg11 x0 xs0) kernelRun0_B.sl.v2773 (16#32) k0_pay328 k0_pay329 k0_pay330 : S16x128.Idx → EReal) x = ex (kernelRun0_B.sl.r_4 c i arg1 harg1 arg11 harg11 x0 xs0) ((Rect.unit (s := S16x7168) ![0, 6912] S16x128.size inb_S16x7168_S16x128_0_6912).emb x) :=
  chunk (kernelRun0_B.sl.r_4 c i arg1 harg1 arg11 harg11 x0 xs0) 6912 384 6 inb_S16x7168_S16x128_0_6912 (by decide) slices_S16x512_o0_384_S16x128 shapeCasts_S16x128_S16x128 x

/-- Store 55 of the spread reciprocals. -/
theorem recip_B_55 (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) (x : S16x128.Idx) : (k0_pay338 (kernelRun0_B.sl.r_4 c i arg1 harg1 arg11 harg11 x0 xs0) kernelRun0_B.sl.v2773 (16#32) k0_pay334 k0_pay335 k0_pay336 : S16x128.Idx → EReal) x = ex (kernelRun0_B.sl.r_4 c i arg1 harg1 arg11 harg11 x0 xs0) ((Rect.unit (s := S16x7168) ![0, 7040] S16x128.size inb_S16x7168_S16x128_0_7040).emb x) :=
  chunk (kernelRun0_B.sl.r_4 c i arg1 harg1 arg11 harg11 x0 xs0) 7040 384 7 inb_S16x7168_S16x128_0_7040 (by decide) slices_S16x512_o0_384_S16x128 shapeCasts_S16x128_S16x128 x

set_option maxHeartbeats 0 in
/-- Each store of the spread reciprocals is the chunk of the spread array it covers. -/
theorem recip_pieces_B (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) :
    ∀ p ∈ kernelRun0_B.sl.HS1_56 (F := Ideal) c i arg1 harg1 arg11 harg11 x0 xs0, ∀ x, p.2 x = ex (kernelRun0_B.sl.r_4 c i arg1 harg1 arg11 harg11 x0 xs0) (p.1.emb x) := by
  unfold kernelRun0_B.sl.HS1_56
  simp only [List.forall_mem_cons]
  exact ⟨recip_B_55 c i arg1 harg1 arg11 harg11 x0 xs0, recip_B_54 c i arg1 harg1 arg11 harg11 x0 xs0, recip_B_53 c i arg1 harg1 arg11 harg11 x0 xs0, recip_B_52 c i arg1 harg1 arg11 harg11 x0 xs0, recip_B_51 c i arg1 harg1 arg11 harg11 x0 xs0, recip_B_50 c i arg1 harg1 arg11 harg11 x0 xs0, recip_B_49 c i arg1 harg1 arg11 harg11 x0 xs0, recip_B_48 c i arg1 harg1 arg11 harg11 x0 xs0, recip_B_47 c i arg1 harg1 arg11 harg11 x0 xs0, recip_B_46 c i arg1 harg1 arg11 harg11 x0 xs0, recip_B_45 c i arg1 harg1 arg11 harg11 x0 xs0, recip_B_44 c i arg1 harg1 arg11 harg11 x0 xs0, recip_B_43 c i arg1 harg1 arg11 harg11 x0 xs0, recip_B_42 c i arg1 harg1 arg11 harg11 x0 xs0, recip_B_41 c i arg1 harg1 arg11 harg11 x0 xs0, recip_B_40 c i arg1 harg1 arg11 harg11 x0 xs0, recip_B_39 c i arg1 harg1 arg11 harg11 x0 xs0, recip_B_38 c i arg1 harg1 arg11 harg11 x0 xs0, recip_B_37 c i arg1 harg1 arg11 harg11 x0 xs0, recip_B_36 c i arg1 harg1 arg11 harg11 x0 xs0, recip_B_35 c i arg1 harg1 arg11 harg11 x0 xs0, recip_B_34 c i arg1 harg1 arg11 harg11 x0 xs0, recip_B_33 c i arg1 harg1 arg11 harg11 x0 xs0, recip_B_32 c i arg1 harg1 arg11 harg11 x0 xs0, recip_B_31 c i arg1 harg1 arg11 harg11 x0 xs0, recip_B_30 c i arg1 harg1 arg11 harg11 x0 xs0, recip_B_29 c i arg1 harg1 arg11 harg11 x0 xs0, recip_B_28 c i arg1 harg1 arg11 harg11 x0 xs0, recip_B_27 c i arg1 harg1 arg11 harg11 x0 xs0, recip_B_26 c i arg1 harg1 arg11 harg11 x0 xs0, recip_B_25 c i arg1 harg1 arg11 harg11 x0 xs0, recip_B_24 c i arg1 harg1 arg11 harg11 x0 xs0, recip_B_23 c i arg1 harg1 arg11 harg11 x0 xs0, recip_B_22 c i arg1 harg1 arg11 harg11 x0 xs0, recip_B_21 c i arg1 harg1 arg11 harg11 x0 xs0, recip_B_20 c i arg1 harg1 arg11 harg11 x0 xs0, recip_B_19 c i arg1 harg1 arg11 harg11 x0 xs0, recip_B_18 c i arg1 harg1 arg11 harg11 x0 xs0, recip_B_17 c i arg1 harg1 arg11 harg11 x0 xs0, recip_B_16 c i arg1 harg1 arg11 harg11 x0 xs0, recip_B_15 c i arg1 harg1 arg11 harg11 x0 xs0, recip_B_14 c i arg1 harg1 arg11 harg11 x0 xs0, recip_B_13 c i arg1 harg1 arg11 harg11 x0 xs0, recip_B_12 c i arg1 harg1 arg11 harg11 x0 xs0, recip_B_11 c i arg1 harg1 arg11 harg11 x0 xs0, recip_B_10 c i arg1 harg1 arg11 harg11 x0 xs0, recip_B_9 c i arg1 harg1 arg11 harg11 x0 xs0, recip_B_8 c i arg1 harg1 arg11 harg11 x0 xs0, recip_B_7 c i arg1 harg1 arg11 harg11 x0 xs0, recip_B_6 c i arg1 harg1 arg11 harg11 x0 xs0, recip_B_5 c i arg1 harg1 arg11 harg11 x0 xs0, recip_B_4 c i arg1 harg1 arg11 harg11 x0 xs0, recip_B_3 c i arg1 harg1 arg11 harg11 x0 xs0, recip_B_2 c i arg1 harg1 arg11 harg11 x0 xs0, recip_B_1 c i arg1 harg1 arg11 harg11 x0 xs0, recip_B_0 c i arg1 harg1 arg11 harg11 x0 xs0, fun _ h => absurd h List.not_mem_nil⟩

/-- The spread reciprocals read back. -/
theorem recip_read_B (v : View sig .tc .vmem S16x7168 .f32) (f) (c : Dev nD) (i : grid0.Coords) (arg1 : Memref sig .tc .smem S1x1 .f32) (harg1 : arg1.IsWhole) (arg11 : Memref sig .tc .vmem S1152x512 .f32) (harg11 : arg11.IsWhole) (x0 : Vec Ideal S1x1 .f32) (xs0 : Vec Ideal S1152x512 .f32) :
    v.read (Elt Ideal) (v.writes (Elt Ideal) f (kernelRun0_B.sl.HS1_56 (F := Ideal) c i arg1 harg1 arg11 harg11 x0 xs0)) = ex (kernelRun0_B.sl.r_4 c i arg1 harg1 arg11 harg11 x0 xs0) := by
  have cov := fun y => View.cover_of_tiledL (kernelRun0_B.sl.HS1_56 (F := Ideal) c i arg1 harg1 arg11 harg11 x0 xs0) S16x128.size (by sl_kernel_rfl) y
  rw [View.read_writes_eq_canon _ _ _ cov]
  funext y
  exact View.canon_apply_of_pieces _ _ (recip_pieces_B c i arg1 harg1 arg11 harg11 x0 xs0) y (cov y)

/-- Store 0 of the spread scales. -/
theorem scale_B_0 (c : Dev nD) (i : grid0.Coords) (arg11 : Memref sig .tc .vmem S1152x512 .f32) (harg11 : arg11.IsWhole) (xs0 : Vec Ideal S1152x512 .f32) (x : S16x128.Idx) : (kernelRun0_B.sl.v69 c i arg11 harg11 xs0 : S16x128.Idx → EReal) x = ex (kernelRun0_B.sl.r_3 c i arg11 harg11 xs0) ((Rect.unit (s := S16x7168) ![0, 0] S16x128.size inb_S16x7168_S16x128_0_0).emb x) :=
  chunk (kernelRun0_B.sl.r_3 c i arg11 harg11 xs0) 0 0 0 inb_S16x7168_S16x128_0_0 (by decide) slices_S16x512_o0_0_S16x128 shapeCasts_S16x128_S16x128 x

/-- Store 1 of the spread scales. -/
theorem scale_B_1 (c : Dev nD) (i : grid0.Coords) (arg11 : Memref sig .tc .vmem S1152x512 .f32) (harg11 : arg11.IsWhole) (xs0 : Vec Ideal S1152x512 .f32) (x : S16x128.Idx) : (kernelRun0_B.sl.v120 c i arg11 harg11 xs0 : S16x128.Idx → EReal) x = ex (kernelRun0_B.sl.r_3 c i arg11 harg11 xs0) ((Rect.unit (s := S16x7168) ![0, 128] S16x128.size inb_S16x7168_S16x128_0_128).emb x) :=
  chunk (kernelRun0_B.sl.r_3 c i arg11 harg11 xs0) 128 0 1 inb_S16x7168_S16x128_0_128 (by decide) slices_S16x512_o0_0_S16x128 shapeCasts_S16x128_S16x128 x

/-- Store 2 of the spread scales. -/
theorem scale_B_2 (c : Dev nD) (i : grid0.Coords) (arg11 : Memref sig .tc .vmem S1152x512 .f32) (harg11 : arg11.IsWhole) (xs0 : Vec Ideal S1152x512 .f32) (x : S16x128.Idx) : (kernelRun0_B.sl.v171 c i arg11 harg11 xs0 : S16x128.Idx → EReal) x = ex (kernelRun0_B.sl.r_3 c i arg11 harg11 xs0) ((Rect.unit (s := S16x7168) ![0, 256] S16x128.size inb_S16x7168_S16x128_0_256).emb x) :=
  chunk (kernelRun0_B.sl.r_3 c i arg11 harg11 xs0) 256 0 2 inb_S16x7168_S16x128_0_256 (by decide) slices_S16x512_o0_0_S16x128 shapeCasts_S16x128_S16x128 x

/-- Store 3 of the spread scales. -/
theorem scale_B_3 (c : Dev nD) (i : grid0.Coords) (arg11 : Memref sig .tc .vmem S1152x512 .f32) (harg11 : arg11.IsWhole) (xs0 : Vec Ideal S1152x512 .f32) (x : S16x128.Idx) : (kernelRun0_B.sl.v222 c i arg11 harg11 xs0 : S16x128.Idx → EReal) x = ex (kernelRun0_B.sl.r_3 c i arg11 harg11 xs0) ((Rect.unit (s := S16x7168) ![0, 384] S16x128.size inb_S16x7168_S16x128_0_384).emb x) :=
  chunk (kernelRun0_B.sl.r_3 c i arg11 harg11 xs0) 384 0 3 inb_S16x7168_S16x128_0_384 (by decide) slices_S16x512_o0_0_S16x128 shapeCasts_S16x128_S16x128 x

/-- Store 4 of the spread scales. -/
theorem scale_B_4 (c : Dev nD) (i : grid0.Coords) (arg11 : Memref sig .tc .vmem S1152x512 .f32) (harg11 : arg11.IsWhole) (xs0 : Vec Ideal S1152x512 .f32) (x : S16x128.Idx) : (kernelRun0_B.sl.v273 c i arg11 harg11 xs0 : S16x128.Idx → EReal) x = ex (kernelRun0_B.sl.r_3 c i arg11 harg11 xs0) ((Rect.unit (s := S16x7168) ![0, 512] S16x128.size inb_S16x7168_S16x128_0_512).emb x) :=
  chunk (kernelRun0_B.sl.r_3 c i arg11 harg11 xs0) 512 0 4 inb_S16x7168_S16x128_0_512 (by decide) slices_S16x512_o0_0_S16x128 shapeCasts_S16x128_S16x128 x

/-- Store 5 of the spread scales. -/
theorem scale_B_5 (c : Dev nD) (i : grid0.Coords) (arg11 : Memref sig .tc .vmem S1152x512 .f32) (harg11 : arg11.IsWhole) (xs0 : Vec Ideal S1152x512 .f32) (x : S16x128.Idx) : (kernelRun0_B.sl.v324 c i arg11 harg11 xs0 : S16x128.Idx → EReal) x = ex (kernelRun0_B.sl.r_3 c i arg11 harg11 xs0) ((Rect.unit (s := S16x7168) ![0, 640] S16x128.size inb_S16x7168_S16x128_0_640).emb x) :=
  chunk (kernelRun0_B.sl.r_3 c i arg11 harg11 xs0) 640 0 5 inb_S16x7168_S16x128_0_640 (by decide) slices_S16x512_o0_0_S16x128 shapeCasts_S16x128_S16x128 x

/-- Store 6 of the spread scales. -/
theorem scale_B_6 (c : Dev nD) (i : grid0.Coords) (arg11 : Memref sig .tc .vmem S1152x512 .f32) (harg11 : arg11.IsWhole) (xs0 : Vec Ideal S1152x512 .f32) (x : S16x128.Idx) : (kernelRun0_B.sl.v375 c i arg11 harg11 xs0 : S16x128.Idx → EReal) x = ex (kernelRun0_B.sl.r_3 c i arg11 harg11 xs0) ((Rect.unit (s := S16x7168) ![0, 768] S16x128.size inb_S16x7168_S16x128_0_768).emb x) :=
  chunk (kernelRun0_B.sl.r_3 c i arg11 harg11 xs0) 768 0 6 inb_S16x7168_S16x128_0_768 (by decide) slices_S16x512_o0_0_S16x128 shapeCasts_S16x128_S16x128 x

/-- Store 7 of the spread scales. -/
theorem scale_B_7 (c : Dev nD) (i : grid0.Coords) (arg11 : Memref sig .tc .vmem S1152x512 .f32) (harg11 : arg11.IsWhole) (xs0 : Vec Ideal S1152x512 .f32) (x : S16x128.Idx) : (kernelRun0_B.sl.v426 c i arg11 harg11 xs0 : S16x128.Idx → EReal) x = ex (kernelRun0_B.sl.r_3 c i arg11 harg11 xs0) ((Rect.unit (s := S16x7168) ![0, 896] S16x128.size inb_S16x7168_S16x128_0_896).emb x) :=
  chunk (kernelRun0_B.sl.r_3 c i arg11 harg11 xs0) 896 0 7 inb_S16x7168_S16x128_0_896 (by decide) slices_S16x512_o0_0_S16x128 shapeCasts_S16x128_S16x128 x

/-- Store 8 of the spread scales. -/
theorem scale_B_8 (c : Dev nD) (i : grid0.Coords) (arg11 : Memref sig .tc .vmem S1152x512 .f32) (harg11 : arg11.IsWhole) (xs0 : Vec Ideal S1152x512 .f32) (x : S16x128.Idx) : (kernelRun0_B.sl.v477 c i arg11 harg11 xs0 : S16x128.Idx → EReal) x = ex (kernelRun0_B.sl.r_3 c i arg11 harg11 xs0) ((Rect.unit (s := S16x7168) ![0, 1024] S16x128.size inb_S16x7168_S16x128_0_1024).emb x) :=
  chunk (kernelRun0_B.sl.r_3 c i arg11 harg11 xs0) 1024 0 8 inb_S16x7168_S16x128_0_1024 (by decide) slices_S16x512_o0_0_S16x128 shapeCasts_S16x128_S16x128 x

/-- Store 9 of the spread scales. -/
theorem scale_B_9 (c : Dev nD) (i : grid0.Coords) (arg11 : Memref sig .tc .vmem S1152x512 .f32) (harg11 : arg11.IsWhole) (xs0 : Vec Ideal S1152x512 .f32) (x : S16x128.Idx) : (kernelRun0_B.sl.v528 c i arg11 harg11 xs0 : S16x128.Idx → EReal) x = ex (kernelRun0_B.sl.r_3 c i arg11 harg11 xs0) ((Rect.unit (s := S16x7168) ![0, 1152] S16x128.size inb_S16x7168_S16x128_0_1152).emb x) :=
  chunk (kernelRun0_B.sl.r_3 c i arg11 harg11 xs0) 1152 0 9 inb_S16x7168_S16x128_0_1152 (by decide) slices_S16x512_o0_0_S16x128 shapeCasts_S16x128_S16x128 x

/-- Store 10 of the spread scales. -/
theorem scale_B_10 (c : Dev nD) (i : grid0.Coords) (arg11 : Memref sig .tc .vmem S1152x512 .f32) (harg11 : arg11.IsWhole) (xs0 : Vec Ideal S1152x512 .f32) (x : S16x128.Idx) : (kernelRun0_B.sl.v579 c i arg11 harg11 xs0 : S16x128.Idx → EReal) x = ex (kernelRun0_B.sl.r_3 c i arg11 harg11 xs0) ((Rect.unit (s := S16x7168) ![0, 1280] S16x128.size inb_S16x7168_S16x128_0_1280).emb x) :=
  chunk (kernelRun0_B.sl.r_3 c i arg11 harg11 xs0) 1280 0 10 inb_S16x7168_S16x128_0_1280 (by decide) slices_S16x512_o0_0_S16x128 shapeCasts_S16x128_S16x128 x

/-- Store 11 of the spread scales. -/
theorem scale_B_11 (c : Dev nD) (i : grid0.Coords) (arg11 : Memref sig .tc .vmem S1152x512 .f32) (harg11 : arg11.IsWhole) (xs0 : Vec Ideal S1152x512 .f32) (x : S16x128.Idx) : (kernelRun0_B.sl.v630 c i arg11 harg11 xs0 : S16x128.Idx → EReal) x = ex (kernelRun0_B.sl.r_3 c i arg11 harg11 xs0) ((Rect.unit (s := S16x7168) ![0, 1408] S16x128.size inb_S16x7168_S16x128_0_1408).emb x) :=
  chunk (kernelRun0_B.sl.r_3 c i arg11 harg11 xs0) 1408 0 11 inb_S16x7168_S16x128_0_1408 (by decide) slices_S16x512_o0_0_S16x128 shapeCasts_S16x128_S16x128 x

/-- Store 12 of the spread scales. -/
theorem scale_B_12 (c : Dev nD) (i : grid0.Coords) (arg11 : Memref sig .tc .vmem S1152x512 .f32) (harg11 : arg11.IsWhole) (xs0 : Vec Ideal S1152x512 .f32) (x : S16x128.Idx) : (kernelRun0_B.sl.v681 c i arg11 harg11 xs0 : S16x128.Idx → EReal) x = ex (kernelRun0_B.sl.r_3 c i arg11 harg11 xs0) ((Rect.unit (s := S16x7168) ![0, 1536] S16x128.size inb_S16x7168_S16x128_0_1536).emb x) :=
  chunk (kernelRun0_B.sl.r_3 c i arg11 harg11 xs0) 1536 0 12 inb_S16x7168_S16x128_0_1536 (by decide) slices_S16x512_o0_0_S16x128 shapeCasts_S16x128_S16x128 x

/-- Store 13 of the spread scales. -/
theorem scale_B_13 (c : Dev nD) (i : grid0.Coords) (arg11 : Memref sig .tc .vmem S1152x512 .f32) (harg11 : arg11.IsWhole) (xs0 : Vec Ideal S1152x512 .f32) (x : S16x128.Idx) : (kernelRun0_B.sl.v732 c i arg11 harg11 xs0 : S16x128.Idx → EReal) x = ex (kernelRun0_B.sl.r_3 c i arg11 harg11 xs0) ((Rect.unit (s := S16x7168) ![0, 1664] S16x128.size inb_S16x7168_S16x128_0_1664).emb x) :=
  chunk (kernelRun0_B.sl.r_3 c i arg11 harg11 xs0) 1664 0 13 inb_S16x7168_S16x128_0_1664 (by decide) slices_S16x512_o0_0_S16x128 shapeCasts_S16x128_S16x128 x

/-- Store 14 of the spread scales. -/
theorem scale_B_14 (c : Dev nD) (i : grid0.Coords) (arg11 : Memref sig .tc .vmem S1152x512 .f32) (harg11 : arg11.IsWhole) (xs0 : Vec Ideal S1152x512 .f32) (x : S16x128.Idx) : (kernelRun0_B.sl.v783 c i arg11 harg11 xs0 : S16x128.Idx → EReal) x = ex (kernelRun0_B.sl.r_3 c i arg11 harg11 xs0) ((Rect.unit (s := S16x7168) ![0, 1792] S16x128.size inb_S16x7168_S16x128_0_1792).emb x) :=
  chunk (kernelRun0_B.sl.r_3 c i arg11 harg11 xs0) 1792 0 14 inb_S16x7168_S16x128_0_1792 (by decide) slices_S16x512_o0_0_S16x128 shapeCasts_S16x128_S16x128 x

/-- Store 15 of the spread scales. -/
theorem scale_B_15 (c : Dev nD) (i : grid0.Coords) (arg11 : Memref sig .tc .vmem S1152x512 .f32) (harg11 : arg11.IsWhole) (xs0 : Vec Ideal S1152x512 .f32) (x : S16x128.Idx) : (kernelRun0_B.sl.v834 c i arg11 harg11 xs0 : S16x128.Idx → EReal) x = ex (kernelRun0_B.sl.r_3 c i arg11 harg11 xs0) ((Rect.unit (s := S16x7168) ![0, 1920] S16x128.size inb_S16x7168_S16x128_0_1920).emb x) :=
  chunk (kernelRun0_B.sl.r_3 c i arg11 harg11 xs0) 1920 0 15 inb_S16x7168_S16x128_0_1920 (by decide) slices_S16x512_o0_0_S16x128 shapeCasts_S16x128_S16x128 x

/-- Store 16 of the spread scales. -/
theorem scale_B_16 (c : Dev nD) (i : grid0.Coords) (arg11 : Memref sig .tc .vmem S1152x512 .f32) (harg11 : arg11.IsWhole) (xs0 : Vec Ideal S1152x512 .f32) (x : S16x128.Idx) : (kernelRun0_B.sl.v885 c i arg11 harg11 xs0 : S16x128.Idx → EReal) x = ex (kernelRun0_B.sl.r_3 c i arg11 harg11 xs0) ((Rect.unit (s := S16x7168) ![0, 2048] S16x128.size inb_S16x7168_S16x128_0_2048).emb x) :=
  chunk (kernelRun0_B.sl.r_3 c i arg11 harg11 xs0) 2048 128 0 inb_S16x7168_S16x128_0_2048 (by decide) slices_S16x512_o0_128_S16x128 shapeCasts_S16x128_S16x128 x

/-- Store 17 of the spread scales. -/
theorem scale_B_17 (c : Dev nD) (i : grid0.Coords) (arg11 : Memref sig .tc .vmem S1152x512 .f32) (harg11 : arg11.IsWhole) (xs0 : Vec Ideal S1152x512 .f32) (x : S16x128.Idx) : (kernelRun0_B.sl.v936 c i arg11 harg11 xs0 : S16x128.Idx → EReal) x = ex (kernelRun0_B.sl.r_3 c i arg11 harg11 xs0) ((Rect.unit (s := S16x7168) ![0, 2176] S16x128.size inb_S16x7168_S16x128_0_2176).emb x) :=
  chunk (kernelRun0_B.sl.r_3 c i arg11 harg11 xs0) 2176 128 1 inb_S16x7168_S16x128_0_2176 (by decide) slices_S16x512_o0_128_S16x128 shapeCasts_S16x128_S16x128 x

/-- Store 18 of the spread scales. -/
theorem scale_B_18 (c : Dev nD) (i : grid0.Coords) (arg11 : Memref sig .tc .vmem S1152x512 .f32) (harg11 : arg11.IsWhole) (xs0 : Vec Ideal S1152x512 .f32) (x : S16x128.Idx) : (kernelRun0_B.sl.v987 c i arg11 harg11 xs0 : S16x128.Idx → EReal) x = ex (kernelRun0_B.sl.r_3 c i arg11 harg11 xs0) ((Rect.unit (s := S16x7168) ![0, 2304] S16x128.size inb_S16x7168_S16x128_0_2304).emb x) :=
  chunk (kernelRun0_B.sl.r_3 c i arg11 harg11 xs0) 2304 128 2 inb_S16x7168_S16x128_0_2304 (by decide) slices_S16x512_o0_128_S16x128 shapeCasts_S16x128_S16x128 x

/-- Store 19 of the spread scales. -/
theorem scale_B_19 (c : Dev nD) (i : grid0.Coords) (arg11 : Memref sig .tc .vmem S1152x512 .f32) (harg11 : arg11.IsWhole) (xs0 : Vec Ideal S1152x512 .f32) (x : S16x128.Idx) : (kernelRun0_B.sl.v1038 c i arg11 harg11 xs0 : S16x128.Idx → EReal) x = ex (kernelRun0_B.sl.r_3 c i arg11 harg11 xs0) ((Rect.unit (s := S16x7168) ![0, 2432] S16x128.size inb_S16x7168_S16x128_0_2432).emb x) :=
  chunk (kernelRun0_B.sl.r_3 c i arg11 harg11 xs0) 2432 128 3 inb_S16x7168_S16x128_0_2432 (by decide) slices_S16x512_o0_128_S16x128 shapeCasts_S16x128_S16x128 x

/-- Store 20 of the spread scales. -/
theorem scale_B_20 (c : Dev nD) (i : grid0.Coords) (arg11 : Memref sig .tc .vmem S1152x512 .f32) (harg11 : arg11.IsWhole) (xs0 : Vec Ideal S1152x512 .f32) (x : S16x128.Idx) : (kernelRun0_B.sl.v1089 c i arg11 harg11 xs0 : S16x128.Idx → EReal) x = ex (kernelRun0_B.sl.r_3 c i arg11 harg11 xs0) ((Rect.unit (s := S16x7168) ![0, 2560] S16x128.size inb_S16x7168_S16x128_0_2560).emb x) :=
  chunk (kernelRun0_B.sl.r_3 c i arg11 harg11 xs0) 2560 128 4 inb_S16x7168_S16x128_0_2560 (by decide) slices_S16x512_o0_128_S16x128 shapeCasts_S16x128_S16x128 x

/-- Store 21 of the spread scales. -/
theorem scale_B_21 (c : Dev nD) (i : grid0.Coords) (arg11 : Memref sig .tc .vmem S1152x512 .f32) (harg11 : arg11.IsWhole) (xs0 : Vec Ideal S1152x512 .f32) (x : S16x128.Idx) : (kernelRun0_B.sl.v1140 c i arg11 harg11 xs0 : S16x128.Idx → EReal) x = ex (kernelRun0_B.sl.r_3 c i arg11 harg11 xs0) ((Rect.unit (s := S16x7168) ![0, 2688] S16x128.size inb_S16x7168_S16x128_0_2688).emb x) :=
  chunk (kernelRun0_B.sl.r_3 c i arg11 harg11 xs0) 2688 128 5 inb_S16x7168_S16x128_0_2688 (by decide) slices_S16x512_o0_128_S16x128 shapeCasts_S16x128_S16x128 x

/-- Store 22 of the spread scales. -/
theorem scale_B_22 (c : Dev nD) (i : grid0.Coords) (arg11 : Memref sig .tc .vmem S1152x512 .f32) (harg11 : arg11.IsWhole) (xs0 : Vec Ideal S1152x512 .f32) (x : S16x128.Idx) : (kernelRun0_B.sl.v1191 c i arg11 harg11 xs0 : S16x128.Idx → EReal) x = ex (kernelRun0_B.sl.r_3 c i arg11 harg11 xs0) ((Rect.unit (s := S16x7168) ![0, 2816] S16x128.size inb_S16x7168_S16x128_0_2816).emb x) :=
  chunk (kernelRun0_B.sl.r_3 c i arg11 harg11 xs0) 2816 128 6 inb_S16x7168_S16x128_0_2816 (by decide) slices_S16x512_o0_128_S16x128 shapeCasts_S16x128_S16x128 x

/-- Store 23 of the spread scales. -/
theorem scale_B_23 (c : Dev nD) (i : grid0.Coords) (arg11 : Memref sig .tc .vmem S1152x512 .f32) (harg11 : arg11.IsWhole) (xs0 : Vec Ideal S1152x512 .f32) (x : S16x128.Idx) : (kernelRun0_B.sl.v1242 c i arg11 harg11 xs0 : S16x128.Idx → EReal) x = ex (kernelRun0_B.sl.r_3 c i arg11 harg11 xs0) ((Rect.unit (s := S16x7168) ![0, 2944] S16x128.size inb_S16x7168_S16x128_0_2944).emb x) :=
  chunk (kernelRun0_B.sl.r_3 c i arg11 harg11 xs0) 2944 128 7 inb_S16x7168_S16x128_0_2944 (by decide) slices_S16x512_o0_128_S16x128 shapeCasts_S16x128_S16x128 x

/-- Store 24 of the spread scales. -/
theorem scale_B_24 (c : Dev nD) (i : grid0.Coords) (arg11 : Memref sig .tc .vmem S1152x512 .f32) (harg11 : arg11.IsWhole) (xs0 : Vec Ideal S1152x512 .f32) (x : S16x128.Idx) : (kernelRun0_B.sl.v1293 c i arg11 harg11 xs0 : S16x128.Idx → EReal) x = ex (kernelRun0_B.sl.r_3 c i arg11 harg11 xs0) ((Rect.unit (s := S16x7168) ![0, 3072] S16x128.size inb_S16x7168_S16x128_0_3072).emb x) :=
  chunk (kernelRun0_B.sl.r_3 c i arg11 harg11 xs0) 3072 128 8 inb_S16x7168_S16x128_0_3072 (by decide) slices_S16x512_o0_128_S16x128 shapeCasts_S16x128_S16x128 x

/-- Store 25 of the spread scales. -/
theorem scale_B_25 (c : Dev nD) (i : grid0.Coords) (arg11 : Memref sig .tc .vmem S1152x512 .f32) (harg11 : arg11.IsWhole) (xs0 : Vec Ideal S1152x512 .f32) (x : S16x128.Idx) : (kernelRun0_B.sl.v1344 c i arg11 harg11 xs0 : S16x128.Idx → EReal) x = ex (kernelRun0_B.sl.r_3 c i arg11 harg11 xs0) ((Rect.unit (s := S16x7168) ![0, 3200] S16x128.size inb_S16x7168_S16x128_0_3200).emb x) :=
  chunk (kernelRun0_B.sl.r_3 c i arg11 harg11 xs0) 3200 128 9 inb_S16x7168_S16x128_0_3200 (by decide) slices_S16x512_o0_128_S16x128 shapeCasts_S16x128_S16x128 x

/-- Store 26 of the spread scales. -/
theorem scale_B_26 (c : Dev nD) (i : grid0.Coords) (arg11 : Memref sig .tc .vmem S1152x512 .f32) (harg11 : arg11.IsWhole) (xs0 : Vec Ideal S1152x512 .f32) (x : S16x128.Idx) : (kernelRun0_B.sl.v1395 c i arg11 harg11 xs0 : S16x128.Idx → EReal) x = ex (kernelRun0_B.sl.r_3 c i arg11 harg11 xs0) ((Rect.unit (s := S16x7168) ![0, 3328] S16x128.size inb_S16x7168_S16x128_0_3328).emb x) :=
  chunk (kernelRun0_B.sl.r_3 c i arg11 harg11 xs0) 3328 128 10 inb_S16x7168_S16x128_0_3328 (by decide) slices_S16x512_o0_128_S16x128 shapeCasts_S16x128_S16x128 x

/-- Store 27 of the spread scales. -/
theorem scale_B_27 (c : Dev nD) (i : grid0.Coords) (arg11 : Memref sig .tc .vmem S1152x512 .f32) (harg11 : arg11.IsWhole) (xs0 : Vec Ideal S1152x512 .f32) (x : S16x128.Idx) : (kernelRun0_B.sl.v1446 c i arg11 harg11 xs0 : S16x128.Idx → EReal) x = ex (kernelRun0_B.sl.r_3 c i arg11 harg11 xs0) ((Rect.unit (s := S16x7168) ![0, 3456] S16x128.size inb_S16x7168_S16x128_0_3456).emb x) :=
  chunk (kernelRun0_B.sl.r_3 c i arg11 harg11 xs0) 3456 128 11 inb_S16x7168_S16x128_0_3456 (by decide) slices_S16x512_o0_128_S16x128 shapeCasts_S16x128_S16x128 x

/-- Store 28 of the spread scales. -/
theorem scale_B_28 (c : Dev nD) (i : grid0.Coords) (arg11 : Memref sig .tc .vmem S1152x512 .f32) (harg11 : arg11.IsWhole) (xs0 : Vec Ideal S1152x512 .f32) (x : S16x128.Idx) : (kernelRun0_B.sl.v1497 c i arg11 harg11 xs0 : S16x128.Idx → EReal) x = ex (kernelRun0_B.sl.r_3 c i arg11 harg11 xs0) ((Rect.unit (s := S16x7168) ![0, 3584] S16x128.size inb_S16x7168_S16x128_0_3584).emb x) :=
  chunk (kernelRun0_B.sl.r_3 c i arg11 harg11 xs0) 3584 128 12 inb_S16x7168_S16x128_0_3584 (by decide) slices_S16x512_o0_128_S16x128 shapeCasts_S16x128_S16x128 x

/-- Store 29 of the spread scales. -/
theorem scale_B_29 (c : Dev nD) (i : grid0.Coords) (arg11 : Memref sig .tc .vmem S1152x512 .f32) (harg11 : arg11.IsWhole) (xs0 : Vec Ideal S1152x512 .f32) (x : S16x128.Idx) : (kernelRun0_B.sl.v1548 c i arg11 harg11 xs0 : S16x128.Idx → EReal) x = ex (kernelRun0_B.sl.r_3 c i arg11 harg11 xs0) ((Rect.unit (s := S16x7168) ![0, 3712] S16x128.size inb_S16x7168_S16x128_0_3712).emb x) :=
  chunk (kernelRun0_B.sl.r_3 c i arg11 harg11 xs0) 3712 128 13 inb_S16x7168_S16x128_0_3712 (by decide) slices_S16x512_o0_128_S16x128 shapeCasts_S16x128_S16x128 x

/-- Store 30 of the spread scales. -/
theorem scale_B_30 (c : Dev nD) (i : grid0.Coords) (arg11 : Memref sig .tc .vmem S1152x512 .f32) (harg11 : arg11.IsWhole) (xs0 : Vec Ideal S1152x512 .f32) (x : S16x128.Idx) : (kernelRun0_B.sl.v1599 c i arg11 harg11 xs0 : S16x128.Idx → EReal) x = ex (kernelRun0_B.sl.r_3 c i arg11 harg11 xs0) ((Rect.unit (s := S16x7168) ![0, 3840] S16x128.size inb_S16x7168_S16x128_0_3840).emb x) :=
  chunk (kernelRun0_B.sl.r_3 c i arg11 harg11 xs0) 3840 128 14 inb_S16x7168_S16x128_0_3840 (by decide) slices_S16x512_o0_128_S16x128 shapeCasts_S16x128_S16x128 x

/-- Store 31 of the spread scales. -/
theorem scale_B_31 (c : Dev nD) (i : grid0.Coords) (arg11 : Memref sig .tc .vmem S1152x512 .f32) (harg11 : arg11.IsWhole) (xs0 : Vec Ideal S1152x512 .f32) (x : S16x128.Idx) : (kernelRun0_B.sl.v1650 c i arg11 harg11 xs0 : S16x128.Idx → EReal) x = ex (kernelRun0_B.sl.r_3 c i arg11 harg11 xs0) ((Rect.unit (s := S16x7168) ![0, 3968] S16x128.size inb_S16x7168_S16x128_0_3968).emb x) :=
  chunk (kernelRun0_B.sl.r_3 c i arg11 harg11 xs0) 3968 128 15 inb_S16x7168_S16x128_0_3968 (by decide) slices_S16x512_o0_128_S16x128 shapeCasts_S16x128_S16x128 x

/-- Store 32 of the spread scales. -/
theorem scale_B_32 (c : Dev nD) (i : grid0.Coords) (arg11 : Memref sig .tc .vmem S1152x512 .f32) (harg11 : arg11.IsWhole) (xs0 : Vec Ideal S1152x512 .f32) (x : S16x128.Idx) : (kernelRun0_B.sl.v1701 c i arg11 harg11 xs0 : S16x128.Idx → EReal) x = ex (kernelRun0_B.sl.r_3 c i arg11 harg11 xs0) ((Rect.unit (s := S16x7168) ![0, 4096] S16x128.size inb_S16x7168_S16x128_0_4096).emb x) :=
  chunk (kernelRun0_B.sl.r_3 c i arg11 harg11 xs0) 4096 256 0 inb_S16x7168_S16x128_0_4096 (by decide) slices_S16x512_o0_256_S16x128 shapeCasts_S16x128_S16x128 x

/-- Store 33 of the spread scales. -/
theorem scale_B_33 (c : Dev nD) (i : grid0.Coords) (arg11 : Memref sig .tc .vmem S1152x512 .f32) (harg11 : arg11.IsWhole) (xs0 : Vec Ideal S1152x512 .f32) (x : S16x128.Idx) : (kernelRun0_B.sl.v1752 c i arg11 harg11 xs0 : S16x128.Idx → EReal) x = ex (kernelRun0_B.sl.r_3 c i arg11 harg11 xs0) ((Rect.unit (s := S16x7168) ![0, 4224] S16x128.size inb_S16x7168_S16x128_0_4224).emb x) :=
  chunk (kernelRun0_B.sl.r_3 c i arg11 harg11 xs0) 4224 256 1 inb_S16x7168_S16x128_0_4224 (by decide) slices_S16x512_o0_256_S16x128 shapeCasts_S16x128_S16x128 x

/-- Store 34 of the spread scales. -/
theorem scale_B_34 (c : Dev nD) (i : grid0.Coords) (arg11 : Memref sig .tc .vmem S1152x512 .f32) (harg11 : arg11.IsWhole) (xs0 : Vec Ideal S1152x512 .f32) (x : S16x128.Idx) : (kernelRun0_B.sl.v1803 c i arg11 harg11 xs0 : S16x128.Idx → EReal) x = ex (kernelRun0_B.sl.r_3 c i arg11 harg11 xs0) ((Rect.unit (s := S16x7168) ![0, 4352] S16x128.size inb_S16x7168_S16x128_0_4352).emb x) :=
  chunk (kernelRun0_B.sl.r_3 c i arg11 harg11 xs0) 4352 256 2 inb_S16x7168_S16x128_0_4352 (by decide) slices_S16x512_o0_256_S16x128 shapeCasts_S16x128_S16x128 x

/-- Store 35 of the spread scales. -/
theorem scale_B_35 (c : Dev nD) (i : grid0.Coords) (arg11 : Memref sig .tc .vmem S1152x512 .f32) (harg11 : arg11.IsWhole) (xs0 : Vec Ideal S1152x512 .f32) (x : S16x128.Idx) : (kernelRun0_B.sl.v1854 c i arg11 harg11 xs0 : S16x128.Idx → EReal) x = ex (kernelRun0_B.sl.r_3 c i arg11 harg11 xs0) ((Rect.unit (s := S16x7168) ![0, 4480] S16x128.size inb_S16x7168_S16x128_0_4480).emb x) :=
  chunk (kernelRun0_B.sl.r_3 c i arg11 harg11 xs0) 4480 256 3 inb_S16x7168_S16x128_0_4480 (by decide) slices_S16x512_o0_256_S16x128 shapeCasts_S16x128_S16x128 x

/-- Store 36 of the spread scales. -/
theorem scale_B_36 (c : Dev nD) (i : grid0.Coords) (arg11 : Memref sig .tc .vmem S1152x512 .f32) (harg11 : arg11.IsWhole) (xs0 : Vec Ideal S1152x512 .f32) (x : S16x128.Idx) : (kernelRun0_B.sl.v1905 c i arg11 harg11 xs0 : S16x128.Idx → EReal) x = ex (kernelRun0_B.sl.r_3 c i arg11 harg11 xs0) ((Rect.unit (s := S16x7168) ![0, 4608] S16x128.size inb_S16x7168_S16x128_0_4608).emb x) :=
  chunk (kernelRun0_B.sl.r_3 c i arg11 harg11 xs0) 4608 256 4 inb_S16x7168_S16x128_0_4608 (by decide) slices_S16x512_o0_256_S16x128 shapeCasts_S16x128_S16x128 x

/-- Store 37 of the spread scales. -/
theorem scale_B_37 (c : Dev nD) (i : grid0.Coords) (arg11 : Memref sig .tc .vmem S1152x512 .f32) (harg11 : arg11.IsWhole) (xs0 : Vec Ideal S1152x512 .f32) (x : S16x128.Idx) : (kernelRun0_B.sl.v1956 c i arg11 harg11 xs0 : S16x128.Idx → EReal) x = ex (kernelRun0_B.sl.r_3 c i arg11 harg11 xs0) ((Rect.unit (s := S16x7168) ![0, 4736] S16x128.size inb_S16x7168_S16x128_0_4736).emb x) :=
  chunk (kernelRun0_B.sl.r_3 c i arg11 harg11 xs0) 4736 256 5 inb_S16x7168_S16x128_0_4736 (by decide) slices_S16x512_o0_256_S16x128 shapeCasts_S16x128_S16x128 x

/-- Store 38 of the spread scales. -/
theorem scale_B_38 (c : Dev nD) (i : grid0.Coords) (arg11 : Memref sig .tc .vmem S1152x512 .f32) (harg11 : arg11.IsWhole) (xs0 : Vec Ideal S1152x512 .f32) (x : S16x128.Idx) : (kernelRun0_B.sl.v2007 c i arg11 harg11 xs0 : S16x128.Idx → EReal) x = ex (kernelRun0_B.sl.r_3 c i arg11 harg11 xs0) ((Rect.unit (s := S16x7168) ![0, 4864] S16x128.size inb_S16x7168_S16x128_0_4864).emb x) :=
  chunk (kernelRun0_B.sl.r_3 c i arg11 harg11 xs0) 4864 256 6 inb_S16x7168_S16x128_0_4864 (by decide) slices_S16x512_o0_256_S16x128 shapeCasts_S16x128_S16x128 x

/-- Store 39 of the spread scales. -/
theorem scale_B_39 (c : Dev nD) (i : grid0.Coords) (arg11 : Memref sig .tc .vmem S1152x512 .f32) (harg11 : arg11.IsWhole) (xs0 : Vec Ideal S1152x512 .f32) (x : S16x128.Idx) : (kernelRun0_B.sl.v2058 c i arg11 harg11 xs0 : S16x128.Idx → EReal) x = ex (kernelRun0_B.sl.r_3 c i arg11 harg11 xs0) ((Rect.unit (s := S16x7168) ![0, 4992] S16x128.size inb_S16x7168_S16x128_0_4992).emb x) :=
  chunk (kernelRun0_B.sl.r_3 c i arg11 harg11 xs0) 4992 256 7 inb_S16x7168_S16x128_0_4992 (by decide) slices_S16x512_o0_256_S16x128 shapeCasts_S16x128_S16x128 x

/-- Store 40 of the spread scales. -/
theorem scale_B_40 (c : Dev nD) (i : grid0.Coords) (arg11 : Memref sig .tc .vmem S1152x512 .f32) (harg11 : arg11.IsWhole) (xs0 : Vec Ideal S1152x512 .f32) (x : S16x128.Idx) : (kernelRun0_B.sl.v2109 c i arg11 harg11 xs0 : S16x128.Idx → EReal) x = ex (kernelRun0_B.sl.r_3 c i arg11 harg11 xs0) ((Rect.unit (s := S16x7168) ![0, 5120] S16x128.size inb_S16x7168_S16x128_0_5120).emb x) :=
  chunk (kernelRun0_B.sl.r_3 c i arg11 harg11 xs0) 5120 256 8 inb_S16x7168_S16x128_0_5120 (by decide) slices_S16x512_o0_256_S16x128 shapeCasts_S16x128_S16x128 x

/-- Store 41 of the spread scales. -/
theorem scale_B_41 (c : Dev nD) (i : grid0.Coords) (arg11 : Memref sig .tc .vmem S1152x512 .f32) (harg11 : arg11.IsWhole) (xs0 : Vec Ideal S1152x512 .f32) (x : S16x128.Idx) : (kernelRun0_B.sl.v2160 c i arg11 harg11 xs0 : S16x128.Idx → EReal) x = ex (kernelRun0_B.sl.r_3 c i arg11 harg11 xs0) ((Rect.unit (s := S16x7168) ![0, 5248] S16x128.size inb_S16x7168_S16x128_0_5248).emb x) :=
  chunk (kernelRun0_B.sl.r_3 c i arg11 harg11 xs0) 5248 256 9 inb_S16x7168_S16x128_0_5248 (by decide) slices_S16x512_o0_256_S16x128 shapeCasts_S16x128_S16x128 x

/-- Store 42 of the spread scales. -/
theorem scale_B_42 (c : Dev nD) (i : grid0.Coords) (arg11 : Memref sig .tc .vmem S1152x512 .f32) (harg11 : arg11.IsWhole) (xs0 : Vec Ideal S1152x512 .f32) (x : S16x128.Idx) : (kernelRun0_B.sl.v2211 c i arg11 harg11 xs0 : S16x128.Idx → EReal) x = ex (kernelRun0_B.sl.r_3 c i arg11 harg11 xs0) ((Rect.unit (s := S16x7168) ![0, 5376] S16x128.size inb_S16x7168_S16x128_0_5376).emb x) :=
  chunk (kernelRun0_B.sl.r_3 c i arg11 harg11 xs0) 5376 256 10 inb_S16x7168_S16x128_0_5376 (by decide) slices_S16x512_o0_256_S16x128 shapeCasts_S16x128_S16x128 x

/-- Store 43 of the spread scales. -/
theorem scale_B_43 (c : Dev nD) (i : grid0.Coords) (arg11 : Memref sig .tc .vmem S1152x512 .f32) (harg11 : arg11.IsWhole) (xs0 : Vec Ideal S1152x512 .f32) (x : S16x128.Idx) : (kernelRun0_B.sl.v2262 c i arg11 harg11 xs0 : S16x128.Idx → EReal) x = ex (kernelRun0_B.sl.r_3 c i arg11 harg11 xs0) ((Rect.unit (s := S16x7168) ![0, 5504] S16x128.size inb_S16x7168_S16x128_0_5504).emb x) :=
  chunk (kernelRun0_B.sl.r_3 c i arg11 harg11 xs0) 5504 256 11 inb_S16x7168_S16x128_0_5504 (by decide) slices_S16x512_o0_256_S16x128 shapeCasts_S16x128_S16x128 x

/-- Store 44 of the spread scales. -/
theorem scale_B_44 (c : Dev nD) (i : grid0.Coords) (arg11 : Memref sig .tc .vmem S1152x512 .f32) (harg11 : arg11.IsWhole) (xs0 : Vec Ideal S1152x512 .f32) (x : S16x128.Idx) : (kernelRun0_B.sl.v2313 c i arg11 harg11 xs0 : S16x128.Idx → EReal) x = ex (kernelRun0_B.sl.r_3 c i arg11 harg11 xs0) ((Rect.unit (s := S16x7168) ![0, 5632] S16x128.size inb_S16x7168_S16x128_0_5632).emb x) :=
  chunk (kernelRun0_B.sl.r_3 c i arg11 harg11 xs0) 5632 256 12 inb_S16x7168_S16x128_0_5632 (by decide) slices_S16x512_o0_256_S16x128 shapeCasts_S16x128_S16x128 x

/-- Store 45 of the spread scales. -/
theorem scale_B_45 (c : Dev nD) (i : grid0.Coords) (arg11 : Memref sig .tc .vmem S1152x512 .f32) (harg11 : arg11.IsWhole) (xs0 : Vec Ideal S1152x512 .f32) (x : S16x128.Idx) : (kernelRun0_B.sl.v2364 c i arg11 harg11 xs0 : S16x128.Idx → EReal) x = ex (kernelRun0_B.sl.r_3 c i arg11 harg11 xs0) ((Rect.unit (s := S16x7168) ![0, 5760] S16x128.size inb_S16x7168_S16x128_0_5760).emb x) :=
  chunk (kernelRun0_B.sl.r_3 c i arg11 harg11 xs0) 5760 256 13 inb_S16x7168_S16x128_0_5760 (by decide) slices_S16x512_o0_256_S16x128 shapeCasts_S16x128_S16x128 x

/-- Store 46 of the spread scales. -/
theorem scale_B_46 (c : Dev nD) (i : grid0.Coords) (arg11 : Memref sig .tc .vmem S1152x512 .f32) (harg11 : arg11.IsWhole) (xs0 : Vec Ideal S1152x512 .f32) (x : S16x128.Idx) : (kernelRun0_B.sl.v2415 c i arg11 harg11 xs0 : S16x128.Idx → EReal) x = ex (kernelRun0_B.sl.r_3 c i arg11 harg11 xs0) ((Rect.unit (s := S16x7168) ![0, 5888] S16x128.size inb_S16x7168_S16x128_0_5888).emb x) :=
  chunk (kernelRun0_B.sl.r_3 c i arg11 harg11 xs0) 5888 256 14 inb_S16x7168_S16x128_0_5888 (by decide) slices_S16x512_o0_256_S16x128 shapeCasts_S16x128_S16x128 x

/-- Store 47 of the spread scales. -/
theorem scale_B_47 (c : Dev nD) (i : grid0.Coords) (arg11 : Memref sig .tc .vmem S1152x512 .f32) (harg11 : arg11.IsWhole) (xs0 : Vec Ideal S1152x512 .f32) (x : S16x128.Idx) : (kernelRun0_B.sl.v2466 c i arg11 harg11 xs0 : S16x128.Idx → EReal) x = ex (kernelRun0_B.sl.r_3 c i arg11 harg11 xs0) ((Rect.unit (s := S16x7168) ![0, 6016] S16x128.size inb_S16x7168_S16x128_0_6016).emb x) :=
  chunk (kernelRun0_B.sl.r_3 c i arg11 harg11 xs0) 6016 256 15 inb_S16x7168_S16x128_0_6016 (by decide) slices_S16x512_o0_256_S16x128 shapeCasts_S16x128_S16x128 x

/-- Store 48 of the spread scales. -/
theorem scale_B_48 (c : Dev nD) (i : grid0.Coords) (arg11 : Memref sig .tc .vmem S1152x512 .f32) (harg11 : arg11.IsWhole) (xs0 : Vec Ideal S1152x512 .f32) (x : S16x128.Idx) : (kernelRun0_B.sl.v2517 c i arg11 harg11 xs0 : S16x128.Idx → EReal) x = ex (kernelRun0_B.sl.r_3 c i arg11 harg11 xs0) ((Rect.unit (s := S16x7168) ![0, 6144] S16x128.size inb_S16x7168_S16x128_0_6144).emb x) :=
  chunk (kernelRun0_B.sl.r_3 c i arg11 harg11 xs0) 6144 384 0 inb_S16x7168_S16x128_0_6144 (by decide) slices_S16x512_o0_384_S16x128 shapeCasts_S16x128_S16x128 x

/-- Store 49 of the spread scales. -/
theorem scale_B_49 (c : Dev nD) (i : grid0.Coords) (arg11 : Memref sig .tc .vmem S1152x512 .f32) (harg11 : arg11.IsWhole) (xs0 : Vec Ideal S1152x512 .f32) (x : S16x128.Idx) : (kernelRun0_B.sl.v2568 c i arg11 harg11 xs0 : S16x128.Idx → EReal) x = ex (kernelRun0_B.sl.r_3 c i arg11 harg11 xs0) ((Rect.unit (s := S16x7168) ![0, 6272] S16x128.size inb_S16x7168_S16x128_0_6272).emb x) :=
  chunk (kernelRun0_B.sl.r_3 c i arg11 harg11 xs0) 6272 384 1 inb_S16x7168_S16x128_0_6272 (by decide) slices_S16x512_o0_384_S16x128 shapeCasts_S16x128_S16x128 x

/-- Store 50 of the spread scales. -/
theorem scale_B_50 (c : Dev nD) (i : grid0.Coords) (arg11 : Memref sig .tc .vmem S1152x512 .f32) (harg11 : arg11.IsWhole) (xs0 : Vec Ideal S1152x512 .f32) (x : S16x128.Idx) : (kernelRun0_B.sl.v2619 c i arg11 harg11 xs0 : S16x128.Idx → EReal) x = ex (kernelRun0_B.sl.r_3 c i arg11 harg11 xs0) ((Rect.unit (s := S16x7168) ![0, 6400] S16x128.size inb_S16x7168_S16x128_0_6400).emb x) :=
  chunk (kernelRun0_B.sl.r_3 c i arg11 harg11 xs0) 6400 384 2 inb_S16x7168_S16x128_0_6400 (by decide) slices_S16x512_o0_384_S16x128 shapeCasts_S16x128_S16x128 x

/-- Store 51 of the spread scales. -/
theorem scale_B_51 (c : Dev nD) (i : grid0.Coords) (arg11 : Memref sig .tc .vmem S1152x512 .f32) (harg11 : arg11.IsWhole) (xs0 : Vec Ideal S1152x512 .f32) (x : S16x128.Idx) : (k0_pay316 (kernelRun0_B.sl.r_3 c i arg11 harg11 xs0) (addi kernelRun0_B.sl.v197 kernelRun0_B.sl.v94) : S16x128.Idx → EReal) x = ex (kernelRun0_B.sl.r_3 c i arg11 harg11 xs0) ((Rect.unit (s := S16x7168) ![0, 6528] S16x128.size inb_S16x7168_S16x128_0_6528).emb x) :=
  chunk (kernelRun0_B.sl.r_3 c i arg11 harg11 xs0) 6528 384 3 inb_S16x7168_S16x128_0_6528 (by decide) slices_S16x512_o0_384_S16x128 shapeCasts_S16x128_S16x128 x

/-- Store 52 of the spread scales. -/
theorem scale_B_52 (c : Dev nD) (i : grid0.Coords) (arg11 : Memref sig .tc .vmem S1152x512 .f32) (harg11 : arg11.IsWhole) (xs0 : Vec Ideal S1152x512 .f32) (x : S16x128.Idx) : (k0_pay321 (kernelRun0_B.sl.r_3 c i arg11 harg11 xs0) k0_pay317 : S16x128.Idx → EReal) x = ex (kernelRun0_B.sl.r_3 c i arg11 harg11 xs0) ((Rect.unit (s := S16x7168) ![0, 6656] S16x128.size inb_S16x7168_S16x128_0_6656).emb x) :=
  chunk (kernelRun0_B.sl.r_3 c i arg11 harg11 xs0) 6656 384 4 inb_S16x7168_S16x128_0_6656 (by decide) slices_S16x512_o0_384_S16x128 shapeCasts_S16x128_S16x128 x

/-- Store 53 of the spread scales. -/
theorem scale_B_53 (c : Dev nD) (i : grid0.Coords) (arg11 : Memref sig .tc .vmem S1152x512 .f32) (harg11 : arg11.IsWhole) (xs0 : Vec Ideal S1152x512 .f32) (x : S16x128.Idx) : (k0_pay327 (kernelRun0_B.sl.r_3 c i arg11 harg11 xs0) k0_pay322 k0_pay323 k0_pay324 : S16x128.Idx → EReal) x = ex (kernelRun0_B.sl.r_3 c i arg11 harg11 xs0) ((Rect.unit (s := S16x7168) ![0, 6784] S16x128.size inb_S16x7168_S16x128_0_6784).emb x) :=
  chunk (kernelRun0_B.sl.r_3 c i arg11 harg11 xs0) 6784 384 5 inb_S16x7168_S16x128_0_6784 (by decide) slices_S16x512_o0_384_S16x128 shapeCasts_S16x128_S16x128 x

/-- Store 54 of the spread scales. -/
theorem scale_B_54 (c : Dev nD) (i : grid0.Coords) (arg11 : Memref sig .tc .vmem S1152x512 .f32) (harg11 : arg11.IsWhole) (xs0 : Vec Ideal S1152x512 .f32) (x : S16x128.Idx) : (k0_pay333 (kernelRun0_B.sl.r_3 c i arg11 harg11 xs0) kernelRun0_B.sl.v2773 (16#32) k0_pay328 k0_pay329 k0_pay330 : S16x128.Idx → EReal) x = ex (kernelRun0_B.sl.r_3 c i arg11 harg11 xs0) ((Rect.unit (s := S16x7168) ![0, 6912] S16x128.size inb_S16x7168_S16x128_0_6912).emb x) :=
  chunk (kernelRun0_B.sl.r_3 c i arg11 harg11 xs0) 6912 384 6 inb_S16x7168_S16x128_0_6912 (by decide) slices_S16x512_o0_384_S16x128 shapeCasts_S16x128_S16x128 x

/-- Store 55 of the spread scales. -/
theorem scale_B_55 (c : Dev nD) (i : grid0.Coords) (arg11 : Memref sig .tc .vmem S1152x512 .f32) (harg11 : arg11.IsWhole) (xs0 : Vec Ideal S1152x512 .f32) (x : S16x128.Idx) : (k0_pay339 (kernelRun0_B.sl.r_3 c i arg11 harg11 xs0) kernelRun0_B.sl.v2773 (16#32) k0_pay334 k0_pay335 k0_pay336 : S16x128.Idx → EReal) x = ex (kernelRun0_B.sl.r_3 c i arg11 harg11 xs0) ((Rect.unit (s := S16x7168) ![0, 7040] S16x128.size inb_S16x7168_S16x128_0_7040).emb x) :=
  chunk (kernelRun0_B.sl.r_3 c i arg11 harg11 xs0) 7040 384 7 inb_S16x7168_S16x128_0_7040 (by decide) slices_S16x512_o0_384_S16x128 shapeCasts_S16x128_S16x128 x

set_option maxHeartbeats 0 in
/-- Each store of the spread scales is the chunk of the spread array it covers. -/
theorem scale_pieces_B (c : Dev nD) (i : grid0.Coords) (arg11 : Memref sig .tc .vmem S1152x512 .f32) (harg11 : arg11.IsWhole) (xs0 : Vec Ideal S1152x512 .f32) :
    ∀ p ∈ kernelRun0_B.sl.HS2_56 (F := Ideal) c i arg11 harg11 xs0, ∀ x, p.2 x = ex (kernelRun0_B.sl.r_3 c i arg11 harg11 xs0) (p.1.emb x) := by
  unfold kernelRun0_B.sl.HS2_56
  simp only [List.forall_mem_cons]
  exact ⟨scale_B_55 c i arg11 harg11 xs0, scale_B_54 c i arg11 harg11 xs0, scale_B_53 c i arg11 harg11 xs0, scale_B_52 c i arg11 harg11 xs0, scale_B_51 c i arg11 harg11 xs0, scale_B_50 c i arg11 harg11 xs0, scale_B_49 c i arg11 harg11 xs0, scale_B_48 c i arg11 harg11 xs0, scale_B_47 c i arg11 harg11 xs0, scale_B_46 c i arg11 harg11 xs0, scale_B_45 c i arg11 harg11 xs0, scale_B_44 c i arg11 harg11 xs0, scale_B_43 c i arg11 harg11 xs0, scale_B_42 c i arg11 harg11 xs0, scale_B_41 c i arg11 harg11 xs0, scale_B_40 c i arg11 harg11 xs0, scale_B_39 c i arg11 harg11 xs0, scale_B_38 c i arg11 harg11 xs0, scale_B_37 c i arg11 harg11 xs0, scale_B_36 c i arg11 harg11 xs0, scale_B_35 c i arg11 harg11 xs0, scale_B_34 c i arg11 harg11 xs0, scale_B_33 c i arg11 harg11 xs0, scale_B_32 c i arg11 harg11 xs0, scale_B_31 c i arg11 harg11 xs0, scale_B_30 c i arg11 harg11 xs0, scale_B_29 c i arg11 harg11 xs0, scale_B_28 c i arg11 harg11 xs0, scale_B_27 c i arg11 harg11 xs0, scale_B_26 c i arg11 harg11 xs0, scale_B_25 c i arg11 harg11 xs0, scale_B_24 c i arg11 harg11 xs0, scale_B_23 c i arg11 harg11 xs0, scale_B_22 c i arg11 harg11 xs0, scale_B_21 c i arg11 harg11 xs0, scale_B_20 c i arg11 harg11 xs0, scale_B_19 c i arg11 harg11 xs0, scale_B_18 c i arg11 harg11 xs0, scale_B_17 c i arg11 harg11 xs0, scale_B_16 c i arg11 harg11 xs0, scale_B_15 c i arg11 harg11 xs0, scale_B_14 c i arg11 harg11 xs0, scale_B_13 c i arg11 harg11 xs0, scale_B_12 c i arg11 harg11 xs0, scale_B_11 c i arg11 harg11 xs0, scale_B_10 c i arg11 harg11 xs0, scale_B_9 c i arg11 harg11 xs0, scale_B_8 c i arg11 harg11 xs0, scale_B_7 c i arg11 harg11 xs0, scale_B_6 c i arg11 harg11 xs0, scale_B_5 c i arg11 harg11 xs0, scale_B_4 c i arg11 harg11 xs0, scale_B_3 c i arg11 harg11 xs0, scale_B_2 c i arg11 harg11 xs0, scale_B_1 c i arg11 harg11 xs0, scale_B_0 c i arg11 harg11 xs0, fun _ h => absurd h List.not_mem_nil⟩

/-- The spread scales read back. -/
theorem scale_read_B (v : View sig .tc .vmem S16x7168 .f32) (f) (c : Dev nD) (i : grid0.Coords) (arg11 : Memref sig .tc .vmem S1152x512 .f32) (harg11 : arg11.IsWhole) (xs0 : Vec Ideal S1152x512 .f32) :
    v.read (Elt Ideal) (v.writes (Elt Ideal) f (kernelRun0_B.sl.HS2_56 (F := Ideal) c i arg11 harg11 xs0)) = ex (kernelRun0_B.sl.r_3 c i arg11 harg11 xs0) := by
  have cov := fun y => View.cover_of_tiledL (kernelRun0_B.sl.HS2_56 (F := Ideal) c i arg11 harg11 xs0) S16x128.size (by sl_kernel_rfl) y
  rw [View.read_writes_eq_canon _ _ _ cov]
  funext y
  exact View.canon_apply_of_pieces _ _ (scale_pieces_B c i arg11 harg11 xs0) y (cov y)

end Cert.Weight
end
-- ==== Proof.OutB.lean ====
/- What the ideal kernel's body leaves in its outputs, case B, read at an index. -/
module

public import proofs.«01_k».proof.Proof.OutC
public import proofs.«01_k».proof.Proof.ExpandB
public import proofs.«01_k».proof.Proof.Ideal.Frame

@[expose] public section

set_option maxRecDepth 16384

noncomputable section

namespace Cert.Weight
open Idealize.ShloMosaic Idealize.ShloMosaic.TcCoe Idealize.SL.Sem Idealize.ShloMosaic.Tactic
open Cert.KernelIdeal Cert.KernelIdeal.Gen

section Outs
variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S256x7168 .bf16) (harg3 : arg3.IsWhole) (arg4 : Memref sig .tc .vmem S1152x512 .f32) (harg4 : arg4.IsWhole) (arg5 : Memref sig .tc .vmem S128x7168 .bf16) (harg5 : arg5.IsWhole) (arg6 : Memref sig .tc .vmem S128x256 .bf16) (harg6 : arg6.IsWhole) (arg7 : Memref sig .tc .vmem S256x3584 .i8) (harg7 : arg7.IsWhole) (arg8 : Memref sig .tc .vmem S7168x128 .i8) (harg8 : arg8.IsWhole) (arg9 : Memref sig .tc .vmem S1152x448 .fp8e4m3) (harg9 : arg9.IsWhole) (arg10 : Memref sig .tc .smem S1x1 .f32) (harg10 : arg10.IsWhole) (arg11 : Memref sig .tc .vmem S1152x512 .f32) (harg11 : arg11.IsWhole) (arg12 : Memref sig .tc .vmem S16x7168 .f32) (harg12 : arg12.IsWhole) (arg13 : Memref sig .tc .vmem S16x7168 .f32) (harg13 : arg13.IsWhole) (arg14 : Memref sig .tc .vmem S128x256 .f32) (harg14 : arg14.IsWhole)  (hc0 : ¬cond0_0 i) (x0 : Vec Ideal S1x1 .f32) (x1 : Vec Ideal S1x1 .f32) (x2 : Vec Ideal S256x7168 .bf16) (x3 : Vec Ideal S1152x512 .f32) (x4 : Vec Ideal S128x7168 .bf16) (xo8 : Vec Ideal S1152x448 .fp8e4m3) (xo9 : Vec Ideal S1x1 .f32) (xs0 : Vec Ideal S1152x512 .f32)

theorem g_B : kernelRun0_B.sl.r (F := Ideal) c arg1 harg1 x0 = (x0 (ix2 (0 : Fin 1) (0 : Fin 1))) := by
  unfold kernelRun0_B.sl.r
  rw [scal, harg1.read_unread]

theorem b_B : kernelRun0_B.sl.r_6 (F := Ideal) c arg2 harg2 x1 = x1 (ix2 (0 : Fin 1) (0 : Fin 1)) := by
  unfold kernelRun0_B.sl.r_6
  exact (scal arg2.view (harg2.unread x1) _ _).trans (by rw [harg2.read_unread])

theorem sl_B : kernelRun0_B.sl.r_3 (F := Ideal) c i arg11 harg11 xs0 = sl16 i xs0 := by
  unfold kernelRun0_B.sl.r_3
  rw [sl16_read i arg11.view _ _ _ (k0_off1_eq i), harg11.read_unread]

theorem rc_B : kernelRun0_B.sl.r_4 (F := Ideal) c i arg1 harg1 arg11 harg11 x0 xs0 = k0_pay54 (F := Ideal) (x0 (ix2 (0 : Fin 1) (0 : Fin 1))) (sl16 i xs0) := by
  unfold kernelRun0_B.sl.r_4
  rw [g_B c arg1 harg1 x0, sl16_read i arg11.view _ _ _ (k0_off1_eq i), harg11.read_unread]

theorem z_B : kernelRun0_B.sl.r_1 (F := Ideal) c arg1 harg1 x0 = k0_pay49 (F := Ideal) (x0 (ix2 (0 : Fin 1) (0 : Fin 1))) := by
  unfold kernelRun0_B.sl.r_1
  rw [g_B c arg1 harg1 x0]

theorem s_B : kernelRun0_B.sl.r_2 (F := Ideal) c arg1 harg1 x0 = k0_pay50 (F := Ideal) (x0 (ix2 (0 : Fin 1) (0 : Fin 1))) := by
  unfold kernelRun0_B.sl.r_2
  rw [g_B c arg1 harg1 x0]

/-- The first code output. -/
theorem out6_B (a : Fin 256) (j : Fin 3584) : out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0 (ix2 a j)
    = pack (cd x2 (ex (k0_pay54 (F := Ideal) (x0 (ix2 (0 : Fin 1) (0 : Fin 1))) (sl16 i xs0))) (k0_pay49 (F := Ideal) (x0 (ix2 (0 : Fin 1) (0 : Fin 1)))) a ⟨2 * j.val, by omega⟩) (cd x2 (ex (k0_pay54 (F := Ideal) (x0 (ix2 (0 : Fin 1) (0 : Fin 1))) (sl16 i xs0))) (k0_pay49 (F := Ideal) (x0 (ix2 (0 : Fin 1) (0 : Fin 1)))) a ⟨2 * j.val + 1, by omega⟩) := by
  refine (fold7 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.r_1 (F := Ideal) c arg1 harg1 x0) (harg3.unread x2) (harg5.unread x4)
    (arg12.view.writes (Elt Ideal) arg12.view.junk (kernelRun0_B.sl.HS1_56 (F := Ideal) c i arg1 harg1 arg11 harg11 x0 xs0)) (arg13.view.writes (Elt Ideal) arg13.view.junk (kernelRun0_B.sl.HS2_56 (F := Ideal) c i arg11 harg11 xs0))
    arg7.view.junk arg8.view.junk (arg14.view.writes (Elt Ideal) arg14.view.junk (kernelRun0_B.sl.HS3_1 (F := Ideal)))
    VO0_6 VO0_6.junk k0_t1_loop.trips trips14.le a j (by rw [trips14]; omega)).trans ?_
  rw [recip_read_B, harg3.read_unread, rc_B c i arg1 harg1 arg11 harg11 x0 xs0, z_B c arg1 harg1 x0]

/-- The second code output. -/
theorem out7_B (m : Fin 7168) (b : Fin 128) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0 (ix2 m b)
    = pack (cd x2 (ex (k0_pay54 (F := Ideal) (x0 (ix2 (0 : Fin 1) (0 : Fin 1))) (sl16 i xs0))) (k0_pay49 (F := Ideal) (x0 (ix2 (0 : Fin 1) (0 : Fin 1)))) ⟨2 * b.val, by omega⟩ m) (cd x2 (ex (k0_pay54 (F := Ideal) (x0 (ix2 (0 : Fin 1) (0 : Fin 1))) (sl16 i xs0))) (k0_pay49 (F := Ideal) (x0 (ix2 (0 : Fin 1) (0 : Fin 1)))) ⟨2 * b.val + 1, by omega⟩ m) := by
  refine (fold8 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.r_1 (F := Ideal) c arg1 harg1 x0) (harg3.unread x2) (harg5.unread x4)
    (arg12.view.writes (Elt Ideal) arg12.view.junk (kernelRun0_B.sl.HS1_56 (F := Ideal) c i arg1 harg1 arg11 harg11 x0 xs0)) (arg13.view.writes (Elt Ideal) arg13.view.junk (kernelRun0_B.sl.HS2_56 (F := Ideal) c i arg11 harg11 xs0))
    arg7.view.junk arg8.view.junk (arg14.view.writes (Elt Ideal) arg14.view.junk (kernelRun0_B.sl.HS3_1 (F := Ideal)))
    VO0_7 VO0_7.junk k0_t1_loop.trips trips14.le m b (by rw [trips14]; omega)).trans ?_
  rw [recip_read_B, harg3.read_unread, rc_B c i arg1 harg1 arg11 harg11 x0 xs0, z_B c arg1 harg1 x0]

/-- The product output. -/
theorem out5_B (r : Fin 128) (a : Fin 256) : out0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 xo8 xo9 xs0 (ix2 r a)
    = (∑ k ∈ Finset.range 14, blk x4 (dq x2 (ex (k0_pay54 (F := Ideal) (x0 (ix2 (0 : Fin 1) (0 : Fin 1))) (sl16 i xs0))) (ex (sl16 i xs0)) (k0_pay49 (F := Ideal) (x0 (ix2 (0 : Fin 1) (0 : Fin 1))))) r a k) * (k0_pay50 (F := Ideal) (x0 (ix2 (0 : Fin 1) (0 : Fin 1))) * x1 (ix2 (0 : Fin 1) (0 : Fin 1))) := by
  have h := fold14 Variants.none c none i arg1 harg1 arg2 harg2 arg3 harg3 arg4 harg4 arg5 harg5 arg6 harg6 arg7 harg7 arg8 harg8 arg9 harg9 arg10 harg10 arg11 harg11 arg12 harg12 arg13 harg13 arg14 harg14 (kernelRun0_B.sl.r_1 (F := Ideal) c arg1 harg1 x0) (harg3.unread x2) (harg5.unread x4)
    (arg12.view.writes (Elt Ideal) arg12.view.junk (kernelRun0_B.sl.HS1_56 (F := Ideal) c i arg1 harg1 arg11 harg11 x0 xs0)) (arg13.view.writes (Elt Ideal) arg13.view.junk (kernelRun0_B.sl.HS2_56 (F := Ideal) c i arg11 harg11 xs0))
    arg7.view.junk arg8.view.junk (arg14.view.writes (Elt Ideal) arg14.view.junk (kernelRun0_B.sl.HS3_1 (F := Ideal)))
    k0_t1_loop.trips trips14.le r a
  have e0 : arg14.view.read (Elt Ideal) (arg14.view.writes (Elt Ideal) arg14.view.junk (kernelRun0_B.sl.HS3_1 (F := Ideal))) (ix2 r a) = (0 : EReal) := by
    unfold kernelRun0_B.sl.HS3_1
    refine (congrFun (View.read_writes_full arg14.view _ inb_S128x256_S128x256_0_0 _ []) (ix2 r a)).trans ?_
    unfold k0_pay1 k0_pay340
    rw [shapeCast_self]
    exact Ideal.ofBits_zero .f32
  rw [e0, zero_add, ← View.writes_append] at h
  have h3 := ((congrFun (View.readAt_full arg14.view _ inb_S128x256_S128x256_0_0) (ix2 r a)).trans h).trans (b := _)
    (c := ∑ k ∈ Finset.range 14, blk x4 (dq x2 (ex (k0_pay54 (F := Ideal) (x0 (ix2 (0 : Fin 1) (0 : Fin 1))) (sl16 i xs0))) (ex (sl16 i xs0)) (k0_pay49 (F := Ideal) (x0 (ix2 (0 : Fin 1) (0 : Fin 1))))) r a k) (by
    rw [recip_read_B, scale_read_B, harg3.read_unread, harg5.read_unread, rc_B c i arg1 harg1 arg11 harg11 x0 xs0, sl_B c i arg11 harg11 xs0, z_B c arg1 harg1 x0, trips14])
  rw [← h3, ← s_B c arg1 harg1 x0, ← b_B c arg2 harg2 x1]
  exact congrFun (View.read_writes_full (Val := Elt Ideal) VO0_5 VO0_5.junk inb_S128x256_S128x256_0_0 _ []) (ix2 r a)

end Outs
end Cert.Weight
end
-- ==== Proof.KerArr.lean ====
/- What the ideal kernel's result arrays hold at the end of its run. -/
module

public import proofs.«01_k».proof.Proof.KerPay
public import proofs.«01_k».proof.Proof.OutA
public import proofs.«01_k».proof.Proof.OutB
public import proofs.«01_k».proof.Proof.Ideal.Value
public import Idealize.ShloMosaic.Lib.Pipeline.ValueKit

@[expose] public section

set_option maxRecDepth 16384

noncomputable section

namespace Cert.Weight
open Idealize.ShloMosaic Idealize.ShloMosaic.TcCoe Idealize.SL.Sem
open Cert.KernelIdeal Cert.KernelIdeal.Gen
open Idealize.ShloMosaic.Pipeline (Dat)

section Arr
variable (m : (ℓ : Loc nD τ sig) → Buf (Elt Ideal) ℓ) (c : Dev nD)

/-- The largest magnitude of the weights, the kernel's first argument. -/
def kG : EReal := (m ((c : Thread nD τ).loc main_arg0) : S1x1.Idx → EReal) (ix2 (0 : Fin 1) (0 : Fin 1))
/-- The scale of the activations, the second argument. -/
def kS : EReal := (m ((c : Thread nD τ).loc main_arg1) : S1x1.Idx → EReal) (ix2 (0 : Fin 1) (0 : Fin 1))
/-- The weights, the third argument. -/
def kW : S18432x7168.Idx → EReal := m ((c : Thread nD τ).loc main_arg2)
/-- The blocks' largest magnitudes, the fourth argument. -/
def kA : S1152x512.Idx → EReal := m ((c : Thread nD τ).loc main_arg3)
/-- The activations, the fifth argument. -/
def kX : S128x7168.Idx → EReal := m ((c : Thread nD τ).loc main_arg4)

/-- Where each window's block stands. -/
theorem kidx : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = t.val)
    ∧ (win0_6.index t (0 : Fin 2) = t.val ∧ win0_6.index t (1 : Fin 2) = 0) ∧ (win0_7.index t (0 : Fin 2) = 0 ∧ win0_7.index t (1 : Fin 2) = t.val) :=
  (by decide +kernel : ∀ t : Fin grid0.N, _)

/-- There are 72 grid points. -/
theorem klt (t : Fin cfg0.N) : t.val < 72 := lt_of_lt_of_eq t.isLt (show cfg0.N = 72 from N_0)

/-- A grid point's coordinate is its number. -/
theorem kcoord (t : Fin cfg0.N) : (grid0.coords t 0).val = t.val := by
  have h : (grid0.coords t 0).val = t.val / 1 % 72 := Pipeline.Grid.coords_val t 0 (by decide) rfl
  have h2 := klt t
  omega

theorem kb0 (t : Fin cfg0.N) : (iblk m c 0 t : S1x1.Idx → EReal) (ix2 (0 : Fin 1) (0 : Fin 1)) = kG m c := by
  show V m c main_arg0 (((cfg0.win 0).blk t).view.emb _) = _
  exact congrArg (m ((c : Thread nD τ).loc main_arg0) : S1x1.Idx → EReal) ((one_idx _).trans rfl)

theorem kb1 (t : Fin cfg0.N) : (iblk m c 1 t : S1x1.Idx → EReal) (ix2 (0 : Fin 1) (0 : Fin 1)) = kS m c := by
  show V m c main_arg1 (((cfg0.win 1).blk t).view.emb _) = _
  exact congrArg (m ((c : Thread nD τ).loc main_arg1) : S1x1.Idx → EReal) ((one_idx _).trans rfl)

theorem kb2 (t : Fin cfg0.N) (a : Fin 256) (n : Fin 7168) : (iblk m c 2 t : S256x7168.Idx → EReal) (ix2 a n)
    = kW m c (ix2 (⟨256 * t.val + a.val, by have := klt t; omega⟩ : Fin 18432) n) := by
  obtain ⟨_, _, ⟨e0, e1⟩, _⟩ := kidx t
  show V m c main_arg2 (((cfg0.win 2).blk t).view.emb _) = _
  refine congrArg (m ((c : Thread nD τ).loc main_arg2) : S18432x7168.Idx → EReal) (funext fun b => Fin.ext ?_)
  match b with
  | ⟨0, _⟩ => show win0_2.index t (0 : Fin 2) * 256 + 1 * a.val = 256 * t.val + a.val; omega
  | ⟨1, _⟩ => show win0_2.index t (1 : Fin 2) * 7168 + 1 * n.val = n.val; omega

theorem kb3 (t : Fin cfg0.N) : (iblk m c 3 t : S1152x512.Idx → EReal) = kA m c := by
  obtain ⟨_, _, _, ⟨e0, e1⟩, _⟩ := kidx t
  funext y
  show V m c main_arg3 (((cfg0.win 3).blk t).view.emb y) = _
  refine congrArg (m ((c : Thread nD τ).loc main_arg3) : S1152x512.Idx → EReal) (funext fun b => Fin.ext ?_)
  match b with
  | ⟨0, _⟩ => show win0_3.index t (0 : Fin 2) * 1152 + 1 * (y 0).val = (y 0).val; omega
  | ⟨1, _⟩ => show win0_3.index t (1 : Fin 2) * 512 + 1 * (y 1).val = (y 1).val; omega

theorem kb4 (t : Fin cfg0.N) : (iblk m c 4 t : S128x7168.Idx → EReal) = kX m c := by
  obtain ⟨_, _, _, _, ⟨e0, e1⟩, _⟩ := kidx t
  funext y
  show V m c main_arg4 (((cfg0.win 4).blk t).view.emb y) = _
  refine congrArg (m ((c : Thread nD τ).loc main_arg4) : S128x7168.Idx → EReal) (funext fun b => Fin.ext ?_)
  match b with
  | ⟨0, _⟩ => show win0_4.index t (0 : Fin 2) * 128 + 1 * (y 0).val = (y 0).val; omega
  | ⟨1, _⟩ => show win0_4.index t (1 : Fin 2) * 7168 + 1 * (y 1).val = (y 1).val; omega

/-- The two scale outputs and the scratch hold the same contents after every point. -/
theorem kept (n : ℕ) (hn : n < cfg0.N) : (outsAt0 m c n hn).2.2.2.2.2 = k0_pay53 (F := Ideal) (kG m c) (kA m c)
    ∧ (outsAt0 m c n hn).2.2.2.1 = k0_pay52 (F := Ideal) (kG m c) (kA m c) ∧ (outsAt0 m c n hn).2.2.2.2.1 = fun _ => k0_pay50 (F := Ideal) (kG m c) := by
  induction n with
  | zero =>
    have h := outsAt0_A m c ⟨0, hn⟩ (Nat.zero_mod _)
    dsimp only at h
    rw [h]
    dsimp only
    rw [souts_A, out8_A, out9_A, kb0, kb3]
    exact ⟨rfl, rfl, rfl⟩
  | succ n ih =>
    have h72 : n + 1 < 72 := klt ⟨n + 1, hn⟩
    have h := outsAt0_B m c ⟨n + 1, hn⟩ (by dsimp only; omega)
    dsimp only at h
    rw [h]
    exact ih (Nat.lt_of_succ_lt hn)

/-- The column codes after a point. -/
theorem kout6 (hg : 0 ≤ kG m c) (t : Fin cfg0.N) (a : Fin 256) (j : Fin 3584) : (outsAt0 m c t.val t.isLt).2.1 (ix2 a j)
    = pack (cs (kG m c) (kA m c) (kW m c) ⟨256 * t.val + a.val, by have := klt t; omega⟩ ⟨2 * j.val, by omega⟩)
        (cs (kG m c) (kA m c) (kW m c) ⟨256 * t.val + a.val, by have := klt t; omega⟩ ⟨2 * j.val + 1, by omega⟩) := by
  have hc := kcoord t
  by_cases h0 : t.val % 72 = 0
  · rw [outsAt0_A m c t h0]
    dsimp only
    rw [out6_A, kb0, kb3]
    exact congrArg₂ pack (cd_eq _ hg _ _ _ _ _ _ _ (by dsimp only; rw [hc]) (kb2 m c t _ _)) (cd_eq _ hg _ _ _ _ _ _ _ (by dsimp only; rw [hc]) (kb2 m c t _ _))
  · rw [outsAt0_B m c t h0]
    dsimp only
    rw [out6_B, kb0, (kept m c _ _).1]
    exact congrArg₂ pack (cd_eq _ hg _ _ _ _ _ _ _ (by dsimp only; rw [hc]) (kb2 m c t _ _)) (cd_eq _ hg _ _ _ _ _ _ _ (by dsimp only; rw [hc]) (kb2 m c t _ _))

/-- The row codes after a point. -/
theorem kout7 (hg : 0 ≤ kG m c) (t : Fin cfg0.N) (n : Fin 7168) (b : Fin 128) : (outsAt0 m c t.val t.isLt).2.2.1 (ix2 n b)
    = pack (cs (kG m c) (kA m c) (kW m c) ⟨256 * t.val + 2 * b.val, by have := klt t; omega⟩ n)
        (cs (kG m c) (kA m c) (kW m c) ⟨256 * t.val + (2 * b.val + 1), by have := klt t; omega⟩ n) := by
  have hc := kcoord t
  by_cases h0 : t.val % 72 = 0
  · rw [outsAt0_A m c t h0]
    dsimp only
    rw [out7_A, kb0, kb3]
    exact congrArg₂ pack (cd_eq _ hg _ _ _ _ _ _ _ (by dsimp only; rw [hc]) (kb2 m c t _ _)) (cd_eq _ hg _ _ _ _ _ _ _ (by dsimp only; rw [hc]) (kb2 m c t _ _))
  · rw [outsAt0_B m c t h0]
    dsimp only
    rw [out7_B, kb0, (kept m c _ _).1]
    exact congrArg₂ pack (cd_eq _ hg _ _ _ _ _ _ _ (by dsimp only; rw [hc]) (kb2 m c t _ _)) (cd_eq _ hg _ _ _ _ _ _ _ (by dsimp only; rw [hc]) (kb2 m c t _ _))

/-- The product after a point. -/
theorem kout5 (hg : 0 ≤ kG m c) (t : Fin cfg0.N) (r : Fin 128) (a : Fin 256) : (outsAt0 m c t.val t.isLt).1 (ix2 r a)
    = ys (kG m c) (kS m c) (kA m c) (kW m c) (kX m c) r ⟨256 * t.val + a.val, by have := klt t; omega⟩ := by
  have hc := kcoord t
  unfold ys
  by_cases h0 : t.val % 72 = 0
  · rw [outsAt0_A m c t h0]
    dsimp only
    rw [out5_A, kb0, kb1, kb3, kb4, blk_sum, ker50]
    refine congrArg (· * _) (Finset.sum_congr rfl fun n _ => congrArg (_ * ·) ?_)
    exact dq_eq _ hg _ _ _ _ _ _ _ (by dsimp only; rw [hc]) (kb2 m c t _ _)
  · rw [outsAt0_B m c t h0]
    dsimp only
    rw [out5_B, kb0, kb1, kb4, (kept m c _ _).1, blk_sum, ker50]
    refine congrArg (· * _) (Finset.sum_congr rfl fun n _ => congrArg (_ * ·) ?_)
    exact dq_eq _ hg _ _ _ _ _ _ _ (by dsimp only; rw [hc]) (kb2 m c t _ _)

/-- The product's array at the end. -/
theorem karr5 (hg : 0 ≤ kG m c) : (dats m 0 c).arrAt 5 cfg0.N = R5 (kG m c) (kS m c) (kA m c) (kW m c) (kX m c) := by
  refine (dats m 0 c).arrAt_eq_of_covers 5 _ (by decide +kernel) fun t hf y => ?_
  obtain ⟨_, _, _, _, _, ⟨e0, e1⟩, _⟩ := kidx t
  blk_simp
  rw [after0_5]
  have hy : y = ix2 (⟨(y 0).val, (y 0).isLt⟩ : Fin 128) (⟨(y 1).val, (y 1).isLt⟩ : Fin 256) := funext fun b => by
    match b with
    | ⟨0, _⟩ => rfl
    | ⟨1, _⟩ => rfl
  refine ((congrArg (outsAt0 m c t.val t.isLt).1 hy).trans (kout5 m c hg t _ _)).trans ?_
  unfold R5
  congr 1
  · exact Fin.ext (by show (y 0).val = win0_5.index t (0 : Fin 2) * 128 + 1 * (y 0).val; omega)
  · exact Fin.ext (by show 256 * t.val + (y 1).val = win0_5.index t (1 : Fin 2) * 256 + 1 * (y 1).val; omega)

/-- The column codes' array at the end. -/
theorem karr6 (hg : 0 ≤ kG m c) : (dats m 0 c).arrAt 6 cfg0.N = R6 (kG m c) (kA m c) (kW m c) := by
  refine (dats m 0 c).arrAt_eq_of_covers 6 _ (by decide +kernel) fun t hf y => ?_
  obtain ⟨_, _, _, _, _, _, ⟨e0, e1⟩, _⟩ := kidx t
  blk_simp
  rw [after0_6]
  have hy : y = ix2 (⟨(y 0).val, (y 0).isLt⟩ : Fin 256) (⟨(y 1).val, (y 1).isLt⟩ : Fin 3584) := funext fun b => by
    match b with
    | ⟨0, _⟩ => rfl
    | ⟨1, _⟩ => rfl
  refine ((congrArg (outsAt0 m c t.val t.isLt).2.1 hy).trans (kout6 m c hg t _ _)).trans ?_
  unfold R6
  congr 2
  · exact Fin.ext (by show 256 * t.val + (y 0).val = win0_6.index t (0 : Fin 2) * 256 + 1 * (y 0).val; omega)
  · exact Fin.ext (by show 2 * (y 1).val = 2 * (win0_6.index t (1 : Fin 2) * 3584 + 1 * (y 1).val); omega)
  · exact Fin.ext (by show 256 * t.val + (y 0).val = win0_6.index t (0 : Fin 2) * 256 + 1 * (y 0).val; omega)
  · exact Fin.ext (by show 2 * (y 1).val + 1 = 2 * (win0_6.index t (1 : Fin 2) * 3584 + 1 * (y 1).val) + 1; omega)

/-- The row codes' array at the end. -/
theorem karr7 (hg : 0 ≤ kG m c) : (dats m 0 c).arrAt 7 cfg0.N = R7 (kG m c) (kA m c) (kW m c) := by
  refine (dats m 0 c).arrAt_eq_of_covers 7 _ (by decide +kernel) fun t hf y => ?_
  obtain ⟨_, _, _, _, _, _, _, ⟨e0, e1⟩⟩ := kidx t
  blk_simp
  rw [after0_7]
  have hy : y = ix2 (⟨(y 0).val, (y 0).isLt⟩ : Fin 7168) (⟨(y 1).val, (y 1).isLt⟩ : Fin 128) := funext fun b => by
    match b with
    | ⟨0, _⟩ => rfl
    | ⟨1, _⟩ => rfl
  refine ((congrArg (outsAt0 m c t.val t.isLt).2.2.1 hy).trans (kout7 m c hg t _ _)).trans ?_
  unfold R7
  congr 2
  · exact Fin.ext (by show 256 * t.val + 2 * (y 1).val = 2 * (win0_7.index t (1 : Fin 2) * 128 + 1 * (y 1).val); omega)
  · exact Fin.ext (by show (y 0).val = win0_7.index t (0 : Fin 2) * 7168 + 1 * (y 0).val; omega)
  · exact Fin.ext (by show 256 * t.val + (2 * (y 1).val + 1) = 2 * (win0_7.index t (1 : Fin 2) * 128 + 1 * (y 1).val) + 1; omega)
  · exact Fin.ext (by show (y 0).val = win0_7.index t (0 : Fin 2) * 7168 + 1 * (y 0).val; omega)

/-- The last grid point. -/
def tLast : Fin cfg0.N := ⟨71, by rw [show cfg0.N = 72 from N_0]; decide⟩

/-- The block scales' array at the end. -/
theorem karr8 : (dats m 0 c).arrAt 8 cfg0.N = R8 (kG m c) (kA m c) := by
  refine (dats m 0 c).arrAt_eq_of_after_last 8 tLast (by decide +kernel) _ fun j => ?_
  blk_simp
  rw [after0_8]
  have hy : j = ix2 (⟨(j 0).val, (j 0).isLt⟩ : Fin 1152) (⟨(j 1).val, (j 1).isLt⟩ : Fin 448) := funext fun b => by
    match b with
    | ⟨0, _⟩ => rfl
    | ⟨1, _⟩ => rfl
  exact (congrFun (kept m c _ tLast.isLt).2.1 j).trans ((congrArg (k0_pay52 (F := Ideal) (kG m c) (kA m c)) hy).trans (ker52 _ _ _ _))

/-- The tensor scale's array at the end. -/
theorem karr9 : (dats m 0 c).arrAt 9 cfg0.N = R9 (kG m c) := by
  refine (dats m 0 c).arrAt_eq_of_after_last 9 tLast (by decide +kernel) _ fun j => ?_
  blk_simp
  rw [after0_9]
  exact (congrFun (kept m c _ tLast.isLt).2.2 j).trans (ker50 _)

end Arr
end Cert.Weight
end
-- ==== Proof.RefPay.lean ====
/- The values the reference's body computes, read at an index. -/
module

public import proofs.«01_k».proof.Proof.Packing
public import proofs.«01_k».proof.Proof.Gen.ReferenceIdeal.Skeleton
public import Idealize.ShloMosaic.Lib.MatmulPlain

@[expose] public section

set_option maxRecDepth 16384

noncomputable section

namespace Cert.Weight
open Idealize.ShloMosaic
open Cert.ReferenceIdeal Cert.ReferenceIdeal.Gen
export Idealize.ShloMosaic.ValueIdx (ix2 ix3 ix4)

theorem lit2688 : (FloatOps.ofBits .f32 0x45280000#32 : Ideal .f32) = ((2688 : ℝ) : EReal) := by
  show Ideal.ofBits .f32 0x45280000#32 = _
  simp [Ideal.ofBits, Ideal.ieee, -EReal.coe_mul]
  try norm_num

theorem lit6 : (FloatOps.ofBits .f32 0x40C00000#32 : Ideal .f32) = ((6 : ℝ) : EReal) := by
  show Ideal.ofBits .f32 0x40C00000#32 = _
  simp [Ideal.ofBits, Ideal.ieee, -EReal.coe_mul]
  try norm_num

theorem litn6 : (FloatOps.ofBits .f32 0xC0C00000#32 : Ideal .f32) = ((-6 : ℝ) : EReal) := by
  show Ideal.ofBits .f32 0xC0C00000#32 = _
  simp [Ideal.ofBits, Ideal.ieee, -EReal.coe_mul]
  try norm_num

theorem lit4 : (FloatOps.ofBits .f32 0x40800000#32 : Ideal .f32) = ((4 : ℝ) : EReal) := by
  show Ideal.ofBits .f32 0x40800000#32 = _
  simp [Ideal.ofBits, Ideal.ieee, -EReal.coe_mul]
  try norm_num

/-- The tensor scale. -/
theorem ref3 (g : EReal) : k0_pay3 (F := Ideal) g = sT g := by
  unfold k0_pay3
  show Ideal.div g (FloatOps.ofBits (F := Ideal) .f32 0x45280000#32) = _
  rw [lit2688, div_2688]

/-- The block scales. -/
theorem ref4 (g : EReal) (A : S1152x512.Idx → EReal) (r : Fin 1152) (q : Fin 448) :
    k0_pay4 (F := Ideal) g A (ix2 r q) = sB g (A (ix2 r (⟨q.val, by omega⟩ : Fin 512))) := by
  unfold k0_pay4
  show min (Ideal.div (extractStridedSlice S1152x448 ![0, 0] A slices_S1152x512_o0_0_S1152x448 (ix2 r q)) (k0_pay3 (F := Ideal) g * FloatOps.ofBits (F := Ideal) .f32 0x40C00000#32))
    (FloatOps.ofBits (F := Ideal) .f32 0x43E00000#32) = _
  rw [ref3, lit6, lit1138753536, sT_six, extractStridedSlice_apply ![0, 0] A _ (ix2 r q) (ix2 r (⟨q.val, by omega⟩ : Fin 512)) (fun b => by
    match b with
    | ⟨0, _⟩ => exact (Nat.zero_add _).symm
    | ⟨1, _⟩ => exact (Nat.zero_add _).symm)]
  rfl

/-- The scaled and clipped weights. -/
theorem ref5 (g : EReal) (A : S1152x512.Idx → EReal) (W : S18432x7168.Idx → EReal) (r : Fin 1152) (a : Fin 16) (q : Fin 448) (b : Fin 16) :
    k0_pay5 (F := Ideal) g A W (ix4 r a q b)
      = clip (quo (W (ix2 (⟨16 * r.val + a.val, by omega⟩ : Fin 18432) (⟨16 * q.val + b.val, by omega⟩ : Fin 7168)))
          (sB g (A (ix2 r (⟨q.val, by omega⟩ : Fin 512))) * sT g)) := by
  have e1 : shapeCast S1152x16x448x16 W shapeCasts_S18432x7168_S1152x16x448x16 (ix4 r a q b)
      = W (ix2 (⟨16 * r.val + a.val, by omega⟩ : Fin 18432) (⟨16 * q.val + b.val, by omega⟩ : Fin 7168)) :=
    shapeCast_apply _ _ _ _ (by
      rw [Shape.rowMajor_val_two, Shape.rowMajor_val_four]
      show (16 * r.val + a.val) * 7168 + (16 * q.val + b.val) = ((r.val * 16 + a.val) * 448 + q.val) * 16 + b.val
      omega)
  have eb : ∀ {α : Type} (x : S1152x1x448x1.Idx → α), broadcastTo S1152x16x448x16 x broadcasts_S1152x1x448x1_S1152x16x448x16 (ix4 r a q b)
      = x (ix4 r (0 : Fin 1) q (0 : Fin 1)) := fun x => broadcastTo_apply _ _ _ _ (fun c => by
    match c with
    | ⟨0, _⟩ => rfl
    | ⟨1, _⟩ => rfl
    | ⟨2, _⟩ => rfl
    | ⟨3, _⟩ => rfl)
  have es : ∀ (x : S1152x448.Idx → EReal), shapeCast S1152x1x448x1 x shapeCasts_S1152x448_S1152x1x448x1 (ix4 r (0 : Fin 1) q (0 : Fin 1)) = x (ix2 r q) :=
    fun x => shapeCast_apply _ _ _ _ (by
      rw [Shape.rowMajor_val_two, Shape.rowMajor_val_four]
      show r.val * 448 + q.val = ((r.val * 1 + 0) * 448 + q.val) * 1 + 0
      omega)
  have ed : shapeCast S1152x1x448x1 (mulf (F := Ideal) (φ := .f32) (extf (F := Ideal) .f32 (k0_pay4 (F := Ideal) g A) bitsLt_fp8e4m3_f32) (broadcast S1152x448 (k0_pay3 (F := Ideal) g)))
      shapeCasts_S1152x448_S1152x1x448x1 (ix4 r (0 : Fin 1) q (0 : Fin 1)) = sB g (A (ix2 r (⟨q.val, by omega⟩ : Fin 512))) * sT g := by
    rw [es]
    show k0_pay4 (F := Ideal) g A (ix2 r q) * k0_pay3 (F := Ideal) g = _
    rw [ref4, ref3]
  unfold k0_pay5
  show min (FloatOps.ofBits (F := Ideal) .f32 0x40C00000#32) (max (FloatOps.ofBits (F := Ideal) .f32 0xC0C00000#32)
    (Scalar.select (broadcastTo S1152x16x448x16 (shapeCast S1152x1x448x1 _ shapeCasts_S1152x1x448x1_S1152x1x448x1) broadcasts_S1152x1x448x1_S1152x16x448x16 (ix4 r a q b))
      (Ideal.div (shapeCast S1152x16x448x16 W shapeCasts_S18432x7168_S1152x16x448x16 (ix4 r a q b)) (broadcastTo S1152x16x448x16 _ broadcasts_S1152x1x448x1_S1152x16x448x16 (ix4 r a q b)))
      (FloatOps.ofBits (F := Ideal) .f32 0#32))) = _
  rw [e1, eb, eb, shapeCast_self]
  show min (FloatOps.ofBits (F := Ideal) .f32 0x40C00000#32) (max (FloatOps.ofBits (F := Ideal) .f32 0xC0C00000#32)
    (Scalar.select (FloatOps.cmpf (F := Ideal) (φ := .f32) .ogt (shapeCast S1152x1x448x1 _ shapeCasts_S1152x448_S1152x1x448x1 (ix4 r (0 : Fin 1) q (0 : Fin 1))) (FloatOps.ofBits (F := Ideal) .f32 0#32))
      (Ideal.div _ (Scalar.select (FloatOps.cmpf (F := Ideal) (φ := .f32) .ogt (shapeCast S1152x1x448x1 _ shapeCasts_S1152x448_S1152x1x448x1 (ix4 r (0 : Fin 1) q (0 : Fin 1))) (FloatOps.ofBits (F := Ideal) .f32 0#32))
         (shapeCast S1152x1x448x1 _ shapeCasts_S1152x448_S1152x1x448x1 (ix4 r (0 : Fin 1) q (0 : Fin 1))) (FloatOps.ofBits (F := Ideal) .f32 0x3F800000#32)))
      (FloatOps.ofBits (F := Ideal) .f32 0#32))) = _
  rw [ed, sel_gt, sel_gt, lit0, lit6, litn6, lit1065353216]
  rfl

/-- The rounded magnitudes. -/
theorem ref9 (g : EReal) (A : S1152x512.Idx → EReal) (W : S18432x7168.Idx → EReal) (y : S1152x16x448x16.Idx) (v : EReal) (hv : k0_pay5 (F := Ideal) g A W y = v) :
    k0_pay9 (F := Ideal) (k0_pay6 (F := Ideal) g A W) (k0_pay7 (F := Ideal) g A W) (k0_pay8 (F := Ideal) g A W) (Scalar.ofBits .f32 0x40800000#32) y
      = refQ (max v (-v)) := by
  subst hv
  unfold k0_pay9 k0_pay8 k0_pay7 k0_pay6 refQ
  show Scalar.select (FloatOps.cmpf (F := Ideal) (φ := .f32) .olt _ (FloatOps.ofBits (F := Ideal) .f32 0x40000000#32))
    (Ideal.div (Ideal.liftRound Ideal.roundHalfEven ((FloatOps.ofBits (F := Ideal) .f32 0x40000000#32 : EReal) * _)) (FloatOps.ofBits (F := Ideal) .f32 0x40000000#32))
    (Scalar.select (FloatOps.cmpf (F := Ideal) (φ := .f32) .olt _ (FloatOps.ofBits (F := Ideal) .f32 0x40800000#32)) (Ideal.liftRound Ideal.roundHalfEven _)
      ((FloatOps.ofBits (F := Ideal) .f32 0x40000000#32 : EReal) * Ideal.liftRound Ideal.roundHalfEven (Ideal.div _ (FloatOps.ofBits (F := Ideal) .f32 0x40000000#32)))) = _
  rw [sel_lt, sel_lt, lit1073741824, lit4]
  rfl

/-- The codes. -/
theorem ref10 (g : EReal) (A : S1152x512.Idx → EReal) (W : S18432x7168.Idx → EReal) (m : Fin 18432) (n : Fin 7168) :
    k0_pay10 (F := Ideal) (k0_pay5 (F := Ideal) g A W) (k0_pay6 (F := Ideal) g A W) (k0_pay7 (F := Ideal) g A W) (k0_pay8 (F := Ideal) g A W) (Scalar.ofBits .f32 0x40800000#32) (ix2 m n)
      = code (quo (W (ix2 m n)) (sB g (A (ix2 (⟨m.val / 16, by omega⟩ : Fin 1152) (⟨n.val / 16, by omega⟩ : Fin 512))) * sT g)) := by
  have h5 := ref5 g A W ⟨m.val / 16, by omega⟩ ⟨m.val % 16, by omega⟩ ⟨n.val / 16, by omega⟩ ⟨n.val % 16, by omega⟩
  have hm : (⟨16 * (m.val / 16) + m.val % 16, by omega⟩ : Fin 18432) = m := Fin.ext (by show 16 * (m.val / 16) + m.val % 16 = m.val; omega)
  have hn : (⟨16 * (n.val / 16) + n.val % 16, by omega⟩ : Fin 7168) = n := Fin.ext (by show 16 * (n.val / 16) + n.val % 16 = n.val; omega)
  dsimp only at h5
  rw [hm, hn] at h5
  have h9 := ref9 g A W _ _ h5
  rw [← refCode_eq]
  unfold k0_pay10
  rw [shapeCast_apply _ _ (ix2 m n) (ix4 (⟨m.val / 16, by omega⟩ : Fin 1152) (⟨m.val % 16, by omega⟩ : Fin 16) (⟨n.val / 16, by omega⟩ : Fin 448) (⟨n.val % 16, by omega⟩ : Fin 16)) (by
    rw [Shape.rowMajor_val_two, Shape.rowMajor_val_four]
    show (((m.val / 16) * 16 + m.val % 16) * 448 + n.val / 16) * 16 + n.val % 16 = m.val * 7168 + n.val
    omega)]
  show (Scalar.select (FloatOps.cmpf (F := Ideal) (φ := .f32) .olt (k0_pay5 (F := Ideal) g A W _) (FloatOps.ofBits (F := Ideal) .f32 0#32)) 8#32 0#32) |||
    Ideal.fptosi 32 (Scalar.select (FloatOps.cmpf (F := Ideal) (φ := .f32) .olt (k0_pay9 (F := Ideal) _ _ _ _ _) (FloatOps.ofBits (F := Ideal) .f32 0x40000000#32))
      ((FloatOps.ofBits (F := Ideal) .f32 0x40000000#32 : EReal) * (k0_pay9 (F := Ideal) _ _ _ _ _))
      (Scalar.select (FloatOps.cmpf (F := Ideal) (φ := .f32) .olt (k0_pay9 (F := Ideal) _ _ _ _ _) (FloatOps.ofBits (F := Ideal) .f32 0x40800000#32))
        ((k0_pay9 (F := Ideal) _ _ _ _ _ : EReal) + (FloatOps.ofBits (F := Ideal) .f32 0x40000000#32 : EReal))
        (Ideal.div (k0_pay9 (F := Ideal) _ _ _ _ _) (FloatOps.ofBits (F := Ideal) .f32 0x40000000#32) + (FloatOps.ofBits (F := Ideal) .f32 0x40800000#32 : EReal)))) = _
  rw [h9, h5, sel_lt, sel_lt, sel_lt, lit1073741824, lit4, lit0]
  rfl

/-- The codes packed along the columns. -/
theorem ref11 (g : EReal) (A : S1152x512.Idx → EReal) (W : S18432x7168.Idx → EReal) (C : Fin 18432 → Fin 7168 → BitVec 32)
    (p1 p2 : S1152x16x448x16.Idx → EReal) (p3 : S1152x16x448x16.Idx → BitVec 1) (p4 : S1152x16x448x16.Idx → EReal) (p5 : EReal)
    (hC : ∀ m n, k0_pay10 (F := Ideal) p1 p2 p3 p4 p5 (ix2 m n) = C m n) (m : Fin 18432) (j : Fin 3584) :
    k0_pay11 (F := Ideal) p1 p2 p3 p4 p5 (ix2 m j) = pack (C m ⟨2 * j.val, by omega⟩) (C m ⟨2 * j.val + 1, by omega⟩) := by
  have e : ∀ (k : Fin 2) (X : S18432x7168.Idx → BitVec 32) (hs : S18432x3584x2.Slices ![0, 0, k.val] S18432x3584x1),
      shapeCast S18432x3584 (extractStridedSlice S18432x3584x1 ![0, 0, k.val] (shapeCast S18432x3584x2 X shapeCasts_S18432x7168_S18432x3584x2) hs) shapeCasts_S18432x3584x1_S18432x3584 (ix2 m j)
        = X (ix2 m (⟨2 * j.val + k.val, by omega⟩ : Fin 7168)) := fun k X hs => by
    refine (shapeCast_apply _ _ _ (ix3 m j (0 : Fin 1)) (by
      rw [Shape.rowMajor_val_two, Shape.rowMajor_val_three]
      show (m.val * 3584 + j.val) * 1 + 0 = m.val * 3584 + j.val
      omega)).trans ?_
    refine (extractStridedSlice_apply _ _ _ _ (ix3 m j k) (fun b => by
      match b with
      | ⟨0, _⟩ => exact (Nat.zero_add _).symm
      | ⟨1, _⟩ => exact (Nat.zero_add _).symm
      | ⟨2, _⟩ => rfl)).trans ?_
    exact shapeCast_apply _ _ _ _ (by
      rw [Shape.rowMajor_val_two, Shape.rowMajor_val_three]
      show m.val * 7168 + (2 * j.val + k.val) = (m.val * 3584 + j.val) * 2 + k.val
      omega)
  have e0 := e 0 (k0_pay10 (F := Ideal) p1 p2 p3 p4 p5) slices_S18432x3584x2_o0_0_0_S18432x3584x1
  have e1 := e 1 (k0_pay10 (F := Ideal) p1 p2 p3 p4 p5) slices_S18432x3584x2_o0_0_1_S18432x3584x1
  rw [hC] at e0 e1
  unfold k0_pay11
  refine (congrArg₂ (fun a b : BitVec 32 => (a ||| b <<< 4).setWidth 8) e0 e1).trans ?_
  rfl

/-- The codes packed along the rows. -/
theorem ref1 (C : Fin 18432 → Fin 7168 → BitVec 32)
    (p1 p2 : S1152x16x448x16.Idx → EReal) (p3 : S1152x16x448x16.Idx → BitVec 1) (p4 : S1152x16x448x16.Idx → EReal) (p5 : EReal)
    (hC : ∀ m n, k0_pay10 (F := Ideal) p1 p2 p3 p4 p5 (ix2 m n) = C m n) (n : Fin 7168) (b : Fin 9216) :
    k0_pay1 (k0_pay12 (F := Ideal) p1 p2 p3 p4 p5) (k0_pay13 (F := Ideal) p1 p2 p3 p4 p5) (ix2 n b)
      = pack (C ⟨2 * b.val, by omega⟩ n) (C ⟨2 * b.val + 1, by omega⟩ n) := by
  have e : ∀ (k : Fin 2) (X : S18432x7168.Idx → BitVec 32) (hs : S9216x2x7168.Slices ![0, k.val, 0] S9216x1x7168),
      shapeCast S9216x7168 (extractStridedSlice S9216x1x7168 ![0, k.val, 0] (shapeCast S9216x2x7168 X shapeCasts_S18432x7168_S9216x2x7168) hs) shapeCasts_S9216x1x7168_S9216x7168 (ix2 b n)
        = X (ix2 (⟨2 * b.val + k.val, by omega⟩ : Fin 18432) n) := fun k X hs => by
    refine (shapeCast_apply _ _ _ (ix3 b (0 : Fin 1) n) (by
      rw [Shape.rowMajor_val_two, Shape.rowMajor_val_three]
      show (b.val * 1 + 0) * 7168 + n.val = b.val * 7168 + n.val
      omega)).trans ?_
    refine (extractStridedSlice_apply _ _ _ _ (ix3 b k n) (fun b => by
      match b with
      | ⟨0, _⟩ => exact (Nat.zero_add _).symm
      | ⟨1, _⟩ => rfl
      | ⟨2, _⟩ => exact (Nat.zero_add _).symm)).trans ?_
    exact shapeCast_apply _ _ _ _ (by
      rw [Shape.rowMajor_val_two, Shape.rowMajor_val_three]
      show (2 * b.val + k.val) * 7168 + n.val = (b.val * 2 + k.val) * 7168 + n.val
      omega)
  have e0 := e 0 (k0_pay10 (F := Ideal) p1 p2 p3 p4 p5) slices_S9216x2x7168_o0_0_0_S9216x1x7168
  have e1 := e 1 (k0_pay10 (F := Ideal) p1 p2 p3 p4 p5) slices_S9216x2x7168_o0_1_0_S9216x1x7168
  rw [hC] at e0 e1
  unfold k0_pay1 k0_pay13 k0_pay12
  show BitVec.setWidth 8 (transpose S7168x9216 [1, 0] _ transposes_S9216x7168_p1_0_S7168x9216 (ix2 n b)) = _
  rw [transpose_apply _ _ transposes_S9216x7168_p1_0_S7168x9216 (ix2 n b) (ix2 b n) (fun c => by
    match c with
    | ⟨0, _⟩ => rfl
    | ⟨1, _⟩ => rfl)]
  refine (congrArg₂ (fun a b : BitVec 32 => (a ||| b <<< 4).setWidth 8) e0 e1).trans ?_
  rfl

/-- The reference's product of two arrays over their columns, read at an index. -/
theorem refDot (X : S128x7168.Idx → EReal) (D : S18432x7168.Idx → EReal) (r : Fin 128) (m : Fin 18432) :
    matmul (F := Ideal) (φ₁ := .bf16) (φ₂ := .bf16) dot_S128x7168_S18432x7168_S128x18432_1_1_0_0_n_n none X D (constant S128x18432 .f32 0x00000000#32) (ix2 r m)
      = ∑ n : Fin 7168, X (ix2 r n) * D (ix2 m n) := by
  refine (Ideal.matmul_transposedRhs_apply (M := 128) (K := 7168) (N := 18432) (φ₁ := .bf16) (φ₂ := .bf16) none X D (constant S128x18432 .f32 0x00000000#32) r m).trans ?_
  refine (congrArg (· + _) lit0).trans ?_
  rw [zero_add]

/-- The dequantised weights, read at an index. -/
theorem refDeq (g : EReal) (B : S1152x448.Idx → EReal) (P Q : S1152x16x448x16.Idx → EReal) (m : Fin 18432) (n : Fin 7168) (v w : EReal) (b : EReal)
    (hP : P (ix4 (⟨m.val / 16, by omega⟩ : Fin 1152) (⟨m.val % 16, by omega⟩ : Fin 16) (⟨n.val / 16, by omega⟩ : Fin 448) (⟨n.val % 16, by omega⟩ : Fin 16)) = v)
    (hQ : Q (ix4 (⟨m.val / 16, by omega⟩ : Fin 1152) (⟨m.val % 16, by omega⟩ : Fin 16) (⟨n.val / 16, by omega⟩ : Fin 448) (⟨n.val % 16, by omega⟩ : Fin 16)) = w)
    (hB : B (ix2 (⟨m.val / 16, by omega⟩ : Fin 1152) (⟨n.val / 16, by omega⟩ : Fin 448)) = b) :
    shapeCast S18432x7168 (mulf (F := Ideal) (φ := .bf16)
        (truncf (F := Ideal) .bf16 (select (cmpf (F := Ideal) (φ := .f32) .olt P (broadcast S1152x16x448x16 (Scalar.ofBits .f32 0x00000000#32)))
          (subf (F := Ideal) (φ := .f32) (broadcast S1152x16x448x16 (Scalar.ofBits .f32 0x00000000#32)) Q) Q) bitsLt_bf16_f32)
        (broadcastTo S1152x16x448x16 (shapeCast S1152x1x448x1 (extf (F := Ideal) (φ := .fp8e4m3) .bf16 B bitsLt_fp8e4m3_bf16) shapeCasts_S1152x448_S1152x1x448x1) broadcasts_S1152x1x448x1_S1152x16x448x16))
      shapeCasts_S1152x16x448x16_S18432x7168 (ix2 m n) = (if v < 0 then 0 - w else w) * b := by
  subst hP; subst hQ; subst hB
  rw [shapeCast_apply _ _ (ix2 m n) (ix4 (⟨m.val / 16, by omega⟩ : Fin 1152) (⟨m.val % 16, by omega⟩ : Fin 16) (⟨n.val / 16, by omega⟩ : Fin 448) (⟨n.val % 16, by omega⟩ : Fin 16)) (by
    rw [Shape.rowMajor_val_two, Shape.rowMajor_val_four]
    show (((m.val / 16) * 16 + m.val % 16) * 448 + n.val / 16) * 16 + n.val % 16 = m.val * 7168 + n.val
    omega)]
  show (Scalar.select (FloatOps.cmpf (F := Ideal) (φ := .f32) .olt _ (FloatOps.ofBits (F := Ideal) .f32 0#32)) ((FloatOps.ofBits (F := Ideal) .f32 0#32 : EReal) - _) _ : EReal) *
    (broadcastTo S1152x16x448x16 _ broadcasts_S1152x1x448x1_S1152x16x448x16 _) = _
  rw [sel_lt, lit0]
  refine congrArg₂ (· * ·) rfl ?_
  refine (broadcastTo_apply _ _ _ (ix4 (⟨m.val / 16, by omega⟩ : Fin 1152) (0 : Fin 1) (⟨n.val / 16, by omega⟩ : Fin 448) (0 : Fin 1)) (fun c => by
    match c with
    | ⟨0, _⟩ => rfl
    | ⟨1, _⟩ => rfl
    | ⟨2, _⟩ => rfl
    | ⟨3, _⟩ => rfl)).trans ?_
  exact shapeCast_apply _ _ _ _ (by
      rw [Shape.rowMajor_val_two, Shape.rowMajor_val_four]
      show (m.val / 16) * 448 + n.val / 16 = ((m.val / 16 * 1 + 0) * 448 + n.val / 16) * 1 + 0
      omega)

/-- The product. -/
theorem ref2 (g s : EReal) (A : S1152x512.Idx → EReal) (W : S18432x7168.Idx → EReal) (X : S128x7168.Idx → EReal) (r : Fin 128) (m : Fin 18432) :
    k0_pay2 (F := Ideal) (k0_pay3 (F := Ideal) g) (k0_pay4 (F := Ideal) g A) (k0_pay5 (F := Ideal) g A W)
        (k0_pay9 (F := Ideal) (k0_pay6 (F := Ideal) g A W) (k0_pay7 (F := Ideal) g A W) (k0_pay8 (F := Ideal) g A W) (Scalar.ofBits .f32 0x40800000#32)) X s (ix2 r m)
      = (∑ n : Fin 7168, X (ix2 r n) *
          (val (code (quo (W (ix2 m n)) (sB g (A (ix2 (⟨m.val / 16, by omega⟩ : Fin 1152) (⟨n.val / 16, by omega⟩ : Fin 512))) * sT g)))
            * sB g (A (ix2 (⟨m.val / 16, by omega⟩ : Fin 1152) (⟨n.val / 16, by omega⟩ : Fin 512))))) * (sT g * s) := by
  unfold k0_pay2
  show (matmul (F := Ideal) dot_S128x7168_S18432x7168_S128x18432_1_1_0_0_n_n none X _ _ (ix2 r m) : EReal) * (k0_pay3 (F := Ideal) g * s) = _
  rw [ref3]
  refine congrArg (· * (sT g * s)) ?_
  rw [refDot]
  refine Finset.sum_congr rfl fun n _ => congrArg (X (ix2 r n) * ·) ?_
  have h5 := ref5 g A W ⟨m.val / 16, by omega⟩ ⟨m.val % 16, by omega⟩ ⟨n.val / 16, by omega⟩ ⟨n.val % 16, by omega⟩
  have hm : (⟨16 * (m.val / 16) + m.val % 16, by omega⟩ : Fin 18432) = m := Fin.ext (by show 16 * (m.val / 16) + m.val % 16 = m.val; omega)
  have hn : (⟨16 * (n.val / 16) + n.val % 16, by omega⟩ : Fin 7168) = n := Fin.ext (by show 16 * (n.val / 16) + n.val % 16 = n.val; omega)
  dsimp only at h5
  rw [hm, hn] at h5
  rw [← refVal_eq]
  exact refDeq g _ _ _ m n _ _ _ h5 (ref9 g A W _ _ h5) (ref4 g A ⟨m.val / 16, by omega⟩ ⟨n.val / 16, by omega⟩)

end Cert.Weight
end
-- ==== Proof.RefArr.lean ====
/- What the reference's result arrays hold at the end of its run. -/
module

public import proofs.«01_k».proof.Proof.Spec
public import proofs.«01_k».proof.Proof.RefPay
public import proofs.«01_k».proof.Proof.Gen.ReferenceIdeal.Value
public import Idealize.ShloMosaic.Lib.Pipeline.ValueKit
public import Idealize.ShloMosaic.Lib.Pipeline.ReadBack

@[expose] public section

set_option maxRecDepth 16384

noncomputable section

namespace Cert.Weight
open Idealize.ShloMosaic Idealize.ShloMosaic.TcCoe Idealize.SL.Sem
open Cert.ReferenceIdeal Cert.ReferenceIdeal.Gen
open Idealize.ShloMosaic.Pipeline (Dat)

section RArr
variable (m : (ℓ : Loc nD τ sig) → Buf (Elt Ideal) ℓ) (c : Dev nD)

/-- The largest magnitude of the weights, the reference's first argument. -/
def rG : EReal := (m ((c : Thread nD τ).loc main_arg0) : S1x1.Idx → EReal) (ix2 (0 : Fin 1) (0 : Fin 1))
/-- The scale of the activations, the second argument. -/
def rS : EReal := (m ((c : Thread nD τ).loc main_arg1) : S1x1.Idx → EReal) (ix2 (0 : Fin 1) (0 : Fin 1))
/-- The weights, the third argument. -/
def rW : S18432x7168.Idx → EReal := m ((c : Thread nD τ).loc main_arg2)
/-- The blocks' largest magnitudes, the fourth argument. -/
def rA : S1152x512.Idx → EReal := m ((c : Thread nD τ).loc main_arg3)
/-- The activations, the fifth argument. -/
def rX : S128x7168.Idx → EReal := m ((c : Thread nD τ).loc main_arg4)

/-- The one index of a scalar array. -/
theorem rone (y : S1x1.Idx) : y = ix2 (0 : Fin 1) (0 : Fin 1) := funext fun a => by
  match a with
  | ⟨0, _⟩ => exact Subsingleton.elim (α := Fin 1) _ _
  | ⟨1, _⟩ => exact Subsingleton.elim (α := Fin 1) _ _

theorem rb0 (t : Fin cfg0.N) : (iblk m c 0 t : S1x1.Idx → EReal) = fun _ => rG m c := by
  funext y
  show V m c main_arg0 (((cfg0.win 0).blk t).view.emb _) = _
  exact congrArg (m ((c : Thread nD τ).loc main_arg0) : S1x1.Idx → EReal) ((rone _).trans rfl)

theorem rb1 (t : Fin cfg0.N) : (iblk m c 1 t : S1x1.Idx → EReal) = fun _ => rS m c := by
  funext y
  show V m c main_arg1 (((cfg0.win 1).blk t).view.emb _) = _
  exact congrArg (m ((c : Thread nD τ).loc main_arg1) : S1x1.Idx → EReal) ((rone _).trans rfl)

/-- The blocks of the one point stand at the arrays' start. -/
theorem ridx : ∀ t : Fin cfg0.N, (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem rb2 (t : Fin cfg0.N) : (iblk m c 2 t : S18432x7168.Idx → EReal) = rW m c := by
  obtain ⟨⟨e0, e1⟩, _⟩ := ridx t
  funext y
  show V m c main_arg2 (((cfg0.win 2).blk t).view.emb y) = _
  refine congrArg (m ((c : Thread nD τ).loc main_arg2) : S18432x7168.Idx → EReal) (funext fun b => Fin.ext ?_)
  match b with
  | ⟨0, _⟩ => show win0_2.index t (0 : Fin 2) * 18432 + 1 * (y 0).val = (y 0).val; omega
  | ⟨1, _⟩ => show win0_2.index t (1 : Fin 2) * 7168 + 1 * (y 1).val = (y 1).val; omega

theorem rb3 (t : Fin cfg0.N) : (iblk m c 3 t : S1152x512.Idx → EReal) = rA m c := by
  obtain ⟨_, ⟨e0, e1⟩, _⟩ := ridx t
  funext y
  show V m c main_arg3 (((cfg0.win 3).blk t).view.emb y) = _
  refine congrArg (m ((c : Thread nD τ).loc main_arg3) : S1152x512.Idx → EReal) (funext fun b => Fin.ext ?_)
  match b with
  | ⟨0, _⟩ => show win0_3.index t (0 : Fin 2) * 1152 + 1 * (y 0).val = (y 0).val; omega
  | ⟨1, _⟩ => show win0_3.index t (1 : Fin 2) * 512 + 1 * (y 1).val = (y 1).val; omega

theorem rb4 (t : Fin cfg0.N) : (iblk m c 4 t : S128x7168.Idx → EReal) = rX m c := by
  obtain ⟨_, _, ⟨e0, e1⟩⟩ := ridx t
  funext y
  show V m c main_arg4 (((cfg0.win 4).blk t).view.emb y) = _
  refine congrArg (m ((c : Thread nD τ).loc main_arg4) : S128x7168.Idx → EReal) (funext fun b => Fin.ext ?_)
  match b with
  | ⟨0, _⟩ => show win0_4.index t (0 : Fin 2) * 128 + 1 * (y 0).val = (y 0).val; omega
  | ⟨1, _⟩ => show win0_4.index t (1 : Fin 2) * 7168 + 1 * (y 1).val = (y 1).val; omega

/-- The tensor scale's array at the end. -/
theorem rarr9 : (dats m 0 c).arrAt 9 cfg0.N = R9 (rG m c) := by
  refine (dats m 0 c).arrAt_eq_of_after_last 9 t0_0 (by decide +kernel) _ fun j => ?_
  blk_simp
  rw [after0_9]
  unfold outsAt0
  dsimp only
  rw [rb0, rb1, rb2, rb3, rb4]
  frame_out
  simp only [read_unread_whole]
  exact ref3 _

/-- The block scales' array at the end. -/
theorem rarr8 : (dats m 0 c).arrAt 8 cfg0.N = R8 (rG m c) (rA m c) := by
  refine (dats m 0 c).arrAt_eq_of_after_last 8 t0_0 (by decide +kernel) _ fun j => ?_
  blk_simp
  rw [after0_8]
  unfold outsAt0
  dsimp only
  rw [rb0, rb1, rb2, rb3, rb4]
  frame_out
  simp only [read_unread_whole]
  have hy : j = ix2 (⟨(j 0).val, (j 0).isLt⟩ : Fin 1152) (⟨(j 1).val, (j 1).isLt⟩ : Fin 448) := funext fun b => by
    match b with
    | ⟨0, _⟩ => rfl
    | ⟨1, _⟩ => rfl
  exact (congrArg (k0_pay4 (F := Ideal) (rG m c) (rA m c)) hy).trans (ref4 _ _ _ _)

/-- The row codes' array at the end. -/
theorem rarr7 : (dats m 0 c).arrAt 7 cfg0.N = R7 (rG m c) (rA m c) (rW m c) := by
  refine (dats m 0 c).arrAt_eq_of_after_last 7 t0_0 (by decide +kernel) _ fun j => ?_
  blk_simp
  rw [after0_7]
  unfold outsAt0
  dsimp only
  rw [rb0, rb1, rb2, rb3, rb4]
  frame_out
  simp only [read_unread_whole]
  have hy : j = ix2 (⟨(j 0).val, (j 0).isLt⟩ : Fin 7168) (⟨(j 1).val, (j 1).isLt⟩ : Fin 9216) := funext fun b => by
    match b with
    | ⟨0, _⟩ => rfl
    | ⟨1, _⟩ => rfl
  refine (congrArg _ hy).trans ((ref1 (cs (rG m c) (rA m c) (rW m c)) _ _ _ _ _ (fun a b => ref10 _ _ _ a b) _ _).trans ?_)
  rfl

/-- The column codes' array at the end. -/
theorem rarr6 : (dats m 0 c).arrAt 6 cfg0.N = R6 (rG m c) (rA m c) (rW m c) := by
  refine (dats m 0 c).arrAt_eq_of_after_last 6 t0_0 (by decide +kernel) _ fun j => ?_
  blk_simp
  rw [after0_6]
  unfold outsAt0
  dsimp only
  rw [rb0, rb1, rb2, rb3, rb4]
  frame_out
  simp only [read_unread_whole]
  have hy : j = ix2 (⟨(j 0).val, (j 0).isLt⟩ : Fin 18432) (⟨(j 1).val, (j 1).isLt⟩ : Fin 3584) := funext fun b => by
    match b with
    | ⟨0, _⟩ => rfl
    | ⟨1, _⟩ => rfl
  refine (congrArg _ hy).trans ((ref11 (rG m c) (rA m c) (rW m c) (cs (rG m c) (rA m c) (rW m c)) _ _ _ _ _ (fun a b => ref10 _ _ _ a b) _ _).trans ?_)
  rfl

/-- The product's array at the end. -/
theorem rarr5 : (dats m 0 c).arrAt 5 cfg0.N = R5 (rG m c) (rS m c) (rA m c) (rW m c) (rX m c) := by
  refine (dats m 0 c).arrAt_eq_of_after_last 5 t0_0 (by decide +kernel) _ fun j => ?_
  blk_simp
  rw [after0_5]
  unfold outsAt0
  dsimp only
  rw [rb0, rb1, rb2, rb3, rb4]
  frame_out
  simp only [read_unread_whole]
  have hy : j = ix2 (⟨(j 0).val, (j 0).isLt⟩ : Fin 128) (⟨(j 1).val, (j 1).isLt⟩ : Fin 18432) := funext fun b => by
    match b with
    | ⟨0, _⟩ => rfl
    | ⟨1, _⟩ => rfl
  refine (congrArg _ hy).trans ((ref2 _ _ _ _ _ _ _).trans ?_)
  rfl

end RArr
end Cert.Weight
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Printed.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ideal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_pre
public import proofs.«01_k».proof.Proof.KerArr
public import proofs.«01_k».proof.Proof.RefArr
public import Idealize.ShloMosaic.Adequacy
public import Idealize.ShloMosaic.Init

@[expose] public section

noncomputable section

namespace Cert.Proof

open Idealize.ShloMosaic Idealize.SL.Sem Cert.Kernel

/-- Every run of the kernel as printed leaves its arguments and its semaphores as it found them. -/
theorem frame_kernel : Cert.quiescent_Kernel := fun m ρ _ => Cert.Kernel.Gen.frame m ρ

/-- The same of the idealized kernel. -/
theorem frame_kernel_ideal : Cert.quiescent_KernelIdeal := fun m ρ _ => Cert.KernelIdeal.Gen.frame m ρ

/-- The same of the idealized reference. -/
theorem frame_reference_ideal : Cert.quiescent_ReferenceIdeal := fun m ρ _ => Cert.ReferenceIdeal.Gen.frame m ρ

/-- The same of the idealized kernel on the arguments the value claim ranges over. -/
theorem frame_kernel_ideal_pre : Cert.quiescent_KernelIdeal_pre_pre := fun m ρ _ => Cert.KernelIdeal.Gen.frame m ρ

/-- The same of the idealized reference on those arguments. -/
theorem frame_reference_ideal_pre : Cert.quiescent_ReferenceIdeal_pre_pre := fun m ρ _ => Cert.ReferenceIdeal.Gen.frame m ρ

/-- The two constants the idealized kernel names are those of the printed kernel, up to rounding. -/
theorem preserves : Cert.preserves_Kernel_KernelIdeal :=
  ⟨IdealRules.named_const.statement Cert.KernelIdeal.κ "inv_tensor_div" .f32 0x39C30C31#32 _ rfl,
   IdealRules.named_const.statement Cert.KernelIdeal.κ "inv_block_div" .f32 0x3B124925#32 _ rfl⟩

/-- The precondition says that the weights' largest magnitude is not below zero. -/
theorem gmax_nonneg (m : (ℓ : Loc Cert.KernelIdeal.nD Cert.KernelIdeal.τ Cert.KernelIdeal.sig) → Buf (Elt Ideal) ℓ) (h : Cert.Pre_KernelIdeal_pre m)
    (c : Dev Cert.KernelIdeal.nD) : 0 ≤ Cert.Weight.kG m c := by
  have h1 := congrFun (h c) (ValueIdx.ix2 (0 : Fin 1) (0 : Fin 1))
  have h2 : Ideal.cmp .oge (Cert.Weight.kG m c) (FloatOps.ofBits (F := Ideal) .f32 0x00000000#32) = 1#1 := h1
  rw [Cert.Weight.lit0] at h2
  unfold Ideal.cmp at h2
  by_contra hn
  simp [hn] at h2

/-- The idealized kernel and the idealized reference leave the same five arrays. -/
theorem algebraic : Cert.algebraic_KernelIdeal_ReferenceIdeal_pre_pre := by
  intro m g m' g' hpre harg
  have e0 : ∀ c, Cert.Weight.rG m' c = Cert.Weight.kG m c := fun c => congrFun (harg c).1 _
  have e1 : ∀ c, Cert.Weight.rS m' c = Cert.Weight.kS m c := fun c => congrFun (harg c).2.1 _
  have e2 : ∀ c, Cert.Weight.rW m' c = Cert.Weight.kW m c := fun c => (harg c).2.2.1
  have e3 : ∀ c, Cert.Weight.rA m' c = Cert.Weight.kA m c := fun c => (harg c).2.2.2.1
  have e4 : ∀ c, Cert.Weight.rX m' c = Cert.Weight.kX m c := fun c => (harg c).2.2.2.2
  refine ⟨fun c => Cert.Weight.R5 (Cert.Weight.kG m c) (Cert.Weight.kS m c) (Cert.Weight.kA m c) (Cert.Weight.kW m c) (Cert.Weight.kX m c),
    fun c => Cert.Weight.R6 (Cert.Weight.kG m c) (Cert.Weight.kA m c) (Cert.Weight.kW m c),
    fun c => Cert.Weight.R7 (Cert.Weight.kG m c) (Cert.Weight.kA m c) (Cert.Weight.kW m c),
    fun c => Cert.Weight.R8 (Cert.Weight.kG m c) (Cert.Weight.kA m c), fun c => Cert.Weight.R9 (Cert.Weight.kG m c), ?_, ?_⟩
  · refine (θ_run _ _ _).mono (fun r h c => ?_) (Cert.KernelIdeal.Value.run_blocks m g)
    have hg := gmax_nonneg m hpre c
    obtain ⟨h5, h6, h7, h8, h9, hk⟩ := h c
    exact ⟨h5.trans (Cert.Weight.karr5 m c hg), h6.trans (Cert.Weight.karr6 m c hg), h7.trans (Cert.Weight.karr7 m c hg),
      h8.trans (Cert.Weight.karr8 m c), h9.trans (Cert.Weight.karr9 m c), hk⟩
  · refine (θ_run _ _ _).mono (fun r h c => ?_) (Cert.ReferenceIdeal.Value.run_blocks m' g')
    obtain ⟨h5, h6, h7, h8, h9, hk⟩ := h c
    have k5 := Cert.Weight.rarr5 m' c
    have k6 := Cert.Weight.rarr6 m' c
    have k7 := Cert.Weight.rarr7 m' c
    have k8 := Cert.Weight.rarr8 m' c
    have k9 := Cert.Weight.rarr9 m' c
    rw [e0 c, e1 c, e2 c, e3 c, e4 c] at k5
    rw [e0 c, e2 c, e3 c] at k6 k7
    rw [e0 c, e3 c] at k8
    rw [e0 c] at k9
    exact ⟨h5.trans k5, h6.trans k6, h7.trans k7, h8.trans k8, h9.trans k9, hk⟩

theorem claim : Cert.Claim := ⟨Cert.Kernel.Gen.facts, Cert.KernelIdeal.Gen.facts, Cert.ReferenceIdeal.Gen.facts, Cert.Pre_pre.Gen.facts,
  frame_kernel, frame_kernel_ideal, frame_kernel_ideal_pre, frame_reference_ideal, frame_reference_ideal_pre, preserves, algebraic⟩

end Cert.Proof

end
